-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_p [hPre_finite_p : Cert.Pre_finite_p.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_p.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_p [hPre_finite_p : Cert.Pre_finite_p.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_p.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite_p [hKernel4Ideal : Cert.Kernel4Ideal.Facts] [hPre_finite_p : Cert.Pre_finite_p.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_p m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite_p [hReference4Ideal : Cert.Reference4Ideal.Facts] [hPre_finite_p : Cert.Pre_finite_p.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_p m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "underflow" .f32 0xC2C80000#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_p [hKernel4Ideal : Cert.Kernel4Ideal.Facts] [hReference4Ideal : Cert.Reference4Ideal.Facts] [hPre_finite_p : Cert.Pre_finite_p.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_p m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v30)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v353) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts) (hPre_finite_p : Cert.Pre_finite_p.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_p (hKernel4Ideal := hKernel4Ideal) (hPre_finite_p := hPre_finite_p)
    ∧ quiescent_Reference4Ideal (hReference4Ideal := hReference4Ideal)
    ∧ quiescent_Reference4Ideal_pre_finite_p (hReference4Ideal := hReference4Ideal) (hPre_finite_p := hPre_finite_p)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_p (hKernel4Ideal := hKernel4Ideal) (hReference4Ideal := hReference4Ideal) (hPre_finite_p := hPre_finite_p)
    ∧ preserves_Kernel5_Kernel5Ideal
    ∧ algebraic_Kernel5Ideal_Reference5Ideal (hKernel5Ideal := hKernel5Ideal) (hReference5Ideal := hReference5Ideal)
-- ==== Pre_finite_p.lean ====
abbrev S2x8192x2304 : Shape := ⟨3, ![2, 8192, 2304]⟩
abbrev S31x256 : Shape := ⟨2, ![31, 256]⟩
abbrev S256 : Shape := ⟨1, ![256]⟩
abbrev S4x64x64 : Shape := ⟨3, ![4, 64, 64]⟩
abbrev S3x256 : Shape := ⟨2, ![3, 256]⟩
abbrev S2x8192x256 : Shape := ⟨3, ![2, 8192, 256]⟩
abbrev S_ : Shape := ⟨0, ![]⟩

class Facts : Prop where
  slices_S2x8192x2304_S2x8192x256_0_0_512 : S2x8192x2304.Slices ![0, 0, 512] S2x8192x256
  bcast_S_S2x8192x256 : S_.BroadcastsInDim S2x8192x256 (![] : Fin 0 → Fin S2x8192x256.rank)
  reducesTo_S2x8192x256_S_d0_1_2 : S2x8192x256.ReducesTo [0, 1, 2] S_
  h_S_ : 0 < S_.numel

variable [Facts]

def fn {F : FTy → Type} [FloatOps F] (main_arg0 : FVec F S2x8192x2304 .f32) (main_arg1 : FVec F S31x256 .f32) (main_arg2 : FVec F S256 .f32) (main_arg3 : FVec F S256 .f32) (main_arg4 : FVec F S256 .f32) (main_arg5 : FVec F S4x64x64 .f32) (main_arg6 : FVec F S256 .f32) (main_arg7 : FVec F S3x256 .f32) : IVec S_ 1 :=
  let main_v0 : FVec F S2x8192x256 .f32 := (extractStridedSlice S2x8192x256 ![0, 0, 512] · slices_S2x8192x2304_S2x8192x256_0_0_512) main_arg0
  let main_v1 : FVec F S2x8192x256 .f32 := Host.absf main_v0
  let main_cst : FVec F S_ .f32 := constant S_ .f32 0x7F800000#32
  let main_v2 : FVec F S2x8192x256 .f32 := broadcastInDim S2x8192x256 ![] bcast_S_S2x8192x256 main_cst
  let main_v3 : IVec S2x8192x256 1 := cmpf .olt main_v1 main_v2
  let main_c : IVec S_ 1 := constantI S_ 1 1#1
  let main_v4 : IVec S_ 1 := (fun x v => Host.reduce IntOp.andi x v reducesTo_S2x8192x256_S_d0_1_2 h_S_) main_v3 main_c
  main_v4
-- ==== Pre_finite_qk.lean ====
abbrev S2x8192x2304 : Shape := ⟨3, ![2, 8192, 2304]⟩
abbrev S2x8192x512 : Shape := ⟨3, ![2, 8192, 512]⟩
abbrev S_ : Shape := ⟨0, ![]⟩

class Facts : Prop where
  slices_S2x8192x2304_S2x8192x512_0_0_1536 : S2x8192x2304.Slices ![0, 0, 1536] S2x8192x512
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel

variable [Facts]

def fn {F : FTy → Type} [FloatOps F] (main_arg0 : FVec F S2x8192x2304 .f32) : IVec S_ 1 :=
  let main_v0 : FVec F S2x8192x512 .f32 := (extractStridedSlice S2x8192x512 ![0, 0, 1536] · slices_S2x8192x2304_S2x8192x512_0_0_1536) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_c : IVec S_ 1 := constantI S_ 1 1#1
  let main_v4 : IVec S_ 1 := (fun x v => Host.reduce IntOp.andi x v reducesTo_S2x8192x512_S_d0_1_2 h_S_) main_v3 main_c
  main_v4
-- ==== Kernel.lean ====
abbrev S2x8192x2304 : Shape := ⟨3, ![2, 8192, 2304]⟩
abbrev S256x256 : Shape := ⟨2, ![256, 256]⟩
abbrev S2x8192x256 : Shape := ⟨3, ![2, 8192, 256]⟩
abbrev S1x256x128 : Shape := ⟨3, ![1, 256, 128]⟩
abbrev S1x8192x128 : Shape := ⟨3, ![1, 8192, 128]⟩
abbrev S2x256x128 : Shape := ⟨3, ![2, 256, 128]⟩
abbrev S2x256x1 : Shape := ⟨3, ![2, 256, 1]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S1x2x256x1 : Shape := ⟨4, ![1, 2, 256, 1]⟩
abbrev S1 : Shape := ⟨1, ![1]⟩
abbrev S1x1x1x1 : Shape := ⟨4, ![1, 1, 1, 1]⟩

abbrev nBuf : Space → Nat
  | .hbm => 6
  | .vmem => 11
  | .smem => 0
  | _ => 0

abbrev bufTy : (tb : Table) → Fin (tcTables nBuf tb) → BufTy
  | .hbm, ⟨0, _⟩ => ⟨S2x8192x2304, .f32⟩
  | .hbm, ⟨1, _⟩ => ⟨S256x256, .i32⟩
  | .hbm, ⟨2, _⟩ => ⟨S256x256, .i32⟩
  | .hbm, ⟨3, _⟩ => ⟨S256x256, .i1⟩
  | .hbm, ⟨4, _⟩ => ⟨S256x256, .bf16⟩
  | .hbm, ⟨5, _⟩ => ⟨S2x8192x256, .f32⟩
  | .local _ .vmem, ⟨0, _⟩ => ⟨S1x256x128, .f32⟩
  | .local _ .vmem, ⟨1, _⟩ => ⟨S1x256x128, .f32⟩
  | .local _ .vmem, ⟨2, _⟩ => ⟨S1x8192x128, .f32⟩
  | .local _ .vmem, ⟨3, _⟩ => ⟨S1x8192x128, .f32⟩
  | .local _ .vmem, ⟨4, _⟩ => ⟨S1x8192x128, .f32⟩
  | .local _ .vmem, ⟨5, _⟩ => ⟨S1x8192x128, .f32⟩
  | .local _ .vmem, ⟨6, _⟩ => ⟨S256x256, .bf16⟩
  | .local _ .vmem, ⟨7, _⟩ => ⟨S1x256x128, .f32⟩
  | .local _ .vmem, ⟨8, _⟩ => ⟨S1x256x128, .f32⟩
  | .local _ .vmem, ⟨9, _⟩ => ⟨S2x256x128, .f32⟩
  | .local _ .vmem, ⟨10, _⟩ => ⟨S2x256x1, .f32⟩
  | _, _ => ⟨S2x8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 2, 32], ![false, false, false]⟩

def k0_cond1 (i : grid0.Coords) : BitVec 1 :=
  let arg2 : BitVec 32 := BitVec.ofNat 32 (i 2).val
  let c0_i32 : BitVec 32 := 0#32
  let v26 : BitVec 1 := Scalar.cmpi .eq arg2 c0_i32
  let v27 : BitVec 32 := Scalar.extui v26
  let c0_i32_14 : BitVec 32 := 0#32
  let v28 : BitVec 1 := Scalar.cmpi .ne v27 c0_i32_14
  v28

def k0_mult1 (i : grid0.Coords) : BitVec 32 :=
  let arg2 : BitVec 32 := BitVec.ofNat 32 (i 2).val
  let c256_i32 : BitVec 32 := 256#32
  let v49 : BitVec 32 := Scalar.muli arg2 c256_i32
  v49
def k0_off1 (i : grid0.Coords) : Fin 3 → Nat :=
  let c0_30 : Index := 0#32
  let arg2 : BitVec 32 := BitVec.ofNat 32 (i 2).val
  let c256_i32 : BitVec 32 := 256#32
  let v49 : BitVec 32 := Scalar.muli arg2 c256_i32
  let v50 : BitVec 32 := v49
  let v51 : Index := Scalar.indexCast v50
  let c0_31 : Index := 0#32
  ![0, v51.toNat, 0]
def k0_cond2 (i : grid0.Coords) : BitVec 1 :=
  let arg2 : BitVec 32 := BitVec.ofNat 32 (i 2).val
  let c0_i32_15 : BitVec 32 := 0#32
  let v29 : BitVec 1 := Scalar.cmpi .sgt arg2 c0_i32_15
  let v30 : BitVec 32 := Scalar.extui v29
  let c0_i32_16 : BitVec 32 := 0#32
  let v31 : BitVec 1 := Scalar.cmpi .ne v30 c0_i32_16
  v31

def k0_mult2 (i : grid0.Coords) : BitVec 32 :=
  let arg2 : BitVec 32 := BitVec.ofNat 32 (i 2).val
  let c256_i32 : BitVec 32 := 256#32
  let v49 : BitVec 32 := Scalar.muli arg2 c256_i32
  v49
def k0_off2 (i : grid0.Coords) : Fin 3 → Nat :=
  let c0_30 : Index := 0#32
  let arg2 : BitVec 32 := BitVec.ofNat 32 (i 2).val
  let c256_i32 : BitVec 32 := 256#32
  let v49 : BitVec 32 := Scalar.muli arg2 c256_i32
  let v50 : BitVec 32 := v49
  let v51 : Index := Scalar.indexCast v50
  let c0_31 : Index := 0#32
  ![0, v51.toNat, 0]
def k0_mult3 (i : grid0.Coords) : BitVec 32 :=
  let arg2 : BitVec 32 := BitVec.ofNat 32 (i 2).val
  let c1_i32 : BitVec 32 := 1#32
  let v111 : BitVec 32 := Scalar.subi arg2 c1_i32
  let c256_i32_52 : BitVec 32 := 256#32
  let v112 : BitVec 32 := Scalar.muli v111 c256_i32_52
  v112
def k0_off3 (i : grid0.Coords) : Fin 3 → Nat :=
  let c0_53 : Index := 0#32
  let arg2 : BitVec 32 := BitVec.ofNat 32 (i 2).val
  let c1_i32 : BitVec 32 := 1#32
  let v111 : BitVec 32 := Scalar.subi arg2 c1_i32
  let c256_i32_52 : BitVec 32 := 256#32
  let v112 : BitVec 32 := Scalar.muli v111 c256_i32_52
  let v113 : BitVec 32 := v112
  let v114 : Index := Scalar.indexCast v113
  let c0_54 : Index := 0#32
  ![0, v114.toNat, 0]
def k0_mult4 (arg10 : BitVec 32) : BitVec 32 :=
  let c256_i32 : BitVec 32 := 256#32
  let v49 : BitVec 32 := Scalar.muli arg10 c256_i32
  v49

def k0_off4 (arg10 : BitVec 32) : Fin 3 → Nat :=
  let c0_30 : Index := 0#32
  let c256_i32 : BitVec 32 := 256#32
  let v49 : BitVec 32 := Scalar.muli arg10 c256_i32
  let v50 : BitVec 32 := v49
  let v51 : Index := Scalar.indexCast v50
  let c0_31 : Index := 0#32
  ![0, v51.toNat, 0]

def k0_chk1 (arg10 : BitVec 32) : Prop :=
  (256 ∣ (k0_mult4 arg10).toNat) ∧
  (∀ a, (k0_off4 arg10) a + S1x256x128.size a ≤ S1x8192x128.size a)
theorem k0_mult4_dvd : ∀ (arg10 : BitVec 32) (k0_hw1 : k0_chk1 arg10), 256 ∣ (k0_mult4 arg10).toNat := fun arg10 k0_hw1 => k0_hw1.1
theorem k0_off4_inb : ∀ (arg10 : BitVec 32) (k0_hw1 : k0_chk1 arg10), ∀ a, (k0_off4 arg10) a + S1x256x128.size a ≤ S1x8192x128.size a := fun arg10 k0_hw1 => k0_hw1.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "underflow" => some ⊥
  | _ => none
-- ==== ReferenceIdeal.lean ====
abbrev S2x8192x2304 : Shape := ⟨3, ![2, 8192, 2304]⟩
abbrev S2x8192x768 : Shape := ⟨3, ![2, 8192, 768]⟩
abbrev S2x8192x256 : Shape := ⟨3, ![2, 8192, 256]⟩
abbrev S2x8192x4x64 : Shape := ⟨4, ![2, 8192, 4, 64]⟩
abbrev S2x4x8192x64 : Shape := ⟨4, ![2, 4, 8192, 64]⟩
abbrev S8192 : Shape := ⟨1, ![8192]⟩
abbrev S2x4x8192x8192 : Shape := ⟨4, ![2, 4, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x4x8192x1 : Shape := ⟨4, ![2, 4, 8192, 1]⟩

abbrev nBuf : Space → Nat
  | .hbm => 75
  | .vmem => 0
  | .smem => 0
  | _ => 0

abbrev bufTy : (tb : Table) → Fin (tcTables nBuf tb) → BufTy
  | .hbm, ⟨0, _⟩ => ⟨S2x8192x2304, .f32⟩
  | .hbm, ⟨1, _⟩ => ⟨S2x8192x768, .f32⟩
  | .hbm, ⟨2, _⟩ => ⟨S2x8192x256, .f32⟩
  | .hbm, ⟨3, _⟩ => ⟨S2x8192x256, .f32⟩
  | .hbm, ⟨4, _⟩ => ⟨S2x8192x256, .f32⟩
  | .hbm, ⟨5, _⟩ => ⟨S2x8192x4x64, .f32⟩
  | .hbm, ⟨6, _⟩ => ⟨S2x4x8192x64, .f32⟩
  | .hbm, ⟨7, _⟩ => ⟨S2x8192x4x64, .f32⟩
  | .hbm, ⟨8, _⟩ => ⟨S2x4x8192x64, .f32⟩
  | .hbm, ⟨9, _⟩ => ⟨S2x8192x4x64, .f32⟩
  | .hbm, ⟨10, _⟩ => ⟨S2x4x8192x64, .f32⟩
  | .hbm, ⟨11, _⟩ => ⟨S8192, .i32⟩
  | .hbm, ⟨12, _⟩ => ⟨S2x4x8192x8192, .f32⟩
  | .hbm, ⟨13, _⟩ => ⟨S_, .f32⟩
  | .hbm, ⟨14, _⟩ => ⟨S2x4x8192x8192, .f32⟩
  | .hbm, ⟨15, _⟩ => ⟨S2x4x8192x8192, .f32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S2x4x8192x8192, .f32⟩
  | .hbm, ⟨22, _⟩ => ⟨S2x4x8192x8192, .f32⟩
  | .hbm, ⟨23, _⟩ => ⟨S_, .f32⟩
  | .hbm, ⟨24, _⟩ => ⟨S2x4x8192x8192, .f32⟩
  | .hbm, ⟨25, _⟩ => ⟨S2x4x8192x8192, .f32⟩
  | .hbm, ⟨26, _⟩ => ⟨S2x4x8192x8192, .f32⟩
  | .hbm, ⟨27, _⟩ => ⟨S2x4x8192x8192, .f32⟩
  | .hbm, ⟨28, _⟩ => ⟨S2x4x8192x8192, .i1⟩
  | .hbm, ⟨29, _⟩ => ⟨S2x4x8192x8192, .f32⟩
  | .hbm, ⟨30, _⟩ => ⟨S2x4x8192x8192, .f32⟩
  | .hbm, ⟨31, _⟩ => ⟨S2x4x8192x8192, .f32⟩
  | .hbm, ⟨32, _⟩ => ⟨S2x4x8192x8192, .f32⟩
  | .hbm, ⟨33, _⟩ => ⟨S2x4x8192x8192, .f32⟩
  | .hbm, ⟨34, _⟩ => ⟨S2x4x8192x8192, .f32⟩
  | .hbm, ⟨35, _⟩ => ⟨S2x4x8192x8192, .f32⟩
  | .hbm, ⟨36, _⟩ => ⟨S2x4x8192x8192, .f32⟩
  | .hbm, ⟨37, _⟩ => ⟨S2x4x8192x8192, .f32⟩
  | .hbm, ⟨38, _⟩ => ⟨S_, .f32⟩
  | .hbm, ⟨39, _⟩ => ⟨S_, .f32⟩
  | .hbm, ⟨40, _⟩ => ⟨S2x4x8192x8192, .i1⟩
  | .hbm, ⟨41, _⟩ => ⟨S2x4x8192x8192, .f32⟩
  | .hbm, ⟨42, _⟩ => ⟨S2x4x8192x8192, .f32⟩
  | .hbm, ⟨43, _⟩ => ⟨S_, .f32⟩
  | .hbm, ⟨44, _⟩ => ⟨S_, .f32⟩
  | .hbm, ⟨45, _⟩ => ⟨S2x4x8192x8192, .f32⟩
  | .hbm, ⟨46, _⟩ => ⟨S2x4x8192x8192, .f32⟩
  | .hbm, ⟨47, _⟩ => ⟨S_, .f32⟩
  | .hbm, ⟨48, _⟩ => ⟨S2x4x8192x8192, .f32⟩
  | .hbm, ⟨49, _⟩ => ⟨S2x4x8192x8192, .f32⟩
  | .hbm, ⟨50, _⟩ => ⟨S2x4x8192x8192, .f32⟩
  | .hbm, ⟨51, _⟩ => ⟨S2x4x8192x8192, .f32⟩
  | .hbm, ⟨52, _⟩ => ⟨S2x4x8192x8192, .i1⟩
  | .hbm, ⟨53, _⟩ => ⟨S2x4x8192x8192, .f32⟩
  | .hbm, ⟨54, _⟩ => ⟨S2x4x8192x8192, .f32⟩
  | .hbm, ⟨55, _⟩ => ⟨S2x4x8192x8192, .f32⟩
  | .hbm, ⟨56, _⟩ => ⟨S2x4x8192x8192, .f32⟩
  | .hbm, ⟨57, _⟩ => ⟨S2x4x8192x8192, .f32⟩
  | .hbm, ⟨58, _⟩ => ⟨S2x4x8192x8192, .f32⟩
  | .hbm, ⟨59, _⟩ => ⟨S2x4x8192x8192, .f32⟩
  | .hbm, ⟨60, _⟩ => ⟨S2x4x8192x8192, .f32⟩
  | .hbm, ⟨61, _⟩ => ⟨S2x4x8192x8192, .f32⟩
  | .hbm, ⟨62, _⟩ => ⟨S2x4x8192x1, .f32⟩
  | .hbm, ⟨63, _⟩ => ⟨S2x4x8192x8192, .f32⟩
  | .hbm, ⟨64, _⟩ => ⟨S2x4x8192x8192, .f32⟩
  | .hbm, ⟨65, _⟩ => ⟨S2x4x8192x8192, .f32⟩
  | .hbm, ⟨66, _⟩ => ⟨S2x4x8192x8192, .f32⟩
  | .hbm, ⟨67, _⟩ => ⟨S_, .f32⟩
  | .hbm, ⟨68, _⟩ => ⟨S_, .f32⟩
  | .hbm, ⟨69, _⟩ => ⟨S2x4x8192x8192, .i1⟩
  | .hbm, ⟨70, _⟩ => ⟨S2x4x8192x8192, .f32⟩
  | .hbm, ⟨71, _⟩ => ⟨S2x4x8192x8192, .f32⟩
  | .hbm, ⟨72, _⟩ => ⟨S2x4x8192x64, .f32⟩
  | .hbm, ⟨73, _⟩ => ⟨S2x8192x4x64, .f32⟩
  | .hbm, ⟨74, _⟩ => ⟨S2x8192x256, .f32⟩
  | _, _ => ⟨S2x8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_call2_call0_cst : Ref sig .tc := ⟨.hbm, 43, rfl⟩
abbrev main_call2_call0_v0 : Ref sig .tc := ⟨.hbm, 44, rfl⟩
abbrev main_v22 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024x2304 : Shape := ⟨2, ![1024, 2304]⟩
abbrev S16384x1024 : Shape := ⟨2, ![16384, 1024]⟩
abbrev S16384x2304 : Shape := ⟨2, ![16384, 2304]⟩
abbrev S512x1024 : Shape := ⟨2, ![512, 1024]⟩
abbrev S512x2304 : Shape := ⟨2, ![512, 2304]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024x2304, .f32⟩
  | .hbm, ⟨2, _⟩ => ⟨S16384x1024, .f32⟩
  | .hbm, ⟨3, _⟩ => ⟨S1024x2304, .bf16⟩
  | .hbm, ⟨4, _⟩ => ⟨S16384x2304, .f32⟩
  | .local _ .vmem, ⟨0, _⟩ => ⟨S512x1024, .f32⟩
  | .local _ .vmem, ⟨1, _⟩ => ⟨S512x1024, .f32⟩
  | .local _ .vmem, ⟨2, _⟩ => ⟨S1024x2304, .bf16⟩
  | .local _ .vmem, ⟨3, _⟩ => ⟨S512x2304, .f32⟩
  | .local _ .vmem, ⟨4, _⟩ => ⟨S512x2304, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S2x8192x1024 : Shape := ⟨3, ![2, 8192, 1024]⟩
abbrev S1024x2304 : Shape := ⟨2, ![1024, 2304]⟩
abbrev S2x8192x2304 : Shape := ⟨3, ![2, 8192, 2304]⟩
abbrev S16384x2304 : Shape := ⟨2, ![16384, 2304]⟩

abbrev nBuf : Space → Nat
  | .hbm => 4
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x2304, .f32⟩
  | .hbm, ⟨2, _⟩ => ⟨S2x8192x2304, .f32⟩
  | .hbm, ⟨3, _⟩ => ⟨S16384x2304, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S2x8192x768 : Shape := ⟨3, ![2, 8192, 768]⟩
abbrev S2x8192x256 : Shape := ⟨3, ![2, 8192, 256]⟩
abbrev S2x8192x1024 : Shape := ⟨3, ![2, 8192, 1024]⟩
abbrev S1024x1024 : Shape := ⟨2, ![1024, 1024]⟩
abbrev S1024 : Shape := ⟨1, ![1024]⟩
abbrev S16384x768 : Shape := ⟨2, ![16384, 768]⟩
abbrev S16384x256 : Shape := ⟨2, ![16384, 256]⟩
abbrev S16384x1024 : Shape := ⟨2, ![16384, 1024]⟩
abbrev S1x1024 : Shape := ⟨2, ![1, 1024]⟩
abbrev S512x768 : Shape := ⟨2, ![512, 768]⟩
abbrev S512x256 : Shape := ⟨2, ![512, 256]⟩
abbrev S512x1024 : Shape := ⟨2, ![512, 1024]⟩
abbrev S768x1024 : Shape := ⟨2, ![768, 1024]⟩
abbrev S256x1024 : Shape := ⟨2, ![256, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S2x8192x768, .f32⟩
  | .hbm, ⟨1, _⟩ => ⟨S2x8192x256, .f32⟩
  | .hbm, ⟨2, _⟩ => ⟨S2x8192x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S16384x768, .f32⟩
  | .hbm, ⟨7, _⟩ => ⟨S16384x256, .f32⟩
  | .hbm, ⟨8, _⟩ => ⟨S16384x1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x768, .f32⟩
  | .local _ .vmem, ⟨1, _⟩ => ⟨S512x768, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S2x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2x8192x768 : Shape := ⟨3, ![2, 8192, 768]⟩
abbrev S2x8192x256 : Shape := ⟨3, ![2, 8192, 256]⟩
abbrev S2x8192x1024 : Shape := ⟨3, ![2, 8192, 1024]⟩
abbrev S1024x1024 : Shape := ⟨2, ![1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x768, .f32⟩
  | .hbm, ⟨1, _⟩ => ⟨S2x8192x256, .f32⟩
  | .hbm, ⟨2, _⟩ => ⟨S2x8192x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S2x8192x1024, .f32⟩
  | .hbm, ⟨7, _⟩ => ⟨S2x8192x1024, .f32⟩
  | .hbm, ⟨8, _⟩ => ⟨S_, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1, .f32⟩
  | .hbm, ⟨31, _⟩ => ⟨S2x8192x1024, .f32⟩
  | .hbm, ⟨32, _⟩ => ⟨S2x8192x1024, .f32⟩
  | .hbm, ⟨33, _⟩ => ⟨S1x1x1024, .f32⟩
  | .hbm, ⟨34, _⟩ => ⟨S2x8192x1024, .f32⟩
  | .hbm, ⟨35, _⟩ => ⟨S2x8192x1024, .f32⟩
  | .hbm, ⟨36, _⟩ => ⟨S1x1x1024, .f32⟩
  | .hbm, ⟨37, _⟩ => ⟨S2x8192x1024, .f32⟩
  | .hbm, ⟨38, _⟩ => ⟨S2x8192x1024, .f32⟩
  | .hbm, ⟨39, _⟩ => ⟨S16384x1024, .f32⟩
  | _, _ => ⟨S2x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel4.lean ====
abbrev S2x8192x2304 : Shape := ⟨3, ![2, 8192, 2304]⟩
abbrev S31x256 : Shape := ⟨2, ![31, 256]⟩
abbrev S256 : Shape := ⟨1, ![256]⟩
abbrev S4x64x64 : Shape := ⟨3, ![4, 64, 64]⟩
abbrev S3x256 : Shape := ⟨2, ![3, 256]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S1x256 : Shape := ⟨2, ![1, 256]⟩
abbrev S2x8192x768 : Shape := ⟨3, ![2, 8192, 768]⟩
abbrev S1x512x1536 : Shape := ⟨3, ![1, 512, 1536]⟩
abbrev S1x512x768 : Shape := ⟨3, ![1, 512, 768]⟩
abbrev S544x768 : Shape := ⟨2, ![544, 768]⟩
abbrev S32x768 : Shape := ⟨2, ![32, 768]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 48
  | .vmem => 12
  | .smem => 0
  | _ => 0

abbrev bufTy : (tb : Table) → Fin (tcTables nBuf tb) → BufTy
  | .hbm, ⟨0, _⟩ => ⟨S2x8192x2304, .f32⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S4x64x64, .f32⟩
  | .hbm, ⟨6, _⟩ => ⟨S256, .f32⟩
  | .hbm, ⟨7, _⟩ => ⟨S3x256, .f32⟩
  | .hbm, ⟨8, _⟩ => ⟨S_, .f32⟩
  | .hbm, ⟨9, _⟩ => ⟨S256x256, .f32⟩
  | .hbm, ⟨10, _⟩ => ⟨S1x64x64, .f32⟩
  | .hbm, ⟨11, _⟩ => ⟨S64x64, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S256x256, .f32⟩
  | .hbm, ⟨18, _⟩ => ⟨S1x64x64, .f32⟩
  | .hbm, ⟨19, _⟩ => ⟨S64x64, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S256x256, .f32⟩
  | .hbm, ⟨26, _⟩ => ⟨S1x64x64, .f32⟩
  | .hbm, ⟨27, _⟩ => ⟨S64x64, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S256x256, .f32⟩
  | .hbm, ⟨34, _⟩ => ⟨S1x64x64, .f32⟩
  | .hbm, ⟨35, _⟩ => ⟨S64x64, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S256x256, .f32⟩
  | .hbm, ⟨42, _⟩ => ⟨S256x256, .bf16⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S2x8192x768, .f32⟩
  | .local _ .vmem, ⟨0, _⟩ => ⟨S1x512x1536, .f32⟩
  | .local _ .vmem, ⟨1, _⟩ => ⟨S1x512x1536, .f32⟩
  | .local _ .vmem, ⟨2, _⟩ => ⟨S31x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S3x256, .f32⟩
  | .local _ .vmem, ⟨9, _⟩ => ⟨S1x512x768, .f32⟩
  | .local _ .vmem, ⟨10, _⟩ => ⟨S1x512x768, .f32⟩
  | .local _ .vmem, ⟨11, _⟩ => ⟨S544x768, .f32⟩
  | _, _ => ⟨S2x8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S2x8192x2304 : Shape := ⟨3, ![2, 8192, 2304]⟩
abbrev S31x256 : Shape := ⟨2, ![31, 256]⟩
abbrev S256 : Shape := ⟨1, ![256]⟩
abbrev S4x64x64 : Shape := ⟨3, ![4, 64, 64]⟩
abbrev S3x256 : Shape := ⟨2, ![3, 256]⟩
abbrev S2x8192x1536 : Shape := ⟨3, ![2, 8192, 1536]⟩
abbrev S2x8192x256 : Shape := ⟨3, ![2, 8192, 256]⟩
abbrev S_ : Shape := ⟨0, ![]⟩
abbrev S2x8222x256 : Shape := ⟨3, ![2, 8222, 256]⟩
abbrev S1x256 : Shape := ⟨2, ![1, 256]⟩
abbrev S1x1x256 : Shape := ⟨3, ![1, 1, 256]⟩
abbrev S2x8192 : Shape := ⟨2, ![2, 8192]⟩
abbrev S2x8192x1 : Shape := ⟨3, ![2, 8192, 1]⟩
abbrev S2x8192x4x64 : Shape := ⟨4, ![2, 8192, 4, 64]⟩
abbrev S8192 : Shape := ⟨1, ![8192]⟩
abbrev S2x8192x1x64 : Shape := ⟨4, ![2, 8192, 1, 64]⟩
abbrev S2x8192x64 : Shape := ⟨3, ![2, 8192, 64]⟩
abbrev S2x8194x64 : Shape := ⟨3, ![2, 8194, 64]⟩
abbrev S1x8192x1 : Shape := ⟨3, ![1, 8192, 1]⟩
abbrev S2x8196x64 : Shape := ⟨3, ![2, 8196, 64]⟩
abbrev S2x8200x64 : Shape := ⟨3, ![2, 8200, 64]⟩
abbrev S2x8208x64 : Shape := ⟨3, ![2, 8208, 64]⟩
abbrev S4x64x2x8192 : Shape := ⟨4, ![4, 64, 2, 8192]⟩
abbrev S2x8194x256 : Shape := ⟨3, ![2, 8194, 256]⟩
abbrev S2x8192x768 : Shape := ⟨3, ![2, 8192, 768]⟩

abbrev nBuf : Space → Nat
  | .hbm => 405
  | .vmem => 0
  | .smem => 0
  | _ => 0

abbrev hbmTy0_0 (i : Nat) : BufTy := match i % 128 with
  | 0 => ⟨S2x8192x2304, .f32⟩
  | 1 => ⟨S31x256, .f32⟩
  | 2 => ⟨S256, .f32⟩
  | 3 => ⟨S256, .f32⟩
  | 4 => ⟨S256, .f32⟩
  | 5 => ⟨S4x64x64, .f32⟩
  | 6 => ⟨S256, .f32⟩
  | 7 => ⟨S3x256, .f32⟩
  | 8 => ⟨S2x8192x1536, .f32⟩
  | 9 => ⟨S2x8192x256, .f32⟩
  | 10 => ⟨S2x8192x256, .f32⟩
  | 11 => ⟨S2x8192x256, .f32⟩
  | 12 => ⟨S2x8192x256, .f32⟩
  | 13 => ⟨S2x8192x256, .f32⟩
  | 14 => ⟨S2x8192x256, .f32⟩
  | 15 => ⟨S2x8192x256, .f32⟩
  | 16 => ⟨S2x8192x256, .f32⟩
  | 17 => ⟨S_, .f32⟩
  | 18 => ⟨S2x8192x256, .f32⟩
  | 19 => ⟨S2x8192x256, .f32⟩
  | 20 => ⟨S_, .f32⟩
  | 21 => ⟨S2x8192x256, .f32⟩
  | 22 => ⟨S2x8192x256, .f32⟩
  | 23 => ⟨S2x8192x256, .f32⟩
  | 24 => ⟨S_, .i32⟩
  | 25 => ⟨S_, .f32⟩
  | 26 => ⟨S2x8222x256, .f32⟩
  | 27 => ⟨S1x256, .f32⟩
  | 28 => ⟨S256, .f32⟩
  | 29 => ⟨S2x8192x256, .f32⟩
  | 30 => ⟨S1x1x256, .f32⟩
  | 31 => ⟨S2x8192x256, .f32⟩
  | 32 => ⟨S2x8192x256, .f32⟩
  | 33 => ⟨S1x256, .f32⟩
  | 34 => ⟨S256, .f32⟩
  | 35 => ⟨S2x8192x256, .f32⟩
  | 36 => ⟨S1x1x256, .f32⟩
  | 37 => ⟨S2x8192x256, .f32⟩
  | 38 => ⟨S2x8192x256, .f32⟩
  | 39 => ⟨S2x8192x256, .f32⟩
  | 40 => ⟨S1x256, .f32⟩
  | 41 => ⟨S256, .f32⟩
  | 42 => ⟨S2x8192x256, .f32⟩
  | 43 => ⟨S1x1x256, .f32⟩
  | 44 => ⟨S2x8192x256, .f32⟩
  | 45 => ⟨S2x8192x256, .f32⟩
  | 46 => ⟨S2x8192x256, .f32⟩
  | 47 => ⟨S1x256, .f32⟩
  | 48 => ⟨S256, .f32⟩
  | 49 => ⟨S2x8192x256, .f32⟩
  | 50 => ⟨S1x1x256, .f32⟩
  | 51 => ⟨S2x8192x256, .f32⟩
  | 52 => ⟨S2x8192x256, .f32⟩
  | 53 => ⟨S2x8192x256, .f32⟩
  | 54 => ⟨S1x256, .f32⟩
  | 55 => ⟨S256, .f32⟩
  | 56 => ⟨S2x8192x256, .f32⟩
  | 57 => ⟨S1x1x256, .f32⟩
  | 58 => ⟨S2x8192x256, .f32⟩
  | 59 => ⟨S2x8192x256, .f32⟩
  | 60 => ⟨S2x8192x256, .f32⟩
  | 61 => ⟨S1x256, .f32⟩
  | 62 => ⟨S256, .f32⟩
  | 63 => ⟨S2x8192x256, .f32⟩
  | 64 => ⟨S1x1x256, .f32⟩
  | 65 => ⟨S2x8192x256, .f32⟩
  | 66 => ⟨S2x8192x256, .f32⟩
  | 67 => ⟨S2x8192x256, .f32⟩
  | 68 => ⟨S1x256, .f32⟩
  | 69 => ⟨S256, .f32⟩
  | 70 => ⟨S2x8192x256, .f32⟩
  | 71 => ⟨S1x1x256, .f32⟩
  | 72 => ⟨S2x8192x256, .f32⟩
  | 73 => ⟨S2x8192x256, .f32⟩
  | 74 => ⟨S2x8192x256, .f32⟩
  | 75 => ⟨S1x256, .f32⟩
  | 76 => ⟨S256, .f32⟩
  | 77 => ⟨S2x8192x256, .f32⟩
  | 78 => ⟨S1x1x256, .f32⟩
  | 79 => ⟨S2x8192x256, .f32⟩
  | 80 => ⟨S2x8192x256, .f32⟩
  | 81 => ⟨S2x8192x256, .f32⟩
  | 82 => ⟨S1x256, .f32⟩
  | 83 => ⟨S256, .f32⟩
  | 84 => ⟨S2x8192x256, .f32⟩
  | 85 => ⟨S1x1x256, .f32⟩
  | 86 => ⟨S2x8192x256, .f32⟩
  | 87 => ⟨S2x8192x256, .f32⟩
  | 88 => ⟨S2x8192x256, .f32⟩
  | 89 => ⟨S1x256, .f32⟩
  | 90 => ⟨S256, .f32⟩
  | 91 => ⟨S2x8192x256, .f32⟩
  | 92 => ⟨S1x1x256, .f32⟩
  | 93 => ⟨S2x8192x256, .f32⟩
  | 94 => ⟨S2x8192x256, .f32⟩
  | 95 => ⟨S2x8192x256, .f32⟩
  | 96 => ⟨S1x256, .f32⟩
  | 97 => ⟨S256, .f32⟩
  | 98 => ⟨S2x8192x256, .f32⟩
  | 99 => ⟨S1x1x256, .f32⟩
  | 100 => ⟨S2x8192x256, .f32⟩
  | 101 => ⟨S2x8192x256, .f32⟩
  | 102 => ⟨S2x8192x256, .f32⟩
  | 103 => ⟨S1x256, .f32⟩
  | 104 => ⟨S256, .f32⟩
  | 105 => ⟨S2x8192x256, .f32⟩
  | 106 => ⟨S1x1x256, .f32⟩
  | 107 => ⟨S2x8192x256, .f32⟩
  | 108 => ⟨S2x8192x256, .f32⟩
  | 109 => ⟨S2x8192x256, .f32⟩
  | 110 => ⟨S1x256, .f32⟩
  | 111 => ⟨S256, .f32⟩
  | 112 => ⟨S2x8192x256, .f32⟩
  | 113 => ⟨S1x1x256, .f32⟩
  | 114 => ⟨S2x8192x256, .f32⟩
  | 115 => ⟨S2x8192x256, .f32⟩
  | 116 => ⟨S2x8192x256, .f32⟩
  | 117 => ⟨S1x256, .f32⟩
  | 118 => ⟨S256, .f32⟩
  | 119 => ⟨S2x8192x256, .f32⟩
  | 120 => ⟨S1x1x256, .f32⟩
  | 121 => ⟨S2x8192x256, .f32⟩
  | 122 => ⟨S2x8192x256, .f32⟩
  | 123 => ⟨S2x8192x256, .f32⟩
  | 124 => ⟨S1x256, .f32⟩
  | 125 => ⟨S256, .f32⟩
  | 126 => ⟨S2x8192x256, .f32⟩
  | 127 => ⟨S1x1x256, .f32⟩
  | _ => ⟨S2x8192x2304, .f32⟩

abbrev hbmTy0_1 (i : Nat) : BufTy := match i % 128 with
  | 0 => ⟨S2x8192x256, .f32⟩
  | 1 => ⟨S2x8192x256, .f32⟩
  | 2 => ⟨S2x8192x256, .f32⟩
  | 3 => ⟨S1x256, .f32⟩
  | 4 => ⟨S256, .f32⟩
  | 5 => ⟨S2x8192x256, .f32⟩
  | 6 => ⟨S1x1x256, .f32⟩
  | 7 => ⟨S2x8192x256, .f32⟩
  | 8 => ⟨S2x8192x256, .f32⟩
  | 9 => ⟨S2x8192x256, .f32⟩
  | 10 => ⟨S1x256, .f32⟩
  | 11 => ⟨S256, .f32⟩
  | 12 => ⟨S2x8192x256, .f32⟩
  | 13 => ⟨S1x1x256, .f32⟩
  | 14 => ⟨S2x8192x256, .f32⟩
  | 15 => ⟨S2x8192x256, .f32⟩
  | 16 => ⟨S2x8192x256, .f32⟩
  | 17 => ⟨S1x256, .f32⟩
  | 18 => ⟨S256, .f32⟩
  | 19 => ⟨S2x8192x256, .f32⟩
  | 20 => ⟨S1x1x256, .f32⟩
  | 21 => ⟨S2x8192x256, .f32⟩
  | 22 => ⟨S2x8192x256, .f32⟩
  | 23 => ⟨S2x8192x256, .f32⟩
  | 24 => ⟨S1x256, .f32⟩
  | 25 => ⟨S256, .f32⟩
  | 26 => ⟨S2x8192x256, .f32⟩
  | 27 => ⟨S1x1x256, .f32⟩
  | 28 => ⟨S2x8192x256, .f32⟩
  | 29 => ⟨S2x8192x256, .f32⟩
  | 30 => ⟨S2x8192x256, .f32⟩
  | 31 => ⟨S1x256, .f32⟩
  | 32 => ⟨S256, .f32⟩
  | 33 => ⟨S2x8192x256, .f32⟩
  | 34 => ⟨S1x1x256, .f32⟩
  | 35 => ⟨S2x8192x256, .f32⟩
  | 36 => ⟨S2x8192x256, .f32⟩
  | 37 => ⟨S2x8192x256, .f32⟩
  | 38 => ⟨S1x256, .f32⟩
  | 39 => ⟨S256, .f32⟩
  | 40 => ⟨S2x8192x256, .f32⟩
  | 41 => ⟨S1x1x256, .f32⟩
  | 42 => ⟨S2x8192x256, .f32⟩
  | 43 => ⟨S2x8192x256, .f32⟩
  | 44 => ⟨S2x8192x256, .f32⟩
  | 45 => ⟨S1x256, .f32⟩
  | 46 => ⟨S256, .f32⟩
  | 47 => ⟨S2x8192x256, .f32⟩
  | 48 => ⟨S1x1x256, .f32⟩
  | 49 => ⟨S2x8192x256, .f32⟩
  | 50 => ⟨S2x8192x256, .f32⟩
  | 51 => ⟨S2x8192x256, .f32⟩
  | 52 => ⟨S1x256, .f32⟩
  | 53 => ⟨S256, .f32⟩
  | 54 => ⟨S2x8192x256, .f32⟩
  | 55 => ⟨S1x1x256, .f32⟩
  | 56 => ⟨S2x8192x256, .f32⟩
  | 57 => ⟨S2x8192x256, .f32⟩
  | 58 => ⟨S2x8192x256, .f32⟩
  | 59 => ⟨S1x256, .f32⟩
  | 60 => ⟨S256, .f32⟩
  | 61 => ⟨S2x8192x256, .f32⟩
  | 62 => ⟨S1x1x256, .f32⟩
  | 63 => ⟨S2x8192x256, .f32⟩
  | 64 => ⟨S2x8192x256, .f32⟩
  | 65 => ⟨S2x8192x256, .f32⟩
  | 66 => ⟨S1x256, .f32⟩
  | 67 => ⟨S256, .f32⟩
  | 68 => ⟨S2x8192x256, .f32⟩
  | 69 => ⟨S1x1x256, .f32⟩
  | 70 => ⟨S2x8192x256, .f32⟩
  | 71 => ⟨S2x8192x256, .f32⟩
  | 72 => ⟨S2x8192x256, .f32⟩
  | 73 => ⟨S1x256, .f32⟩
  | 74 => ⟨S256, .f32⟩
  | 75 => ⟨S2x8192x256, .f32⟩
  | 76 => ⟨S1x1x256, .f32⟩
  | 77 => ⟨S2x8192x256, .f32⟩
  | 78 => ⟨S2x8192x256, .f32⟩
  | 79 => ⟨S2x8192x256, .f32⟩
  | 80 => ⟨S1x256, .f32⟩
  | 81 => ⟨S256, .f32⟩
  | 82 => ⟨S2x8192x256, .f32⟩
  | 83 => ⟨S1x1x256, .f32⟩
  | 84 => ⟨S2x8192x256, .f32⟩
  | 85 => ⟨S2x8192x256, .f32⟩
  | 86 => ⟨S2x8192x256, .f32⟩
  | 87 => ⟨S1x256, .f32⟩
  | 88 => ⟨S256, .f32⟩
  | 89 => ⟨S2x8192x256, .f32⟩
  | 90 => ⟨S1x1x256, .f32⟩
  | 91 => ⟨S2x8192x256, .f32⟩
  | 92 => ⟨S2x8192x256, .f32⟩
  | 93 => ⟨S2x8192x256, .f32⟩
  | 94 => ⟨S1x256, .f32⟩
  | 95 => ⟨S256, .f32⟩
  | 96 => ⟨S2x8192x256, .f32⟩
  | 97 => ⟨S1x1x256, .f32⟩
  | 98 => ⟨S2x8192x256, .f32⟩
  | 99 => ⟨S2x8192x256, .f32⟩
  | 100 => ⟨S2x8192x256, .f32⟩
  | 101 => ⟨S1x256, .f32⟩
  | 102 => ⟨S256, .f32⟩
  | 103 => ⟨S2x8192x256, .f32⟩
  | 104 => ⟨S1x1x256, .f32⟩
  | 105 => ⟨S2x8192x256, .f32⟩
  | 106 => ⟨S2x8192x256, .f32⟩
  | 107 => ⟨S2x8192x256, .f32⟩
  | 108 => ⟨S1x256, .f32⟩
  | 109 => ⟨S256, .f32⟩
  | 110 => ⟨S2x8192x256, .f32⟩
  | 111 => ⟨S1x1x256, .f32⟩
  | 112 => ⟨S2x8192x256, .f32⟩
  | 113 => ⟨S2x8192x256, .f32⟩
  | 114 => ⟨S2x8192x256, .f32⟩
  | 115 => ⟨S1x1x256, .f32⟩
  | 116 => ⟨S2x8192x256, .f32⟩
  | 117 => ⟨S2x8192x256, .f32⟩
  | 118 => ⟨S_, .f32⟩
  | 119 => ⟨S2x8192, .f32⟩
  | 120 => ⟨S2x8192x1, .f32⟩
  | 121 => ⟨S_, .f32⟩
  | 122 => ⟨S2x8192x1, .f32⟩
  | 123 => ⟨S2x8192x1, .f32⟩
  | 124 => ⟨S2x8192x256, .f32⟩
  | 125 => ⟨S2x8192x256, .f32⟩
  | 126 => ⟨S2x8192x256, .f32⟩
  | 127 => ⟨S_, .f32⟩
  | _ => ⟨S2x8192x2304, .f32⟩

abbrev hbmTy0_2 (i : Nat) : BufTy := match i % 128 with
  | 0 => ⟨S2x8192, .f32⟩
  | 1 => ⟨S2x8192x1, .f32⟩
  | 2 => ⟨S_, .f32⟩
  | 3 => ⟨S2x8192x1, .f32⟩
  | 4 => ⟨S2x8192x1, .f32⟩
  | 5 => ⟨S_, .f32⟩
  | 6 => ⟨S2x8192x1, .f32⟩
  | 7 => ⟨S2x8192x1, .f32⟩
  | 8 => ⟨S2x8192x1, .f32⟩
  | 9 => ⟨S2x8192x256, .f32⟩
  | 10 => ⟨S2x8192x256, .f32⟩
  | 11 => ⟨S1x1x256, .f32⟩
  | 12 => ⟨S2x8192x256, .f32⟩
  | 13 => ⟨S2x8192x256, .f32⟩
  | 14 => ⟨S1x1x256, .f32⟩
  | 15 => ⟨S2x8192x256, .f32⟩
  | 16 => ⟨S2x8192x256, .f32⟩
  | 17 => ⟨S2x8192x256, .f32⟩
  | 18 => ⟨S2x8192x256, .f32⟩
  | 19 => ⟨S_, .f32⟩
  | 20 => ⟨S2x8192x256, .f32⟩
  | 21 => ⟨S2x8192x256, .f32⟩
  | 22 => ⟨S_, .f32⟩
  | 23 => ⟨S2x8192x256, .f32⟩
  | 24 => ⟨S2x8192x256, .f32⟩
  | 25 => ⟨S2x8192x256, .f32⟩
  | 26 => ⟨S2x8192x4x64, .f32⟩
  | 27 => ⟨S8192, .i32⟩
  | 28 => ⟨S2x8192x1x64, .f32⟩
  | 29 => ⟨S2x8192x64, .f32⟩
  | 30 => ⟨S_, .f32⟩
  | 31 => ⟨S_, .f32⟩
  | 32 => ⟨S2x8192x64, .f32⟩
  | 33 => ⟨S_, .i32⟩
  | 34 => ⟨S_, .f32⟩
  | 35 => ⟨S2x8194x64, .f32⟩
  | 36 => ⟨S2x8192x64, .f32⟩
  | 37 => ⟨S_, .i32⟩
  | 38 => ⟨S8192, .i32⟩
  | 39 => ⟨S8192, .i32⟩
  | 40 => ⟨S_, .i32⟩
  | 41 => ⟨S8192, .i32⟩
  | 42 => ⟨S8192, .i32⟩
  | 43 => ⟨S8192, .f32⟩
  | 44 => ⟨S2x8192x64, .f32⟩
  | 45 => ⟨S1x8192x1, .f32⟩
  | 46 => ⟨S2x8192x64, .f32⟩
  | 47 => ⟨S2x8192x64, .f32⟩
  | 48 => ⟨S2x8192x64, .f32⟩
  | 49 => ⟨S2x8192x1x64, .f32⟩
  | 50 => ⟨S2x8192x64, .f32⟩
  | 51 => ⟨S_, .f32⟩
  | 52 => ⟨S_, .f32⟩
  | 53 => ⟨S2x8192x64, .f32⟩
  | 54 => ⟨S_, .i32⟩
  | 55 => ⟨S_, .f32⟩
  | 56 => ⟨S2x8196x64, .f32⟩
  | 57 => ⟨S2x8192x64, .f32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192, .f32⟩
  | 65 => ⟨S2x8192x64, .f32⟩
  | 66 => ⟨S1x8192x1, .f32⟩
  | 67 => ⟨S2x8192x64, .f32⟩
  | 68 => ⟨S2x8192x64, .f32⟩
  | 69 => ⟨S2x8192x64, .f32⟩
  | 70 => ⟨S2x8192x1x64, .f32⟩
  | 71 => ⟨S2x8192x64, .f32⟩
  | 72 => ⟨S_, .f32⟩
  | 73 => ⟨S_, .f32⟩
  | 74 => ⟨S2x8192x64, .f32⟩
  | 75 => ⟨S_, .i32⟩
  | 76 => ⟨S_, .f32⟩
  | 77 => ⟨S2x8200x64, .f32⟩
  | 78 => ⟨S2x8192x64, .f32⟩
  | 79 => ⟨S_, .i32⟩
  | 80 => ⟨S8192, .i32⟩
  | 81 => ⟨S8192, .i32⟩
  | 82 => ⟨S_, .i32⟩
  | 83 => ⟨S8192, .i32⟩
  | 84 => ⟨S8192, .i32⟩
  | 85 => ⟨S8192, .f32⟩
  | 86 => ⟨S2x8192x64, .f32⟩
  | 87 => ⟨S1x8192x1, .f32⟩
  | 88 => ⟨S2x8192x64, .f32⟩
  | 89 => ⟨S2x8192x64, .f32⟩
  | 90 => ⟨S2x8192x64, .f32⟩
  | 91 => ⟨S2x8192x1x64, .f32⟩
  | 92 => ⟨S2x8192x64, .f32⟩
  | 93 => ⟨S_, .f32⟩
  | 94 => ⟨S_, .f32⟩
  | 95 => ⟨S2x8192x64, .f32⟩
  | 96 => ⟨S_, .i32⟩
  | 97 => ⟨S_, .f32⟩
  | 98 => ⟨S2x8208x64, .f32⟩
  | 99 => ⟨S2x8192x64, .f32⟩
  | 100 => ⟨S_, .i32⟩
  | 101 => ⟨S8192, .i32⟩
  | 102 => ⟨S8192, .i32⟩
  | 103 => ⟨S_, .i32⟩
  | 104 => ⟨S8192, .i32⟩
  | 105 => ⟨S8192, .i32⟩
  | 106 => ⟨S8192, .f32⟩
  | 107 => ⟨S2x8192x64, .f32⟩
  | 108 => ⟨S1x8192x1, .f32⟩
  | 109 => ⟨S2x8192x64, .f32⟩
  | 110 => ⟨S2x8192x64, .f32⟩
  | 111 => ⟨S2x8192x64, .f32⟩
  | 112 => ⟨S2x8192x1x64, .f32⟩
  | 113 => ⟨S2x8192x1x64, .f32⟩
  | 114 => ⟨S2x8192x1x64, .f32⟩
  | 115 => ⟨S2x8192x1x64, .f32⟩
  | 116 => ⟨S2x8192x4x64, .f32⟩
  | 117 => ⟨S4x64x2x8192, .f32⟩
  | 118 => ⟨S2x8192x4x64, .f32⟩
  | 119 => ⟨S2x8192x256, .f32⟩
  | 120 => ⟨S1x1x256, .f32⟩
  | 121 => ⟨S2x8192x256, .f32⟩
  | 122 => ⟨S2x8192x256, .f32⟩
  | 123 => ⟨S2x8192x256, .f32⟩
  | 124 => ⟨S_, .i32⟩
  | 125 => ⟨S_, .f32⟩
  | 126 => ⟨S2x8194x256, .f32⟩
  | 127 => ⟨S1x256, .f32⟩
  | _ => ⟨S2x8192x2304, .f32⟩

abbrev hbmTy0_3 (i : Nat) : BufTy := match i % 128 with
  | 0 => ⟨S256, .f32⟩
  | 1 => ⟨S2x8192x256, .f32⟩
  | 2 => ⟨S1x1x256, .f32⟩
  | 3 => ⟨S2x8192x256, .f32⟩
  | 4 => ⟨S2x8192x256, .f32⟩
  | 5 => ⟨S1x256, .f32⟩
  | 6 => ⟨S256, .f32⟩
  | 7 => ⟨S2x8192x256, .f32⟩
  | 8 => ⟨S1x1x256, .f32⟩
  | 9 => ⟨S2x8192x256, .f32⟩
  | 10 => ⟨S2x8192x256, .f32⟩
  | 11 => ⟨S2x8192x256, .f32⟩
  | 12 => ⟨S1x256, .f32⟩
  | 13 => ⟨S256, .f32⟩
  | 14 => ⟨S2x8192x256, .f32⟩
  | 15 => ⟨S1x1x256, .f32⟩
  | 16 => ⟨S2x8192x256, .f32⟩
  | 17 => ⟨S2x8192x256, .f32⟩
  | 18 => ⟨S2x8192x256, .f32⟩
  | 19 => ⟨S2x8192x256, .f32⟩
  | 20 => ⟨S2x8192x768, .f32⟩
  | _ => ⟨S2x8192x2304, .f32⟩

abbrev hbmTy (i : Nat) : BufTy := match i / 128 with
  | 0 => hbmTy0_0 i
  | 1 => hbmTy0_1 i
  | 2 => hbmTy0_2 i
  | 3 => hbmTy0_3 i
  | _ => ⟨S2x8192x2304, .f32⟩

abbrev bufTy : (tb : Table) → Fin (tcTables nBuf tb) → BufTy
  | .hbm, ⟨i, _⟩ => hbmTy i
  | _, _ => ⟨S2x8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_cst_1 : Ref sig .tc := ⟨.hbm, 246, rfl⟩
abbrev main_v234 : Ref sig .tc := ⟨.hbm, 247, rfl⟩
abbrev main_v235 : Ref sig .tc := ⟨.hbm, 248, rfl⟩
abbrev main_cst_2 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_cst_3 : Ref sig .tc := ⟨.hbm, 255, rfl⟩
abbrev main_v241 : Ref sig .tc := ⟨.hbm, 256, rfl⟩
abbrev main_v242 : Ref sig .tc := ⟨.hbm, 257, rfl⟩
abbrev main_cst_4 : Ref sig .tc := ⟨.hbm, 258, rfl⟩
abbrev main_v243 : Ref sig .tc := ⟨.hbm, 259, rfl⟩
abbrev main_v244 : Ref sig .tc := ⟨.hbm, 260, rfl⟩
abbrev main_cst_5 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_call1_v0 : Ref sig .tc := ⟨.hbm, 273, rfl⟩
abbrev main_call1_v1 : Ref sig .tc := ⟨.hbm, 274, rfl⟩
abbrev main_call1_cst : Ref sig .tc := ⟨.hbm, 275, rfl⟩
abbrev main_call1_v2 : Ref sig .tc := ⟨.hbm, 276, rfl⟩
abbrev main_call1_v3 : Ref sig .tc := ⟨.hbm, 277, rfl⟩
abbrev main_call1_cst_0 : Ref sig .tc := ⟨.hbm, 278, rfl⟩
abbrev main_call1_v4 : Ref sig .tc := ⟨.hbm, 279, rfl⟩
abbrev main_call1_v5 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_call2_call0_cst : Ref sig .tc := ⟨.hbm, 286, rfl⟩
abbrev main_call2_call0_v0 : Ref sig .tc := ⟨.hbm, 287, rfl⟩
abbrev main_v261 : Ref sig .tc := ⟨.hbm, 288, rfl⟩
abbrev main_c_6 : Ref sig .tc := ⟨.hbm, 289, rfl⟩
abbrev main_call3_v0 : Ref sig .tc := ⟨.hbm, 290, rfl⟩
abbrev main_v262 : Ref sig .tc := ⟨.hbm, 291, rfl⟩
abbrev main_v263 : Ref sig .tc := ⟨.hbm, 292, rfl⟩
abbrev main_c_7 : Ref sig .tc := ⟨.hbm, 293, rfl⟩
abbrev main_v264 : Ref sig .tc := ⟨.hbm, 294, rfl⟩
abbrev main_v265 : Ref sig .tc := ⟨.hbm, 295, rfl⟩
abbrev main_c_8 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_call4_call0_cst : Ref sig .tc := ⟨.hbm, 307, rfl⟩
abbrev main_call4_call0_v0 : Ref sig .tc := ⟨.hbm, 308, rfl⟩
abbrev main_v276 : Ref sig .tc := ⟨.hbm, 309, rfl⟩
abbrev main_c_9 : Ref sig .tc := ⟨.hbm, 310, rfl⟩
abbrev main_call5_v0 : Ref sig .tc := ⟨.hbm, 311, rfl⟩
abbrev main_v277 : Ref sig .tc := ⟨.hbm, 312, rfl⟩
abbrev main_v278 : Ref sig .tc := ⟨.hbm, 313, rfl⟩
abbrev main_c_10 : Ref sig .tc := ⟨.hbm, 314, rfl⟩
abbrev main_v279 : Ref sig .tc := ⟨.hbm, 315, rfl⟩
abbrev main_v280 : Ref sig .tc := ⟨.hbm, 316, rfl⟩
abbrev main_c_11 : Ref sig .tc := ⟨.hbm, 317, rfl⟩
abbrev main_v281 : Ref sig .tc := ⟨.hbm, 318, rfl⟩
abbrev main_v282 : Ref sig .tc := ⟨.hbm, 319, rfl⟩
abbrev main_v283 : Ref sig .tc := ⟨.hbm, 320, rfl⟩
abbrev main_v284 : Ref sig .tc := ⟨.hbm, 321, rfl⟩
abbrev main_v285 : Ref sig .tc := ⟨.hbm, 322, rfl⟩
abbrev main_v286 : Ref sig .tc := ⟨.hbm, 323, rfl⟩
abbrev main_v287 : Ref sig .tc := ⟨.hbm, 324, rfl⟩
abbrev main_v288 : Ref sig .tc := ⟨.hbm, 325, rfl⟩
abbrev main_v289 : Ref sig .tc := ⟨.hbm, 326, rfl⟩
abbrev main_v290 : Ref sig .tc := ⟨.hbm, 327, rfl⟩
abbrev main_call6_call0_cst : Ref sig .tc := ⟨.hbm, 328, rfl⟩
abbrev main_call6_call0_v0 : Ref sig .tc := ⟨.hbm, 329, rfl⟩
abbrev main_v291 : Ref sig .tc := ⟨.hbm, 330, rfl⟩
abbrev main_c_12 : Ref sig .tc := ⟨.hbm, 331, rfl⟩
abbrev main_call7_v0 : Ref sig .tc := ⟨.hbm, 332, rfl⟩
abbrev main_v292 : Ref sig .tc := ⟨.hbm, 333, rfl⟩
abbrev main_v293 : Ref sig .tc := ⟨.hbm, 334, rfl⟩
abbrev main_c_13 : Ref sig .tc := ⟨.hbm, 335, rfl⟩
abbrev main_v294 : Ref sig .tc := ⟨.hbm, 336, rfl⟩
abbrev main_v295 : Ref sig .tc := ⟨.hbm, 337, rfl⟩
abbrev main_c_14 : Ref sig .tc := ⟨.hbm, 338, rfl⟩
abbrev main_v296 : Ref sig .tc := ⟨.hbm, 339, rfl⟩
abbrev main_v297 : Ref sig .tc := ⟨.hbm, 340, rfl⟩
abbrev main_v298 : Ref sig .tc := ⟨.hbm, 341, rfl⟩
abbrev main_v299 : Ref sig .tc := ⟨.hbm, 342, rfl⟩
abbrev main_v300 : Ref sig .tc := ⟨.hbm, 343, rfl⟩
abbrev main_v301 : Ref sig .tc := ⟨.hbm, 344, rfl⟩
abbrev main_v302 : Ref sig .tc := ⟨.hbm, 345, rfl⟩
abbrev main_v303 : Ref sig .tc := ⟨.hbm, 346, rfl⟩
abbrev main_v304 : Ref sig .tc := ⟨.hbm, 347, rfl⟩
abbrev main_v305 : Ref sig .tc := ⟨.hbm, 348, rfl⟩
abbrev main_call8_call0_cst : Ref sig .tc := ⟨.hbm, 349, rfl⟩
abbrev main_call8_call0_v0 : Ref sig .tc := ⟨.hbm, 350, rfl⟩
abbrev main_v306 : Ref sig .tc := ⟨.hbm, 351, rfl⟩
abbrev main_c_15 : Ref sig .tc := ⟨.hbm, 352, rfl⟩
abbrev main_call9_v0 : Ref sig .tc := ⟨.hbm, 353, rfl⟩
abbrev main_v307 : Ref sig .tc := ⟨.hbm, 354, rfl⟩
abbrev main_v308 : Ref sig .tc := ⟨.hbm, 355, rfl⟩
abbrev main_c_16 : Ref sig .tc := ⟨.hbm, 356, rfl⟩
abbrev main_v309 : Ref sig .tc := ⟨.hbm, 357, rfl⟩
abbrev main_v310 : Ref sig .tc := ⟨.hbm, 358, rfl⟩
abbrev main_c_17 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_v314 : Ref sig .tc := ⟨.hbm, 363, rfl⟩
abbrev main_v315 : Ref sig .tc := ⟨.hbm, 364, rfl⟩
abbrev main_v316 : Ref sig .tc := ⟨.hbm, 365, rfl⟩
abbrev main_v317 : Ref sig .tc := ⟨.hbm, 366, rfl⟩
abbrev main_v318 : Ref sig .tc := ⟨.hbm, 367, rfl⟩
abbrev main_v319 : Ref sig .tc := ⟨.hbm, 368, rfl⟩
abbrev main_v320 : Ref sig .tc := ⟨.hbm, 369, rfl⟩
abbrev main_v321 : Ref sig .tc := ⟨.hbm, 370, rfl⟩
abbrev main_v322 : Ref sig .tc := ⟨.hbm, 371, rfl⟩
abbrev main_v323 : Ref sig .tc := ⟨.hbm, 372, rfl⟩
abbrev main_v324 : Ref sig .tc := ⟨.hbm, 373, rfl⟩
abbrev main_v325 : Ref sig .tc := ⟨.hbm, 374, rfl⟩
abbrev main_v326 : Ref sig .tc := ⟨.hbm, 375, rfl⟩
abbrev main_v327 : Ref sig .tc := ⟨.hbm, 376, rfl⟩
abbrev main_v328 : Ref sig .tc := ⟨.hbm, 377, rfl⟩
abbrev main_v329 : Ref sig .tc := ⟨.hbm, 378, rfl⟩
abbrev main_v330 : Ref sig .tc := ⟨.hbm, 379, rfl⟩
abbrev main_c_18 : Ref sig .tc := ⟨.hbm, 380, rfl⟩
abbrev main_call10_v0 : Ref sig .tc := ⟨.hbm, 381, rfl⟩
abbrev main_v331 : Ref sig .tc := ⟨.hbm, 382, rfl⟩
abbrev main_v332 : Ref sig .tc := ⟨.hbm, 383, rfl⟩
abbrev main_v333 : Ref sig .tc := ⟨.hbm, 384, rfl⟩
abbrev main_v334 : Ref sig .tc := ⟨.hbm, 385, rfl⟩
abbrev main_v335 : Ref sig .tc := ⟨.hbm, 386, rfl⟩
abbrev main_v336 : Ref sig .tc := ⟨.hbm, 387, rfl⟩
abbrev main_v337 : Ref sig .tc := ⟨.hbm, 388, rfl⟩
abbrev main_v338 : Ref sig .tc := ⟨.hbm, 389, rfl⟩
abbrev main_v339 : Ref sig .tc := ⟨.hbm, 390, rfl⟩
abbrev main_v340 : Ref sig .tc := ⟨.hbm, 391, rfl⟩
abbrev main_v341 : Ref sig .tc := ⟨.hbm, 392, rfl⟩
abbrev main_v342 : Ref sig .tc := ⟨.hbm, 393, rfl⟩
abbrev main_v343 : Ref sig .tc := ⟨.hbm, 394, rfl⟩
abbrev main_v344 : Ref sig .tc := ⟨.hbm, 395, rfl⟩
abbrev main_v345 : Ref sig .tc := ⟨.hbm, 396, rfl⟩
abbrev main_v346 : Ref sig .tc := ⟨.hbm, 397, rfl⟩
abbrev main_v347 : Ref sig .tc := ⟨.hbm, 398, rfl⟩
abbrev main_v348 : Ref sig .tc := ⟨.hbm, 399, rfl⟩
abbrev main_v349 : Ref sig .tc := ⟨.hbm, 400, rfl⟩
abbrev main_v350 : Ref sig .tc := ⟨.hbm, 401, rfl⟩
abbrev main_v351 : Ref sig .tc := ⟨.hbm, 402, rfl⟩
abbrev main_v352 : Ref sig .tc := ⟨.hbm, 403, rfl⟩
abbrev main_v353 : Ref sig .tc := ⟨.hbm, 404, rfl⟩

abbrev nD : Nat := 1
abbrev τ : Topo := Topo.v7x

variable {F : FTy → Type} [FloatOps F]
-- ==== Kernel5.lean ====
abbrev S16384x1024 : Shape := ⟨2, ![16384, 1024]⟩
abbrev S16777216 : Shape := ⟨1, ![16777216]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16777216, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S1x1024, .f32⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16384x1024 : Shape := ⟨2, ![16384, 1024]⟩
abbrev S16777216 : Shape := ⟨1, ![16777216]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16777216, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.KI.Kit.lean ====
/- The launch set-up of the attention kernel at any float instance: what the region finds in each array, the windows' blocks,
   the branch conditions in closed form, and the argument arrays read back at the end. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The variants of the loop over earlier blocks: the blocks left. -/
abbrev 𝒱₀ : Variants := Variants.nat

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` . -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region: its host operations, then the region. -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Window 0's staging buffer holds its block at every point, for any proof data with the region-entry array. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1's staging buffer holds its block at every point, for any proof data with the region-entry array. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's staging buffer holds its block at every point, for any proof data with the region-entry array. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's staging buffer holds its block at every point, for any proof data with the region-entry array. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the pipeline's post, the argument array ends unchanged. -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 2).trans (((dats 0 c).arrAt_in 2 rfl _).trans ((hA c 2).trans (V_main_arg0 m c)))) h

/-! ## The body's branch conditions -/

/-- The condition of the body's conditional 0. -/
abbrev cond0_0 (i : grid0.Coords) : Prop := k0_cond1 i = 1#1
/-- It holds at the points ≡ 0 (mod 32) — by arithmetic of the point. -/
theorem hcond0_0 : ∀ t : Fin (cfg0 (F := F)).N, cond0_0 (grid0.coords t) ↔ t.val % 32 = 0 :=
  (fun t => by
    have ht : t.val < 128 := Nat.lt_of_lt_of_eq t.isLt N_0
    have e0 : (grid0.coords t 0).val = t.val / 64 % 2 := Pipeline.Grid.coords_val t 0 (by decide) rfl
    have e1 : (grid0.coords t 1).val = t.val / 32 % 2 := Pipeline.Grid.coords_val t 1 (by decide) rfl
    have e2 : (grid0.coords t 2).val = t.val / 1 % 32 := Pipeline.Grid.coords_val t 2 (by decide) rfl
    simp only [cond0_0, k0_cond1, e0, e1, e2]
    word_cmp
   : ∀ t : Fin grid0.N, cond0_0 (grid0.coords t) ↔ t.val % 32 = 0)

/-- The condition of the body's conditional 1. -/
abbrev cond0_1 (i : grid0.Coords) : Prop := k0_cond2 i = 1#1
/-- It holds at the points whose coordinates have 1 ≤ i2 — decided over the grid. -/
theorem hcond0_1 : ∀ t : Fin (cfg0 (F := F)).N, cond0_1 (grid0.coords t) ↔ 1 ≤ t.val % 32 :=
  (by decide +kernel : ∀ t : Fin grid0.N, cond0_1 (grid0.coords t) ↔ 1 ≤ t.val % 32)

/-! ## The kernel body on any staging memrefs: a subtype the run finds -/

/-- Each window's current staging memref at point `t`, spelled as the pipeline passes it (`bodyAt0`), and its wholeness. -/
abbrev ms0_0 (t : Fin (cfg0 (F := F)).N) : Memref sig .tc .vmem S1x256x128 .f32 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S1x8192x128 .f32 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S1x8192x128 .f32 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S256x256 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S1x256x128 .f32 := win0_4.stage ((cfg0 (F := F)).slots t 4)
abbrev hs0_4 (t : Fin (cfg0 (F := F)).N) : (ms0_4 t).IsWhole := hstage0_4 (((cfg0 (F := F)).slots t 4).cast nbuf0_4)
/-- The scratch operands: whole scoped buffers of the kernel's own, passed beside the windows. -/
abbrev scM0_0 : Memref sig .tc .vmem S2x256x128 .f32 := Memref.whole cc0_scratch0
abbrev scM0_1 : Memref sig .tc .vmem S2x256x1 .f32 := Memref.whole cc0_scratch1

/-- The region's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Proof.KI

end
-- ==== Proof.KI.Step.lean ====
module

public import proofs.«01_k».proof.Proof.KI.Kit

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-! ### What the body computes, block by block -/

/-- The two heads' accumulators and carried logarithms of one block of queries. -/
structure St (F : FTy → Type) where
  a0 : FVec F S1x256x128 .f32
  a1 : FVec F S1x256x128 .f32
  c0 : FVec F S1x256x1 .f32
  c1 : FVec F S1x256x1 .f32

theorem blk_inb (n : Fin 32) : ∀ a, (![0, 256 * n.val, 0] : Fin 3 → ℕ) a + S1x256x128.size a ≤ S1x8192x128.size a := by
  revert n; decide +kernel

/-- The rows of block `n`. -/
abbrev rBlk (n : Fin 32) : Rect S1x8192x128 := Rect.unit ![0, 256 * n.val, 0] S1x256x128.size (blk_inb n)

/-- Block `n` of the keys or of the values. -/
def kblk (X : Vec F S1x8192x128 .f32) (n : Fin 32) : Vec F S1x256x128 .f32 := View.ld X (rBlk n)

abbrev rA0 : Rect S2x256x128 := Rect.unit (s := S2x256x128) ![0, 0, 0] S1x256x128.size inb_S2x256x128_S1x256x128_0_0_0
abbrev rA1 : Rect S2x256x128 := Rect.unit (s := S2x256x128) ![1, 0, 0] S1x256x128.size inb_S2x256x128_S1x256x128_1_0_0
abbrev rC0 : Rect S2x256x1 := Rect.unit (s := S2x256x1) ![0, 0, 0] S1x256x1.size inb_S2x256x1_S1x256x1_0_0_0
abbrev rC1 : Rect S2x256x1 := Rect.unit (s := S2x256x1) ![1, 0, 0] S1x256x1.size inb_S2x256x1_S1x256x1_1_0_0
abbrev rCC : Rect S2x256x1 := Rect.unit (s := S2x256x1) ![0, 0, 0] S2x256x1.size inb_S2x256x1_S2x256x1_0_0_0

/-- The two heads' accumulators as the writes that leave them in the scratch, -/
abbrev piecesA (s : St F) : List (View.Piece (Elt F) S2x256x128 .f32) := [⟨rA1, s.a1⟩, ⟨rA0, s.a0⟩]
/-- and the carried logarithms. -/
abbrev piecesC (s : St F) : List (View.Piece (Elt F) S2x256x1 .f32) := [⟨rC1, s.c1⟩, ⟨rC0, s.c0⟩]

/-- Both heads' carried logarithms, as the loop's test reads them. -/
def carS (s : St F) : Vec F S2x256x1 .f32 := fun j => View.canon (piecesC s) (rCC.idx j)

/-- Before the first block. -/
def initS : St F where
  a0 := fun j => k0_pay65 (F := F) (rA0.idx j)
  a1 := fun j => k0_pay65 (F := F) (rA1.idx j)
  c0 := fun j => k0_pay66 (F := F) (rC0.idx j)
  c1 := fun j => k0_pay66 (F := F) (rC1.idx j)

/-- The diagonal block on its own (the first block of queries). -/
def diagA (v7 v12 : FVec F S256x128 .bf16) (v25 : FVec F S256x256 .bf16) (k v : Vec F S1x256x128 .f32) (s : St F) : St F where
  a0 := k0_pay21 k0_pay67 (k0_pay7 v) (k0_pay11 v7 k0_pay67 v25 k) s.c0 s.a0
  c0 := k0_pay22 (k0_pay12 v7 k0_pay67 k) s.c0
  a1 := k0_pay70 (k0_pay7 v) (k0_pay18 k0_pay67 v25 (k0_pay13 v12 k) (k0_pay14 v12 k) (k0_pay15 v12 k) (Scalar.ofBits .f32 0x00000000#32)) s.c1 s.a1
  c1 := k0_pay71 (k0_pay19 k0_pay67 (k0_pay14 v12 k) (k0_pay15 v12 k) (Scalar.ofBits .f32 0x00000000#32)) s.c1

/-- The diagonal block where a block lies before it. -/
def diagB (v7 v12 : FVec F S256x128 .bf16) (v25 : FVec F S256x256 .bf16) (k v : Vec F S1x256x128 .f32) (s : St F) : St F where
  a0 := k0_pay51 (k0_pay24 v) (k0_pay50 k0_pay67 (k0_pay28 v7 k0_pay67 v25 k) s.c0) s.a0
  c0 := k0_pay52 (k0_pay29 v7 k0_pay67 k) (k0_pay49 s.c0)
  a1 := k0_pay54 k0_pay67 (k0_pay24 v) (k0_pay35 k0_pay67 v25 (k0_pay30 v12 k) (k0_pay31 v12 k) (k0_pay32 v12 k) (Scalar.ofBits .f32 0x00000000#32)) s.c1 s.a1
  c1 := k0_pay55 (k0_pay36 k0_pay67 (k0_pay31 v12 k) (k0_pay32 v12 k) (Scalar.ofBits .f32 0x00000000#32)) s.c1

/-- The block before the diagonal one. -/
def neighB (v7 v12 : FVec F S256x128 .bf16) (v25 : FVec F S256x256 .bf16) (k v : Vec F S1x256x128 .f32) (s : St F) : St F where
  a0 := k0_pay57 (k0_pay38 v) (k0_pay42 v25 (k0_pay39 v7 k) (k0_pay40 v7 k) (k0_pay41 v7 k)) s.c0 s.a0
  c0 := k0_pay58 (k0_pay43 (k0_pay41 v7 k)) s.c0
  a1 := k0_pay60 (k0_pay38 v) (k0_pay47 v12 v25 (k0_pay37 k)) s.c1 s.a1
  c1 := k0_pay61 (k0_pay48 v12 (k0_pay37 k)) s.c1

/-- One trip of the loop. -/
def stepS (v7 v12 : FVec F S256x128 .bf16) (v25 : FVec F S256x256 .bf16) (k v : Vec F S1x256x128 .f32) (s : St F) : St F where
  a0 := k0_pay86 (k0_pay73 v) (k0_pay77 v7 v25 k) s.c0 s.a0
  c0 := k0_pay87 (k0_pay78 v7 k) s.c0
  a1 := k0_pay3 (k0_pay73 v) (k0_pay89 v25 (k0_pay79 v12 k) (k0_pay80 v12 k) (k0_pay81 v12 k) s.c1) s.a1
  c1 := k0_pay4 (k0_pay84 (k0_pay80 v12 k) (k0_pay81 v12 k)) (k0_pay88 s.c1)

/-- The loop over the `n` blocks below, nearest first, while some carried logarithm is above the threshold. -/
def loopS (v7 v12 : FVec F S256x128 .bf16) (v25 : FVec F S256x256 .bf16) (K V : Vec F S1x8192x128 .f32) : ℕ → St F → St F
  | 0, s => s
  | n + 1, s =>
    if Scalar.cmpf .ogt (k0_pay5 (carS s)) (Named.named κ "underflow" 0xC2C80000#32) = 1#1 then
      loopS v7 v12 v25 K V n (stepS v7 v12 v25 (kblk K (Fin.ofNat 32 n)) (kblk V (Fin.ofNat 32 n)) s)
    else s

/-- All the blocks of keys of query block `i`. -/
def allS (v7 v12 : FVec F S256x128 .bf16) (v25 : FVec F S256x256 .bf16) (K V : Vec F S1x8192x128 .f32) (i : Fin 32) : St F :=
  if i.val = 0 then diagA v7 v12 v25 (kblk K i) (kblk V i) initS
  else loopS v7 v12 v25 K V (i.val - 1)
    (neighB v7 v12 v25 (kblk K (Fin.ofNat 32 (i.val - 1))) (kblk V (Fin.ofNat 32 (i.val - 1)))
      (diagB v7 v12 v25 (kblk K i) (kblk V i) initS))

/-- The block of results the body leaves, from the blocks it is given. -/
def outS (Q : Vec F S1x256x128 .f32) (K V : Vec F S1x8192x128 .f32) (L : Vec F S256x256 .bf16) (i : Fin 32) : Vec F S1x256x128 .f32 :=
  let s := allS (k0_pay63 Q) (k0_pay64 Q) (k0_pay68 L) K V i
  k0_pay2 (iota .tc S256x128 32 [1] iota_S256x128_d1_w32) s.a0 s.a1

end Cert.Proof.KI
end
-- ==== Proof.KI.Read.lean ====
module

public import proofs.«01_k».proof.Proof.KI.Step
public import Idealize.ShloMosaic.Lib.Tactic.Stretches

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ### Reading the scratch back -/

theorem kblk_of {sp : Space} (v : View sig .tc sp S1x8192x128 .f32) (f : v.ty.Contents (Elt F)) (n : Fin 32) (off : Fin 3 → ℕ)
    (h : ∀ a, off a + S1x256x128.size a ≤ S1x8192x128.size a) (e : off = ![0, 256 * n.val, 0]) :
    v.readAt (Elt F) (Rect.unit (s := S1x8192x128) off S1x256x128.size h).toLoadRect f = kblk (v.read (Elt F) f) n := by
  subst e; rfl

theorem disjA : Disjoint rA1.set rA0.set := Rect.unit_disjoint 0 (by decide)
theorem disjA' : Disjoint rA0.set rA1.set := Rect.unit_disjoint 0 (by decide)
theorem disjC : Disjoint rC1.set rC0.set := Rect.unit_disjoint 0 (by decide)
theorem disjC' : Disjoint rC0.set rC1.set := Rect.unit_disjoint 0 (by decide)

section
variable {sp : Space} (u : View sig .tc sp S2x256x128 .f32) (w : View sig .tc sp S2x256x1 .f32)

theorem skip {s : Shape} {e : EltTy} (v : View sig .tc sp s e) {r r' : Rect s} (h : Disjoint r.set r'.set) (x : r.shape.Idx → Elt F e)
    (L : List (View.Piece (Elt F) s e)) : v.readCov (⟨r, x⟩ :: L) r'.toLoadRect = v.readCov L r'.toLoadRect :=
  View.readCov_cons_of_disjoint v ⟨r, x⟩ L _ h

theorem coverC (s : St F) (y : S2x256x1.Idx) : ∃ p ∈ piecesC s, y ∈ p.1.set := by
  have h0 : (y 0).val < 2 := (y 0).isLt
  have h1 : (y 1).val < 256 := (y 1).isLt
  have h2 : (y 2).val < 1 := (y 2).isLt
  by_cases h : (y 0).val = 0
  · refine ⟨⟨rC0, s.c0⟩, by simp, (Rect.mem_set_unit (inb := inb_S2x256x1_S1x256x1_0_0_0)).mpr fun a => ?_⟩
    match a with
    | ⟨0, _⟩ => exact ⟨Nat.zero_le _, by show (y 0).val < 0 + 1; omega⟩
    | ⟨1, _⟩ => exact ⟨Nat.zero_le _, by show (y 1).val < 0 + 256; omega⟩
    | ⟨2, _⟩ => exact ⟨Nat.zero_le _, by show (y 2).val < 0 + 1; omega⟩
  · refine ⟨⟨rC1, s.c1⟩, by simp, (Rect.mem_set_unit (inb := inb_S2x256x1_S1x256x1_1_0_0)).mpr fun a => ?_⟩
    match a with
    | ⟨0, _⟩ => exact ⟨by show 1 ≤ (y 0).val; omega, by show (y 0).val < 1 + 1; omega⟩
    | ⟨1, _⟩ => exact ⟨Nat.zero_le _, by show (y 1).val < 0 + 256; omega⟩
    | ⟨2, _⟩ => exact ⟨Nat.zero_le _, by show (y 2).val < 0 + 1; omega⟩

/-- Both heads' carried logarithms read back. -/
theorem rcCC (s : St F) (L : List (View.Piece (Elt F) S2x256x1 .f32)) (j : rCC.toLoadRect.shape.Idx) :
    w.readCov (piecesC s ++ L) rCC.toLoadRect j = carS s j :=
  View.read_writes_apply_eq_canon w (w.writes (Elt F) w.junk L) _ (piecesC s) (coverC s _)

end

end Cert.Proof.KI
end
-- ==== Proof.KI.Loop.lean ====
module

public import proofs.«01_k».proof.Proof.KI.Read
public import Idealize.ShloMosaic.Lib.Tactic.Stretches

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (c : Dev nD) (i : grid0.Coords) (arg4 : Memref sig .tc .vmem S1x8192x128 .f32) (harg4 : arg4.IsWhole) (arg5 : Memref sig .tc .vmem S1x8192x128 .f32) (harg5 : arg5.IsWhole)
  (arg8 : Memref sig .tc .vmem S2x256x128 .f32) (harg8 : arg8.IsWhole) (arg9 : Memref sig .tc .vmem S2x256x1 .f32) (harg9 : arg9.IsWhole)
  (v7 : FVec F S256x128 .bf16) (v25 : FVec F S256x256 .bf16) (v12 : FVec F S256x128 .bf16)

theorem chk_of_lt (n : Fin 32) : k0_chk1 (BitVec.ofNat 32 n.val) := by
  unfold k0_chk1
  have h : ∀ n : Fin 32, (256 ∣ (k0_mult4 (BitVec.ofNat 32 n.val)).toNat) ∧
    (∀ a, (k0_off4 (BitVec.ofNat 32 n.val)) a + S1x256x128.size a ≤ S1x8192x128.size a) := by decide +kernel
  exact h n

theorem off4_eq (n : Fin 32) : k0_off4 (BitVec.ofNat 32 n.val) = ![0, 256 * n.val, 0] := by
  funext a
  have h : ∀ n : Fin 32, ∀ a : Fin 3, k0_off4 (BitVec.ofNat 32 n.val) a = (![0, 256 * n.val, 0] : Fin 3 → ℕ) a := by decide +kernel
  exact h n a

variable (f4 : Buf (Elt F) (arg4.view.loc (c : Thread nD τ))) (f5 : Buf (Elt F) (arg5.view.loc (c : Thread nD τ)))

/-- The buffers the loop reads and writes. -/
def held (f8 : Buf (Elt F) (arg8.view.loc (c : Thread nD τ))) (f9 : Buf (Elt F) (arg9.view.loc (c : Thread nD τ))) (s : St F) : sProp 𝕄 :=
  iprop((arg4.view.loc (c : Thread nD τ) ↦[arg4.view.set]{fullShare} f4) ∗ (arg5.view.loc (c : Thread nD τ) ↦[arg5.view.set]{fullShare} f5)
    ∗ (arg8.view.loc (c : Thread nD τ) ↦[arg8.view.set]{fullShare} arg8.view.writes (Elt F) f8 (piecesA s))
    ∗ (arg9.view.loc (c : Thread nD τ) ↦[arg9.view.set]{fullShare} arg9.view.writes (Elt F) f9 (piecesC s)))

/-- The loop's specification at `n` blocks left: it ends with some counter and test value, the scratch at `loopS`. -/
def spec (f8 : Buf (Elt F) (arg8.view.loc (c : Thread nD τ))) (f9 : Buf (Elt F) (arg9.view.loc (c : Thread nD τ))) (n : ℕ) (s : St F) :
    sWPT 𝕄 (BitVec 32 × F .f32) := do
  sWPT.consume (held c arg4 arg5 arg8 arg9 f4 f5 f8 f9 s)
  let r ← sWPT.arbitrary
  sWPT.produce iprop(∃ g8 g9, held c arg4 arg5 arg8 arg9 f4 f5 g8 g9
    (loopS v7 v12 v25 (arg4.view.read (Elt F) f4) (arg5.view.read (Elt F) f5) n s))
  pure r

theorem spec_apply (f8 : Buf (Elt F) (arg8.view.loc (c : Thread nD τ))) (f9 : Buf (Elt F) (arg9.view.loc (c : Thread nD τ))) (n : ℕ) (s : St F)
    (K : BitVec 32 × F .f32 → sProp 𝕄) :
    spec c arg4 arg5 arg8 arg9 v7 v25 v12 f4 f5 f8 f9 n s K
      = iprop(held c arg4 arg5 arg8 arg9 f4 f5 f8 f9 s ∗ ∀ r : BitVec 32 × F .f32,
        ((∃ g8 g9, held c arg4 arg5 arg8 arg9 f4 f5 g8 g9
          (loopS v7 v12 v25 (arg4.view.read (Elt F) f4) (arg5.view.read (Elt F) f5) n s)) -∗ K r)) := rfl

set_option maxHeartbeats 1000000 in
theorem trip (E : Set ℕ) (K : BitVec 32 × F .f32 → sProp 𝕄) (n : Fin 32) (s : St F) (k : ℕ)
    (h : Scalar.cmpf .ogt (k0_pay5 (carS s)) (Named.named κ "underflow" 0xC2C80000#32) = 1#1)
    (f8 : Buf (Elt F) (arg8.view.loc (c : Thread nD τ))) (f9 : Buf (Elt F) (arg9.view.loc (c : Thread nD τ)))
    (ih : ∀ g8 g9 s', spec c arg4 arg5 arg8 arg9 v7 v25 v12 f4 f5 g8 g9 n.val s' ≤
      wp frame (wpE (defs₀ (F := F)) 𝒱₀ (c : Thread nD τ) (some k)) E
        (defs₀ (F := F) .tc 1 ⟨i, arg4, harg4, arg5, harg5, v7, v25, v12, arg9, harg9, arg8, harg8,
          Scalar.subi (BitVec.ofNat 32 n.val) 1#32, k0_pay5 (carS s')⟩)) :
    spec c arg4 arg5 arg8 arg9 v7 v25 v12 f4 f5 f8 f9 (n.val + 1) s K
     ⊢ wp frame (wpE (defs₀ (F := F)) 𝒱₀ (c : Thread nD τ) (some (k + 1))) E
      (cc0_while1 i arg4 harg4 arg5 harg5 v7 v25 v12 arg9 harg9 arg8 harg8 (BitVec.ofNat 32 n.val) (k0_pay5 (carS s))) K := by
  rw [spec_apply, loopS, if_pos h]
  simp only [cc0_while1_eq_skeleton]; unfold cc0_while1_skel
  simp only [k0_part9_eq_skeleton, k0_part10_eq_skeleton]
  have hsge : Scalar.cmpi .sge (BitVec.ofNat 32 n.val) 0#32 = 1#1 := by
    have : ∀ n : Fin 32, Scalar.cmpi .sge (BitVec.ofNat 32 n.val) 0#32 = 1#1 := by decide +kernel
    exact this n
  have hand : Scalar.andi (1#1) (1#1) = 1#1 := by decide
  simp only [h, hsge, hand, ↓reduceIte]
  have hchk := chk_of_lt n
  unfold held
  iintro ⟨⟨H4, H5, H8, H9⟩, Hk⟩
  sl_exec
  have hn : Fin.ofNat 32 n.val = n := Fin.ext (Nat.mod_eq_of_lt n.isLt)
  sl_open_run
  simp only [skip _ disjA', skip _ disjA, skip _ disjC, skip _ disjC', View.readCov_cons_toLoadRect, kblk_of _ _ n _ _ (off4_eq n), hn]
  generalize hw : k0_pay5 (F := F) (arg9.view.readCov _ rCC.toLoadRect) = W
  obtain rfl : W = k0_pay5 (carS (stepS v7 v12 v25 (kblk (arg4.view.read (Elt F) f4) n) (kblk (arg5.view.read (Elt F) f5) n) s)) := by
    rw [← hw]
    exact congrArg k0_pay5 (funext fun j => rcCC arg9.view (stepS v7 v12 v25 (kblk (arg4.view.read (Elt F) f4) n) (kblk (arg5.view.read (Elt F) f5) n) s) (piecesC s) j)
  clear hw
  iapply (wp_call_spec 𝒱₀ (c : Thread nD τ) (some (k + 1)) E
    (spec c arg4 arg5 arg8 arg9 v7 v25 v12 f4 f5 (arg8.view.writes (Elt F) f8 (piecesA s)) (arg9.view.writes (Elt F) f9 (piecesC s)) n.val
      (stepS v7 v12 v25 (kblk (arg4.view.read (Elt F) f4) n) (kblk (arg5.view.read (Elt F) f5) n) s)) k
    (fun u hu => by cases hu; exact Nat.lt_succ_self k) (ih _ _ _))
  rw [spec_apply]; unfold held
  isplitl [H4 H5 H8 H9]
  · isplitl [H4]; · iexact H4
    isplitl [H5]; · iexact H5
    isplitl [H8]; · iexact H8
    iexact H9
  iintro %r H
  rw [wp_ret]; imodintro
  iapply Hk
  iexact H

omit [FloatOps F] [Named F] in
theorem andi_eq_one (a b : BitVec 1) : Scalar.andi a b = 1#1 ↔ a = 1#1 ∧ b = 1#1 := by
  revert a b; decide

/-- Where the test fails the loop ends at once. -/
theorem loop_end (E : Set ℕ) (K : BitVec 32 × F .f32 → sProp 𝕄) (n k : ℕ) (j : BitVec 32) (s : St F)
    (h : ¬Scalar.andi (Scalar.cmpi .sge j 0#32) (Scalar.cmpf .ogt (k0_pay5 (carS s)) (Named.named κ "underflow" 0xC2C80000#32)) = 1#1)
    (hl : loopS v7 v12 v25 (arg4.view.read (Elt F) f4) (arg5.view.read (Elt F) f5) n s = s)
    (f8 : Buf (Elt F) (arg8.view.loc (c : Thread nD τ))) (f9 : Buf (Elt F) (arg9.view.loc (c : Thread nD τ))) :
    spec c arg4 arg5 arg8 arg9 v7 v25 v12 f4 f5 f8 f9 n s K
     ⊢ wp frame (wpE (defs₀ (F := F)) 𝒱₀ (c : Thread nD τ) (some k)) E
      (cc0_while1 i arg4 harg4 arg5 harg5 v7 v25 v12 arg9 harg9 arg8 harg8 j (k0_pay5 (carS s))) K := by
  rw [spec_apply, hl]
  simp only [cc0_while1_eq_skeleton]; unfold cc0_while1_skel
  simp only [h, ↓reduceIte, Prog.pure_eq_ret]
  iintro ⟨H, Hk⟩
  rw [wp_ret]; imodintro
  iapply Hk
  iexists f8, f9
  iexact H

/-- The loop's specification is met by the label's body entered at variant `n`, the blocks left. -/
theorem spec_le (E : Set ℕ) : ∀ n, n ≤ 32 → ∀ (j : BitVec 32), (∀ m : ℕ, n = m + 1 → j = BitVec.ofNat 32 m) →
    (n = 0 → ¬Scalar.cmpi .sge j 0#32 = 1#1) → ∀ f8 f9 s K,
    spec c arg4 arg5 arg8 arg9 v7 v25 v12 f4 f5 f8 f9 n s K ⊢
      wp frame (wpE (defs₀ (F := F)) 𝒱₀ (c : Thread nD τ) (some n)) E
        (defs₀ (F := F) .tc 1 ⟨i, arg4, harg4, arg5, harg5, v7, v25, v12, arg9, harg9, arg8, harg8, j, k0_pay5 (carS s)⟩) K := by
  intro n
  induction n with
  | zero =>
    intro hn j _ hj0 f8 f9 s K
    show _ ⊢ wp frame (wpE (defs₀ (F := F)) 𝒱₀ (c : Thread nD τ) (some 0)) E
      (cc0_while1 i arg4 harg4 arg5 harg5 v7 v25 v12 arg9 harg9 arg8 harg8 j (k0_pay5 (carS s))) K
    exact loop_end c i arg4 harg4 arg5 harg5 arg8 harg8 arg9 harg9 v7 v25 v12 f4 f5 E K 0 0 j s
      (fun h => hj0 rfl ((andi_eq_one _ _).mp h).1) rfl f8 f9
  | succ n ih =>
    intro hn j hj _ f8 f9 s K
    obtain rfl := hj n rfl
    show _ ⊢ wp frame (wpE (defs₀ (F := F)) 𝒱₀ (c : Thread nD τ) (some (n + 1))) E
      (cc0_while1 i arg4 harg4 arg5 harg5 v7 v25 v12 arg9 harg9 arg8 harg8 (BitVec.ofNat 32 n) (k0_pay5 (carS s))) K
    by_cases h : Scalar.cmpf .ogt (k0_pay5 (carS s)) (Named.named κ "underflow" 0xC2C80000#32) = 1#1
    · refine trip c i arg4 harg4 arg5 harg5 arg8 harg8 arg9 harg9 v7 v25 v12 f4 f5 E K ⟨n, by omega⟩ s n h f8 f9 fun g8 g9 s' K' => ?_
      refine ih (by omega) _ (fun m hm => ?_) (fun h0 => ?_) g8 g9 s' K'
      · have : ∀ m : Fin 32, Scalar.subi (BitVec.ofNat 32 (m.val + 1)) 1#32 = BitVec.ofNat 32 m.val := by decide +kernel
        subst hm; exact this ⟨m, by omega⟩
      · subst h0; show ¬Scalar.cmpi .sge (Scalar.subi (BitVec.ofNat 32 0) 1#32) 0#32 = 1#1; decide
    · exact loop_end c i arg4 harg4 arg5 harg5 arg8 harg8 arg9 harg9 v7 v25 v12 f4 f5 E K (n + 1) (n + 1) _ s
        (fun h' => h ((andi_eq_one _ _).mp h').2) (by rw [loopS, if_neg h]) f8 f9
end
end Cert.Proof.KI
end
-- ==== Proof.KI.Body.lean ====
module

public import proofs.«01_k».proof.Proof.KI.Loop
public import Idealize.ShloMosaic.Lib.Pipeline.Value
public import Idealize.ShloMosaic.Lib.Tactic.Stretches

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ### The body's run, to the block of results it leaves -/

/-- A point's query block. -/
def qi (i : grid0.Coords) : Fin 32 := ⟨(i 2).val, (i 2).isLt⟩

theorem off1_eq (i : grid0.Coords) : k0_off1 i = ![0, 256 * (qi i).val, 0] := by
  have h : ∀ n : Fin 32, (![0, (Scalar.indexCast (Scalar.muli (BitVec.ofNat 32 n.val) 256#32) : Index).toNat, 0] : Fin 3 → ℕ) = ![0, 256 * n.val, 0] := by
    decide +kernel
  exact h (qi i)

theorem off2_eq (i : grid0.Coords) : k0_off2 i = ![0, 256 * (qi i).val, 0] := off1_eq i

theorem off3_eq (i : grid0.Coords) (h0 : (qi i).val ≠ 0) : k0_off3 i = ![0, 256 * (Fin.ofNat 32 ((qi i).val - 1)).val, 0] := by
  have h : ∀ n : Fin 32, n.val ≠ 0 → (![0, (Scalar.indexCast (Scalar.muli (Scalar.subi (BitVec.ofNat 32 n.val) 1#32) 256#32) : Index).toNat, 0] : Fin 3 → ℕ)
      = ![0, 256 * (Fin.ofNat 32 (n.val - 1)).val, 0] := by
    decide +kernel
  exact h (qi i) h0

theorem cond1_iff (i : grid0.Coords) : cond0_0 i ↔ (qi i).val = 0 := by
  have h : ∀ n : Fin 32, Scalar.cmpi .ne (Scalar.extui (Scalar.cmpi .eq (BitVec.ofNat 32 n.val) 0#32) : BitVec 32) 0#32 = 1#1 ↔ n.val = 0 := by
    decide +kernel
  exact h (qi i)

theorem cond2_iff (i : grid0.Coords) : cond0_1 i ↔ (qi i).val ≠ 0 := by
  have h : ∀ n : Fin 32, Scalar.cmpi .ne (Scalar.extui (Scalar.cmpi .sgt (BitVec.ofNat 32 n.val) 0#32) : BitVec 32) 0#32 = 1#1 ↔ n.val ≠ 0 := by
    decide +kernel
  exact h (qi i)

theorem ctr0 (i : grid0.Coords) : ∀ n : Fin 32, (∀ m : ℕ, n.val - 1 = m + 1 → Scalar.subi (BitVec.ofNat 32 n.val) 2#32 = BitVec.ofNat 32 m)
    ∧ (n.val - 1 = 0 → ¬Scalar.cmpi .sge (Scalar.subi (BitVec.ofNat 32 n.val) 2#32) 0#32 = 1#1) := by
  intro n
  have h1 : ∀ m : Fin 30, Scalar.subi (BitVec.ofNat 32 (m.val + 2)) 2#32 = BitVec.ofNat 32 m.val := by decide +kernel
  have h2 : ∀ n : Fin 32, n.val - 1 = 0 → ¬Scalar.cmpi .sge (Scalar.subi (BitVec.ofNat 32 n.val) 2#32) 0#32 = 1#1 := by decide +kernel
  refine ⟨fun m hm => ?_, h2 n⟩
  have hn : n.val = m + 2 := by omega
  rw [hn]; exact h1 ⟨m, by have := n.isLt; omega⟩

abbrev rAA : Rect S2x256x128 := Rect.unit (s := S2x256x128) ![0, 0, 0] S2x256x128.size inb_S2x256x128_S2x256x128_0_0_0

theorem hz3 : (![0, 0, 0] : Fin 3 → ℕ) = fun _ => 0 := by
  funext a; match a with | ⟨0, _⟩ => rfl | ⟨1, _⟩ => rfl | ⟨2, _⟩ => rfl

theorem hz2 : (![0, 0] : Fin 2 → ℕ) = fun _ => 0 := by
  funext a; match a with | ⟨0, _⟩ => rfl | ⟨1, _⟩ => rfl

theorem rdFull {sp : Space} {s : Shape} {e : EltTy} (v : View sig .tc sp s e) {off : Fin s.rank → ℕ} (h : off = fun _ => 0)
    (inb : ∀ a, off a + s.size a ≤ s.size a) (f : v.ty.Contents (Elt F)) :
    v.readAt (Elt F) (Rect.unit off s.size inb).toLoadRect f = v.read (Elt F) f := by
  subst h; rw [View.readAt_eq_ld, View.ld_unit_zero rfl]

theorem init {sp : Space} {s : Shape} {e : EltTy} (v : View sig .tc sp s e) {off : Fin s.rank → ℕ} (h : off = fun _ => 0)
    (inb : ∀ a, off a + s.size a ≤ s.size a) (x : s.Idx → Elt F e) (B : LoadRect s) :
    v.readCov [(⟨Rect.unit off s.size inb, x⟩ : View.Piece (Elt F) s e)] B = fun j => x (B.idx j) := by
  rw [View.readCov_eq_canon', View.canon_unit_zero h]

set_option maxHeartbeats 2000000 in
theorem runA (c : Dev nD) (i : grid0.Coords) (arg3 : Memref sig .tc .vmem S1x256x128 .f32) (harg3 : arg3.IsWhole) (arg4 : Memref sig .tc .vmem S1x8192x128 .f32) (harg4 : arg4.IsWhole) (arg5 : Memref sig .tc .vmem S1x8192x128 .f32) (harg5 : arg5.IsWhole) (arg6 : Memref sig .tc .vmem S256x256 .bf16) (harg6 : arg6.IsWhole) (arg7 : Memref sig .tc .vmem S1x256x128 .f32) (harg7 : arg7.IsWhole) (arg8 : Memref sig .tc .vmem S2x256x128 .f32) (harg8 : arg8.IsWhole) (arg9 : Memref sig .tc .vmem S2x256x1 .f32) (harg9 : arg9.IsWhole) (hc0 : cond0_0 i) (hc1 : ¬cond0_1 i)
    (x0 : Vec F S1x256x128 .f32) (x1 : Vec F S1x8192x128 .f32) (x2 : Vec F S1x8192x128 .f32) (x3 : Vec F S256x256 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outS x0 x1 x2 x3 (qi i)) ∗ (∃ d, owns (c : Thread nD τ) arg8 fullShare d) ∗ (∃ d, owns (c : Thread nD τ) arg9 fullShare d)) -∗ K ⟨⟩))
          ⊢ wp frame (wpE (defs₀ (F := F)) 𝒱₀ c none) E (cc0_attention i arg3 harg3 arg4 harg4 arg5 harg5 arg6 harg6 arg7 harg7 arg8 harg8 arg9 harg9) K := by
    intro E K
    simp only [cc0_attention_eq_skeleton]; unfold cc0_attention_skel
    simp only [k0_part8_eq_skeleton]; unfold k0_part8_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_open_run
    simp only [skip _ disjA', skip _ disjA, skip _ disjC, skip _ disjC', View.readCov_cons_toLoadRect, init arg8.view hz3, init arg9.view hz3, kblk_of _ _ (qi i) _ _ (off1_eq i)]
    simp only [rdFull arg3.view hz3, rdFull arg6.view hz2, harg3.read_unread, harg4.read_unread, harg5.read_unread, harg6.read_unread]
    generalize hw : k0_pay1 (F := F) (arg9.view.readCov _ rCC.toLoadRect) = W
    generalize hS : diagA (k0_pay63 x0) (k0_pay64 x0) (k0_pay68 x3) (kblk x1 (qi i)) (kblk x2 (qi i)) initS = S
    have hall : allS (k0_pay63 x0) (k0_pay64 x0) (k0_pay68 x3) x1 x2 (qi i) = S := by
      rw [allS, if_pos ((cond1_iff i).mp hc0), hS]
    have hn0 : (qi i).val - 1 = 0 := by
      have := (cond1_iff i).mp hc0
      clear hS hall hw
      omega
    obtain rfl : W = k0_pay5 (carS S) := by
      rw [← hw, ← hS]
      exact congrArg k0_pay5 (funext fun j => rcCC arg9.view (diagA (k0_pay63 x0) (k0_pay64 x0) (k0_pay68 x3) (kblk x1 (qi i)) (kblk x2 (qi i)) initS) [⟨rCC, k0_pay66⟩] j)
    clear hw
    iapply (wp_call_spec 𝒱₀ (c : Thread nD τ) none E
      (spec c arg4 arg5 arg8 arg9 (k0_pay63 x0) (k0_pay68 x3) (k0_pay64 x0) (harg4.unread x1) (harg5.unread x2)
        (arg8.view.writes (Elt F) fs0 [⟨rAA, k0_pay65⟩]) (arg9.view.writes (Elt F) fs1 [⟨rCC, k0_pay66⟩]) ((qi i).val - 1) S) ((qi i).val - 1)
      (fun u hu => nomatch hu) (fun K' => spec_le c i arg4 harg4 arg5 harg5 arg8 harg8 arg9 harg9 _ _ _ _ _ E _ (by omega) _
        (ctr0 i (qi i)).1 (ctr0 i (qi i)).2 _ _ _ K'))
    rw [spec_apply]; unfold held
    simp only [harg4.read_unread, harg5.read_unread, hn0, loopS]
    isplitl [H1 H2 HS0 HS1]
    · isplitl [H1]; · iexact H1
      isplitl [H2]; · iexact H2
      rw [← hS]
      isplitl [HS0]; · iexact HS0
      iexact HS1
    iintro %r ⟨%g8, %g9, H1, H2, HS0, HS1⟩
    sl_exec
    sl_step
    sl_open_run
    simp only [skip _ disjA', skip _ disjA, skip _ disjC, skip _ disjC', View.readCov_cons_toLoadRect]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      exact (View.read_writes_eq_canon _ _ _ (fun y => ⟨_, List.mem_singleton_self _, View.mem_set_unit_zero hz3 inb_S1x256x128_S1x256x128_0_0_0 y⟩)).trans
        ((View.canon_unit_zero hz3 inb_S1x256x128_S1x256x128_0_0_0 _).trans (by rw [outS, hall]))
    isplitl [HS0]
    · iexists _, _; isplitr; swap; · iexact HS0
      ipureintro; rfl
    iexists _, _; isplitr; swap; · iexact HS1
    ipureintro; rfl

end Cert.Proof.KI
end
-- ==== Proof.KI.BodyB.lean ====
module

public import proofs.«01_k».proof.Proof.KI.Body
public import Idealize.ShloMosaic.Lib.Tactic.Stretches

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body where a block lies before the diagonal one. -/
theorem runB (c : Dev nD) (i : grid0.Coords) (arg3 : Memref sig .tc .vmem S1x256x128 .f32) (harg3 : arg3.IsWhole) (arg4 : Memref sig .tc .vmem S1x8192x128 .f32) (harg4 : arg4.IsWhole) (arg5 : Memref sig .tc .vmem S1x8192x128 .f32) (harg5 : arg5.IsWhole) (arg6 : Memref sig .tc .vmem S256x256 .bf16) (harg6 : arg6.IsWhole) (arg7 : Memref sig .tc .vmem S1x256x128 .f32) (harg7 : arg7.IsWhole) (arg8 : Memref sig .tc .vmem S2x256x128 .f32) (harg8 : arg8.IsWhole) (arg9 : Memref sig .tc .vmem S2x256x1 .f32) (harg9 : arg9.IsWhole) (hc0 : ¬cond0_0 i) (hc1 : cond0_1 i)
    (x0 : Vec F S1x256x128 .f32) (x1 : Vec F S1x8192x128 .f32) (x2 : Vec F S1x8192x128 .f32) (x3 : Vec F S256x256 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outS x0 x1 x2 x3 (qi i)) ∗ (∃ d, owns (c : Thread nD τ) arg8 fullShare d) ∗ (∃ d, owns (c : Thread nD τ) arg9 fullShare d)) -∗ K ⟨⟩))
          ⊢ wp frame (wpE (defs₀ (F := F)) 𝒱₀ c none) E (cc0_attention i arg3 harg3 arg4 harg4 arg5 harg5 arg6 harg6 arg7 harg7 arg8 harg8 arg9 harg9) K := by
    intro E K
    simp only [cc0_attention_eq_skeleton]; unfold cc0_attention_skel
    simp only [k0_part8_eq_skeleton]; unfold k0_part8_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_open_run
    simp only [skip _ disjA', skip _ disjA, skip _ disjC, skip _ disjC', View.readCov_cons_toLoadRect, init arg8.view hz3, init arg9.view hz3, kblk_of _ _ (qi i) _ _ (off2_eq i), kblk_of _ _ (Fin.ofNat 32 ((qi i).val - 1)) _ _ (off3_eq i ((cond2_iff i).mp hc1))]
    simp only [rdFull arg3.view hz3, rdFull arg6.view hz2, harg3.read_unread, harg4.read_unread, harg5.read_unread, harg6.read_unread]
    generalize hw : k0_pay1 (F := F) (arg9.view.readCov _ rCC.toLoadRect) = W
    generalize hT : diagB (k0_pay63 x0) (k0_pay64 x0) (k0_pay68 x3) (kblk x1 (qi i)) (kblk x2 (qi i)) initS = T
    generalize hS : neighB (k0_pay63 x0) (k0_pay64 x0) (k0_pay68 x3) (kblk x1 (Fin.ofNat 32 ((qi i).val - 1))) (kblk x2 (Fin.ofNat 32 ((qi i).val - 1))) T = S
    have hall : allS (k0_pay63 x0) (k0_pay64 x0) (k0_pay68 x3) x1 x2 (qi i)
        = loopS (k0_pay63 x0) (k0_pay64 x0) (k0_pay68 x3) x1 x2 ((qi i).val - 1) S := by
      rw [allS, if_neg ((cond2_iff i).mp hc1), hT, hS]
    obtain rfl : W = k0_pay5 (carS S) := by
      rw [← hw, ← hS, ← hT]
      have e15 : ∀ X, k0_pay1 (F := F) X = k0_pay5 X := fun _ => rfl
      rw [e15]
      refine congrArg k0_pay5 (funext fun j => Eq.trans ?_ (rcCC arg9.view (neighB (k0_pay63 x0) (k0_pay64 x0) (k0_pay68 x3) (kblk x1 (Fin.ofNat 32 ((qi i).val - 1))) (kblk x2 (Fin.ofNat 32 ((qi i).val - 1))) (diagB (k0_pay63 x0) (k0_pay64 x0) (k0_pay68 x3) (kblk x1 (qi i)) (kblk x2 (qi i)) initS)) (piecesC (diagB (k0_pay63 x0) (k0_pay64 x0) (k0_pay68 x3) (kblk x1 (qi i)) (kblk x2 (qi i)) initS) ++ [⟨rCC, k0_pay66⟩]) j))
      dsimp only [piecesC, neighB, diagB, initS, List.cons_append, List.nil_append]
      rfl
    clear hw
    have hlt : (qi i).val < 32 := (qi i).isLt
    iapply (wp_call_spec 𝒱₀ (c : Thread nD τ) none E
      (spec c arg4 arg5 arg8 arg9 (k0_pay63 x0) (k0_pay68 x3) (k0_pay64 x0) (harg4.unread x1) (harg5.unread x2)
        (arg8.view.writes (Elt F) (arg8.view.writes (Elt F) fs0 [⟨rAA, k0_pay65⟩]) (piecesA T)) (arg9.view.writes (Elt F) (arg9.view.writes (Elt F) fs1 [⟨rCC, k0_pay66⟩]) (piecesC T)) ((qi i).val - 1) S) ((qi i).val - 1)
      (fun u hu => nomatch hu) (fun K' => spec_le c i arg4 harg4 arg5 harg5 arg8 harg8 arg9 harg9 _ _ _ _ _ E _ (by omega) _
        (ctr0 i (qi i)).1 (ctr0 i (qi i)).2 _ _ _ K'))
    rw [spec_apply]; unfold held
    simp only [harg4.read_unread, harg5.read_unread]
    isplitl [H1 H2 HS0 HS1]
    · isplitl [H1]; · iexact H1
      isplitl [H2]; · iexact H2
      rw [← hS, ← hT]
      isplitl [HS0]; · iexact HS0
      iexact HS1
    iintro %r ⟨%g8, %g9, H1, H2, HS0, HS1⟩
    sl_exec
    sl_step
    sl_open_run
    simp only [skip _ disjA', skip _ disjA, skip _ disjC, skip _ disjC', View.readCov_cons_toLoadRect]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      exact (View.read_writes_eq_canon _ _ _ (fun y => ⟨_, List.mem_singleton_self _, View.mem_set_unit_zero hz3 inb_S1x256x128_S1x256x128_0_0_0 y⟩)).trans
        ((View.canon_unit_zero hz3 inb_S1x256x128_S1x256x128_0_0_0 _).trans (by rw [outS, hall]))
    isplitl [HS0]
    · iexists _, _; isplitr; swap; · iexact HS0
      ipureintro; rfl
    iexists _, _; isplitr; swap; · iexact HS1
    ipureintro; rfl

end Cert.Proof.KI
end
-- ==== Proof.KI.Frame.lean ====
module

public import proofs.«01_k».proof.Proof.KI.BodyB
public import Idealize.ShloMosaic.Lib.Tactic.Stretches

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data: each input's buffer at its block, the output's at the block of results `outS`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outS (iblk m c 0 t) (iblk m c 1 t) (iblk m c 2 t) (iblk m c 3 t) (qi (grid0.coords t))
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = outS (iblk m c 0 t) (iblk m c 1 t) (iblk m c 2 t) (iblk m c 3 t) (qi (grid0.coords t)) := rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d

/-! ## The body obligation, at a generic point -/

/-- What the body is called with at a point. -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body returns at a point. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  have hN : t.val < 128 := lt_of_lt_of_eq t.isLt (show (cfg0 (F := F)).N = 128 from N_0)
  by_cases h0 : t.val % 32 = 0
  · by_cases h1 : 1 ≤ t.val % 32
    · exfalso; omega
    · iintro ⟨⟨⟨HS0, HS1⟩, Hg⟩, Ho, ⟨%d0, H0⟩, ⟨%d1, H1⟩, ⟨%d2, H2⟩, ⟨%d3, H3⟩, ⟨%d4, H4⟩⟩
      iapply ((runA c (grid0.coords t) _ _ _ _ _ _ _ _ _ _ _ _ _ _ ((hcond0_0 t).mpr h0) (fun h => h1 ((hcond0_1 t).mp h)) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      iexact H4
  · by_cases h1 : 1 ≤ t.val % 32
    · iintro ⟨⟨⟨HS0, HS1⟩, Hg⟩, Ho, ⟨%d0, H0⟩, ⟨%d1, H1⟩, ⟨%d2, H2⟩, ⟨%d3, H3⟩, ⟨%d4, H4⟩⟩
      iapply ((runB c (grid0.coords t) _ _ _ _ _ _ _ _ _ _ _ _ _ _ (fun h => h0 ((hcond0_0 t).mp h)) ((hcond0_1 t).mpr h1) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      iexact H4
    · exfalso; omega

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body's triple at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame_shared (Q' := _) (cfgs (F := F)) (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) ((θ_run defs _ _).mono (fun _ h => h.1) (run_main_quiescent m ρ))

/-- The frame claim at any float instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Proof.KI
end
-- ==== Proof.Val.Row.lean ====
/- One row of the attention, over the extended reals: the sums over the keys before it, taken a block at a time. -/
module

public import Idealize.ShloMosaic.PureOps.Ideal.Laws
public import Mathlib.Algebra.BigOperators.Intervals
public import Mathlib.Algebra.BigOperators.Fin

@[expose] public section

noncomputable section

namespace Cert.Proof.Row

open Idealize.ShloMosaic
open scoped BigOperators

/-- `log (1 + eᶻ)`, as the programs write it. -/
def sp (z : EReal) : EReal := max z 0 + Ideal.log1p (Ideal.exp (0 - max z (-z)))

/-- Of a real it is a real. -/
theorem sp_coe (x : ℝ) : sp (x : EReal) = ((max x 0 + Real.log (1 + Real.exp (-|x|)) : ℝ) : EReal) := by
  have h1 : max (x : EReal) (-(x : EReal)) = ((|x| : ℝ) : EReal) := by
    rw [← EReal.coe_neg, ← EReal.coe_strictMono.monotone.map_max]; rfl
  have h2 : (0 : EReal) - ((|x| : ℝ) : EReal) = ((-|x| : ℝ) : EReal) := by
    rw [zero_sub, EReal.coe_neg]
  have h3 : (1 : EReal) + ((Real.exp (-|x|) : ℝ) : EReal) = ((1 + Real.exp (-|x|) : ℝ) : EReal) := by
    rw [EReal.coe_add, EReal.coe_one]
  have h4 : ¬ (1 + Real.exp (-|x|) ≤ 0) := by have := Real.exp_pos (-|x|); linarith
  have h5 : max (x : EReal) 0 = ((max x 0 : ℝ) : EReal) := by
    rw [← EReal.coe_zero, ← EReal.coe_strictMono.monotone.map_max]
  rw [sp, h1, h2, h5]
  show ((max x 0 : ℝ) : EReal) + Ideal.log (1 + ((Real.exp (-|x|) : ℝ) : EReal)) = _
  rw [h3]
  show ((max x 0 : ℝ) : EReal) + (if 1 + Real.exp (-|x|) ≤ 0 then ⊥ else ((Real.log (1 + Real.exp (-|x|)) : ℝ) : EReal)) = _
  rw [if_neg h4, ← EReal.coe_add]

/-- `z - log (1 + eᶻ) = -log (1 + e⁻ᶻ)`. -/
theorem sub_sp (x : ℝ) : (x : EReal) - sp (x : EReal) = -sp (-(x : EReal)) := by
  rw [← EReal.coe_neg, sp_coe, sp_coe, ← EReal.coe_sub, ← EReal.coe_neg, abs_neg]
  congr 1
  rcases le_total 0 x with h | h
  · rw [max_eq_left h, max_eq_right (by linarith)]; ring
  · rw [max_eq_right h, max_eq_left (by linarith)]; ring

/-- What each key leaves of the stick, as a logarithm. -/
def st (z : ℕ → EReal) (s : ℕ) : EReal := 0 - sp (z s)

/-- A row whose scores are real. -/
def IsReal (z : ℕ → EReal) : Prop := ∀ s, ∃ x : ℝ, z s = (x : EReal)

theorem st_real {z : ℕ → EReal} (hz : IsReal z) (s : ℕ) : ∃ x : ℝ, st z s = (x : EReal) := by
  obtain ⟨x, hx⟩ := hz s
  refine ⟨-(max x 0 + Real.log (1 + Real.exp (-|x|))), ?_⟩
  rw [st, hx, sp_coe, zero_sub, EReal.coe_neg]

/-- What the keys from `n` on, before the row `R`, leave together. -/
def car (n R : ℕ) (z : ℕ → EReal) : EReal := ∑ t ∈ Finset.Ico n R, st z t

/-- The weight of a key. -/
def wt (R : ℕ) (z : ℕ → EReal) (s : ℕ) : EReal := Ideal.exp ((z s - sp (z s)) + car (s + 1) R z)

/-- The values of the keys from `n` on, before the row `R`, by their weights. -/
def part (n R : ℕ) (z v : ℕ → EReal) : EReal := ∑ s ∈ Finset.Ico n R, wt R z s * v s

theorem sum_real {ι : Type*} (S : Finset ι) (f : ι → EReal) (hf : ∀ i, ∃ x : ℝ, f i = (x : EReal)) :
    ∃ x : ℝ, ∑ i ∈ S, f i = (x : EReal) := by
  classical
  choose g hg using hf
  refine ⟨∑ i ∈ S, g i, ?_⟩
  rw [Finset.sum_congr rfl fun i _ => hg i]
  induction S using Finset.induction_on with
  | empty => simp
  | insert a s ha ih => rw [Finset.sum_insert ha, Finset.sum_insert ha, ih, EReal.coe_add]

theorem car_real {z : ℕ → EReal} (hz : IsReal z) (n R : ℕ) : ∃ x : ℝ, car n R z = (x : EReal) :=
  sum_real _ _ (st_real hz)

/-- A sum over the keys from `n` on splits into the block at `n` and the rest. -/
theorem split (n R : ℕ) (f : ℕ → EReal) :
    ∑ s ∈ Finset.Ico n R, f s
      = ∑ s ∈ Finset.Ico (n + 256) R, f s + ∑ c : Fin 256, (if n + c.val < R then f (n + c.val) else 0) := by
  rw [Fin.sum_univ_eq_sum_range (fun c => if n + c < R then f (n + c) else 0) 256,
    Finset.range_eq_Ico, Finset.sum_Ico_add (fun s => if s < R then f s else 0) 0 256 n, ← Finset.sum_filter, zero_add,
    Nat.add_comm 256 n]
  rcases le_total R (n + 256) with h | h
  · rw [Finset.Ico_eq_empty_of_le h, Finset.sum_empty, zero_add]
    refine Finset.sum_congr (Finset.ext fun s => ?_) fun _ _ => rfl
    simp only [Finset.mem_Ico, Finset.mem_filter]; omega
  · have e : (Finset.Ico n (n + 256)).filter (· < R) = Finset.Ico n (n + 256) :=
      Finset.filter_true_of_mem fun s hs => by rw [Finset.mem_Ico] at hs; omega
    rw [e, add_comm, Finset.sum_Ico_consecutive f (by omega) h]

/-- The block's part of what is left, a key at or past the row leaving everything. -/
def mst (n R : ℕ) (z : ℕ → EReal) (c : Fin 256) : EReal := if n + c.val < R then st z (n + c.val) else 0

theorem mst_real {z : ℕ → EReal} (hz : IsReal z) (n R : ℕ) (c : Fin 256) : ∃ x : ℝ, mst n R z c = (x : EReal) := by
  unfold mst; split_ifs
  · exact st_real hz _
  · exact ⟨0, by simp⟩

theorem car_split (n R : ℕ) (z : ℕ → EReal) : car n R z = car (n + 256) R z + ∑ c : Fin 256, mst n R z c :=
  split n R (st z)

/-- What the keys after one of the block leave: those in the block, and the later blocks. -/
theorem car_inside {z : ℕ → EReal} (hz : IsReal z) (n R : ℕ) (L : Fin 256 → Fin 256 → EReal)
    (hL : ∀ a b, L a b = if b < a then 1 else 0) (c : Fin 256) :
    (∑ a, mst n R z a * L a c + ∑ a, (mst n R z a - mst n R z a) * L a c) + car (n + 256) R z
      = car (n + c.val + 1) R z := by
  have h0 : ∀ a, mst n R z a - mst n R z a = 0 := fun a => by
    obtain ⟨x, hx⟩ := mst_real hz n R a
    rw [hx, ← EReal.coe_sub, sub_self, EReal.coe_zero]
  have h1 : ∑ a, (mst n R z a - mst n R z a) * L a c = 0 :=
    Finset.sum_eq_zero fun a _ => by rw [h0, zero_mul]
  have h2 := split n R (fun t => if n + c.val < t then st z t else 0)
  have h3 : ∑ t ∈ Finset.Ico n R, (if n + c.val < t then st z t else 0) = car (n + c.val + 1) R z := by
    rw [← Finset.sum_filter, car]
    refine Finset.sum_congr (Finset.ext fun s => ?_) fun _ _ => rfl
    simp only [Finset.mem_Ico, Finset.mem_filter]; omega
  have h4 : ∑ t ∈ Finset.Ico (n + 256) R, (if n + c.val < t then st z t else 0) = car (n + 256) R z := by
    refine Finset.sum_congr rfl fun s hs => if_pos ?_
    rw [Finset.mem_Ico] at hs; have := c.isLt; omega
  rw [h3, h4] at h2
  rw [h1, add_zero, h2, add_comm]
  congr 1
  refine Finset.sum_congr rfl fun a _ => ?_
  rw [hL, mst]
  by_cases h : c < a
  · rw [if_pos h, mul_one]
    by_cases h' : n + a.val < R
    · rw [if_pos h', if_pos h', if_pos (by have : c.val < a.val := h; omega)]
    · rw [if_neg h', if_neg h']
  · rw [if_neg h, mul_zero]
    have : ¬ (c.val < a.val) := h
    split_ifs <;> first | rfl | omega

/-- The block's weight of a key. -/
def mwt (n R : ℕ) (z : ℕ → EReal) (L : Fin 256 → Fin 256 → EReal) (C : EReal) (c : Fin 256) : EReal :=
  Ideal.exp (((z (n + c.val) - sp (z (n + c.val)))
    + (∑ a, mst n R z a * L a c + ∑ a, (mst n R z a - mst n R z a) * L a c)) + C)

/-- The values up to a block, from those past it. -/
theorem part_split {z : ℕ → EReal} (hz : IsReal z) (n R : ℕ) (v : ℕ → EReal) (L : Fin 256 → Fin 256 → EReal)
    (hL : ∀ a b, L a b = if b < a then 1 else 0) :
    part n R z v = part (n + 256) R z v
      + ∑ c : Fin 256, (if n + c.val < R then mwt n R z L (car (n + 256) R z) c else 0) * v (n + c.val) := by
  rw [part, split, part]
  congr 1
  refine Finset.sum_congr rfl fun c _ => ?_
  by_cases h : n + c.val < R
  · rw [if_pos h, if_pos h, wt, mwt, ← car_inside hz n R L hL c, add_assoc (z (n + c.val) - sp (z (n + c.val)))]
  · rw [if_neg h, if_neg h, zero_mul]

theorem part_empty (n R : ℕ) (h : R ≤ n) (z v : ℕ → EReal) : part n R z v = 0 := by
  rw [part, Finset.Ico_eq_empty_of_le h, Finset.sum_empty]

theorem car_empty (n R : ℕ) (h : R ≤ n) (z : ℕ → EReal) : car n R z = 0 := by
  rw [car, Finset.Ico_eq_empty_of_le h, Finset.sum_empty]

/-- A difference of running sums. -/
theorem cum_sub {z : ℕ → EReal} (hz : IsReal z) (N R j : ℕ) (hj : j < R) (hN : R ≤ N) :
    (∑ t ∈ Finset.range N, if t < R then st z t else 0) - (∑ t ∈ Finset.range (j + 1), if t < R then st z t else 0)
      = car (j + 1) R z := by
  have h1 : (∑ t ∈ Finset.range N, if t < R then st z t else 0) = ∑ t ∈ Finset.range R, st z t := by
    rw [← Finset.sum_filter]
    congr 1
    ext t
    simp only [Finset.mem_filter, Finset.mem_range]
    omega
  have h2 : (∑ t ∈ Finset.range (j + 1), if t < R then st z t else 0) = ∑ t ∈ Finset.range (j + 1), st z t :=
    Finset.sum_congr rfl fun t ht => if_pos (by rw [Finset.mem_range] at ht; omega)
  rw [h1, h2, ← Finset.sum_range_add_sum_Ico _ (show j + 1 ≤ R by omega)]
  obtain ⟨x, hx⟩ := sum_real (Finset.range (j + 1)) _ (st_real hz)
  obtain ⟨y, hy⟩ := car_real hz (j + 1) R
  rw [car] at hy
  rw [car, hx, hy, ← EReal.coe_add, ← EReal.coe_sub, add_sub_cancel_left]

/-! ### Comparing positions -/

theorem toInt_ofNat_lt (a : ℕ) (ha : a < 2 ^ 31) : (BitVec.ofNat 32 a).toInt = a := by
  have hn : (BitVec.ofNat 32 a).toNat = a := by rw [BitVec.toNat_ofNat]; omega
  rw [BitVec.toInt_eq_toNat_of_lt (by omega), hn]

theorem slt_ofNat (a b : ℕ) (ha : a < 2 ^ 31) (hb : b < 2 ^ 31) :
    IntOp.cmpi .slt (BitVec.ofNat 32 a) (BitVec.ofNat 32 b) = if a < b then 1#1 else 0#1 := by
  have h : (BitVec.ofNat 32 a).slt (BitVec.ofNat 32 b) = decide (a < b) := by
    rw [BitVec.slt_eq_decide, toInt_ofNat_lt _ ha, toInt_ofNat_lt _ hb]
    simp
  simp only [IntOp.cmpi, h]
  by_cases hlt : a < b <;> simp [hlt]

theorem sgt_ofNat (a b : ℕ) (ha : a < 2 ^ 31) (hb : b < 2 ^ 31) :
    IntOp.cmpi .sgt (BitVec.ofNat 32 a) (BitVec.ofNat 32 b) = if b < a then 1#1 else 0#1 := by
  have h : (BitVec.ofNat 32 b).slt (BitVec.ofNat 32 a) = decide (b < a) := by
    rw [BitVec.slt_eq_decide, toInt_ofNat_lt _ ha, toInt_ofNat_lt _ hb]
    simp
  simp only [IntOp.cmpi, h]
  by_cases hlt : b < a <;> simp [hlt]

theorem sge_ofNat (a b : ℕ) (ha : a < 2 ^ 31) (hb : b < 2 ^ 31) :
    IntOp.cmpi .sge (BitVec.ofNat 32 a) (BitVec.ofNat 32 b) = if b ≤ a then 1#1 else 0#1 := by
  have h : (BitVec.ofNat 32 b).sle (BitVec.ofNat 32 a) = decide (b ≤ a) := by
    rw [BitVec.sle_eq_decide, toInt_ofNat_lt _ ha, toInt_ofNat_lt _ hb]
    simp
  simp only [IntOp.cmpi, h]
  by_cases hlt : b ≤ a <;> simp [hlt]

end Cert.Proof.Row
end
-- ==== Proof.Val.Head.lean ====
/- What the body does with one head and one block of keys, read at an element over the extended reals. -/
module

public import proofs.«01_k».proof.Proof.KI.Step
public import proofs.«01_k».proof.Proof.Val.Row
public import Idealize.ShloMosaic.Lib.Pointwise

@[expose] public section

set_option maxRecDepth 16384

noncomputable section

namespace Cert.Proof.Head

open Cert.KernelIdeal Cert.KernelIdeal.Gen Cert.Proof.KI
open Idealize.ShloMosaic Idealize.ShloMosaic.Pointwise
open scoped BigOperators

abbrev zeros : FVec Ideal S256x256 .f32 := broadcast S256x256 (Scalar.ofBits .f32 0x00000000#32)

/-- The scores of a block of queries against a block of keys. -/
def gz (q : FVec Ideal S256x128 .bf16) (k : Vec Ideal S1x256x128 .f32) : FVec Ideal S256x256 .f32 :=
  mulf (matmul dot_S256x128_S256x128_S256x256_1_1_0_0_n_n none q
    (truncf .bf16 (shapeCast S256x128 k shapeCasts_S1x256x128_S256x128 : FVec Ideal S256x128 .f32) bitsLt_bf16_f32)
    (constant S256x256 .f32 0x00000000#32)) (broadcast S256x256 (Scalar.ofBits .f32 0x3E000000#32))

/-- `log (1 + eᶻ)` of each. -/
def gsp (z : FVec Ideal S256x256 .f32) : FVec Ideal S256x256 .f32 :=
  addf (maximumf z zeros) (log1p (exp (subf zeros (absf z))))

/-- What each key leaves. -/
def gst (z : FVec Ideal S256x256 .f32) : FVec Ideal S256x256 .f32 := subf zeros (gsp z)

/-- The same under the diagonal block's mask. -/
def gmst (z : FVec Ideal S256x256 .f32) : FVec Ideal S256x256 .f32 := select k0_pay67 (gst z) zeros

/-- A key's weight in its block, as a logarithm: `m` is what the keys leave. -/
def glw (z m : FVec Ideal S256x256 .f32) (L : FVec Ideal S256x256 .bf16) : FVec Ideal S256x256 .f32 :=
  addf (subf z (gsp z))
    (addf
      (matmul dot_S256x256_S256x256_S256x256_1_0_0_1_n_n none (truncf .bf16 m bitsLt_bf16_f32) L (constant S256x256 .f32 0x00000000#32))
      (matmul dot_S256x256_S256x256_S256x256_1_0_0_1_n_n none
        (truncf .bf16 (subf m (extf .f32 (truncf .bf16 m bitsLt_bf16_f32) bitsLt_bf16_f32)) bitsLt_bf16_f32) L
        (constant S256x256 .f32 0x00000000#32)))

/-- The weights, from what the later blocks leave. -/
def gp (lw : FVec Ideal S256x256 .f32) (c : Vec Ideal S1x256x1 .f32) : FVec Ideal S256x256 .f32 :=
  exp (addf lw (broadcastTo S256x256 (shapeCast S256x1 c shapeCasts_S1x256x1_S256x1 : FVec Ideal S256x1 .f32) broadcasts_S256x1_S256x256))

/-- The accumulator, with the block's values by their weights. -/
def gacc (p : FVec Ideal S256x256 .f32) (v a : Vec Ideal S1x256x128 .f32) : FVec Ideal S1x256x128 .f32 :=
  shapeCast S1x256x128 (addf (shapeCast S256x128 a shapeCasts_S1x256x128_S256x128 : FVec Ideal S256x128 .f32)
    (matmul dot_S256x256_S256x128_S256x128_1_0_0_1_n_n none (truncf .bf16 p bitsLt_bf16_f32)
      (truncf .bf16 (shapeCast S256x128 v shapeCasts_S1x256x128_S256x128 : FVec Ideal S256x128 .f32) bitsLt_bf16_f32)
      (constant S256x128 .f32 0x00000000#32))) shapeCasts_S256x128_S1x256x128

/-- What is left past the block. -/
def gcar (m : FVec Ideal S256x256 .f32) (c : Vec Ideal S1x256x1 .f32) : FVec Ideal S1x256x1 .f32 :=
  shapeCast S1x256x1 (addf (shapeCast S256x1 c shapeCasts_S1x256x1_S256x1 : FVec Ideal S256x1 .f32)
    (shapeCast S256x1 (multiReduction .add [1] S256 m 0x00000000#32 reduces_S256x256_S256 (.inl rfl) rfl : FVec Ideal S256 .f32)
      shapeCasts_S256_S256x1)) shapeCasts_S256x1_S1x256x1

/-- One head over the diagonal block, -/
def diagH (q : FVec Ideal S256x128 .bf16) (L : FVec Ideal S256x256 .bf16) (k v : Vec Ideal S1x256x128 .f32)
    (s : Vec Ideal S1x256x128 .f32 × Vec Ideal S1x256x1 .f32) : Vec Ideal S1x256x128 .f32 × Vec Ideal S1x256x1 .f32 :=
  (gacc (select k0_pay67 (gp (glw (gz q k) (gmst (gz q k)) L) s.2) zeros) v s.1, gcar (gmst (gz q k)) s.2)

/-- and over a block before it. -/
def stepH (q : FVec Ideal S256x128 .bf16) (L : FVec Ideal S256x256 .bf16) (k v : Vec Ideal S1x256x128 .f32)
    (s : Vec Ideal S1x256x128 .f32 × Vec Ideal S1x256x1 .f32) : Vec Ideal S1x256x128 .f32 × Vec Ideal S1x256x1 .f32 :=
  (gacc (gp (glw (gz q k) (gst (gz q k)) L) s.2) v s.1, gcar (gst (gz q k)) s.2)

/-- A head's part of the state. -/
def hd (s : St Ideal) : Bool → Vec Ideal S1x256x128 .f32 × Vec Ideal S1x256x1 .f32
  | false => (s.a0, s.c0)
  | true => (s.a1, s.c1)

section
variable (q0 q1 : FVec Ideal S256x128 .bf16) (L : FVec Ideal S256x256 .bf16) (k v : Vec Ideal S1x256x128 .f32) (s : St Ideal)

theorem hd_diagA (b : Bool) : hd (diagA q0 q1 L k v s) b = diagH (if b then q1 else q0) L k v (hd s b) := by cases b <;> rfl
theorem hd_diagB (b : Bool) : hd (diagB q0 q1 L k v s) b = diagH (if b then q1 else q0) L k v (hd s b) := by cases b <;> rfl
theorem hd_neighB (b : Bool) : hd (neighB q0 q1 L k v s) b = stepH (if b then q1 else q0) L k v (hd s b) := by cases b <;> rfl
theorem hd_stepS (b : Bool) : hd (stepS q0 q1 L k v s) b = stepH (if b then q1 else q0) L k v (hd s b) := by cases b <;> rfl
end

/-! ### At an element -/

/-- One eighth, as its word. -/
abbrev eighth : EReal := Ideal.ofBits .f32 0x3E000000#32

theorem gz_apply (q : FVec Ideal S256x128 .bf16) (k : Vec Ideal S1x256x128 .f32) (r c : Fin 256) :
    gz q k (ix2 r c) = (∑ d : Fin 128, q (ix2 r d) * k (ix3 0 c d)) * eighth := by
  pointwise [gz]

theorem gsp_apply (z : FVec Ideal S256x256 .f32) (j : S256x256.Idx) : gsp z j = Row.sp (z j) := by
  pointwise [gsp, Row.sp]
  rfl

theorem gst_apply (z : FVec Ideal S256x256 .f32) (j : S256x256.Idx) : gst z j = 0 - Row.sp (z j) := by
  pointwise [gst, gsp, Row.sp]
  rfl

theorem glw_apply (z m : FVec Ideal S256x256 .f32) (L : FVec Ideal S256x256 .bf16) (r c : Fin 256) :
    glw z m L (ix2 r c) = (z (ix2 r c) - Row.sp (z (ix2 r c)))
      + (∑ a : Fin 256, m (ix2 r a) * L (ix2 a c) + ∑ a : Fin 256, (m (ix2 r a) - m (ix2 r a)) * L (ix2 a c)) := by
  pointwise [glw, gsp, Row.sp]
  rfl

theorem gp_apply (lw : FVec Ideal S256x256 .f32) (c : Vec Ideal S1x256x1 .f32) (r k : Fin 256) :
    gp lw c (ix2 r k) = Ideal.exp (lw (ix2 r k) + c (ix3 0 r 0)) := by
  pointwise [gp]

theorem gacc_apply (p : FVec Ideal S256x256 .f32) (v a : Vec Ideal S1x256x128 .f32) (r : Fin 256) (l : Fin 128) :
    gacc p v a (ix3 0 r l) = a (ix3 0 r l) + ∑ c : Fin 256, p (ix2 r c) * v (ix3 0 c l) := by
  pointwise [gacc]

theorem gcar_apply (m : FVec Ideal S256x256 .f32) (c : Vec Ideal S1x256x1 .f32) (r : Fin 256) :
    gcar m c (ix3 0 r 0) = c (ix3 0 r 0) + ∑ a : Fin 256, m (ix2 r a) := by
  pointwise [gcar]

theorem mask_apply (r c : Fin 256) : k0_pay67 (ix2 r c) = if c < r then 1#1 else 0#1 := by
  pointwise [k0_pay67]
  rw [Row.slt_ofNat _ _ (by omega) (by omega)]
  simp only [Fin.lt_def]

/-! ### One step of a head's state -/

/-- A head's state over the keys from `n` on, for the rows `R`: its sums, and what is left. -/
def Inv (z : Fin 256 → ℕ → EReal) (v : Fin 128 → ℕ → EReal) (n : ℕ) (R : Fin 256 → ℕ)
    (s : Vec Ideal S1x256x128 .f32 × Vec Ideal S1x256x1 .f32) : Prop :=
  (∀ r l, s.1 (ix3 0 r l) = Row.part n (R r) (z r) (v l)) ∧ ∀ r, s.2 (ix3 0 r 0) = Row.car n (R r) (z r)

section
variable {z : Fin 256 → ℕ → EReal} {v : Fin 128 → ℕ → EReal} {q : FVec Ideal S256x128 .bf16} {L : FVec Ideal S256x256 .bf16}
  {k w : Vec Ideal S1x256x128 .f32} {s : Vec Ideal S1x256x128 .f32 × Vec Ideal S1x256x1 .f32} {n : ℕ} {R : Fin 256 → ℕ}

theorem inv_stepH (hz : ∀ r, Row.IsReal (z r)) (hL : ∀ a b, L (ix2 a b) = if b < a then 1 else 0)
    (hk : ∀ r c, (∑ d : Fin 128, q (ix2 r d) * k (ix3 0 c d)) * eighth = z r (n + c.val))
    (hv : ∀ c l, w (ix3 0 c l) = v l (n + c.val)) (hR : ∀ r, n + 256 ≤ R r)
    (h : Inv z v (n + 256) R s) : Inv z v n R (stepH q L k w s) := by
  have hm : ∀ r c, gst (gz q k) (ix2 r c) = Row.mst n (R r) (z r) c := fun r c => by
    have := c.isLt
    have := hR r
    rw [gst_apply, gz_apply, hk, Row.mst, if_pos (by omega)]
    rfl
  constructor
  · intro r l
    show gacc _ _ _ _ = _
    rw [gacc_apply, h.1, Row.part_split (hz r) n (R r) (v l) (fun a b => L (ix2 a b)) hL]
    congr 1
    refine Finset.sum_congr rfl fun c _ => ?_
    have := c.isLt
    have := hR r
    rw [if_pos (by omega), hv, gp_apply, glw_apply, h.2]
    simp only [hm, gz_apply, hk]
    rfl
  · intro r
    show gcar _ _ _ = _
    rw [gcar_apply, h.2, Row.car_split n]
    simp only [hm]

theorem inv_diagH (hz : ∀ r, Row.IsReal (z r)) (hL : ∀ a b, L (ix2 a b) = if b < a then 1 else 0)
    (hk : ∀ r c, (∑ d : Fin 128, q (ix2 r d) * k (ix3 0 c d)) * eighth = z r (n + c.val))
    (hv : ∀ c l, w (ix3 0 c l) = v l (n + c.val)) (hR : ∀ r, R r = n + r.val)
    (h : Inv z v (n + 256) R s) : Inv z v n R (diagH q L k w s) := by
  have hif : ∀ (r c : Fin 256) (x : EReal), (if k0_pay67 (ix2 r c) = 1#1 then x else 0) = if n + c.val < R r then x else 0 := fun r c x => by
    rw [mask_apply, hR]
    by_cases hlt : c < r
    · rw [if_pos hlt, if_pos rfl, if_pos (by have := Fin.lt_def.1 hlt; omega)]
    · rw [if_neg hlt, if_neg (by decide), if_neg (by rw [Fin.lt_def] at hlt; omega)]
  have hs : ∀ (x : FVec Ideal S256x256 .f32) (r c : Fin 256), select k0_pay67 x zeros (ix2 r c) = if n + c.val < R r then x (ix2 r c) else 0 :=
    fun x r c => by
      rw [← hif]
      pointwise
      rfl
  have hm : ∀ r c, gmst (gz q k) (ix2 r c) = Row.mst n (R r) (z r) c := fun r c => by
    rw [gmst, hs, gst_apply, gz_apply, hk, Row.mst]
    rfl
  constructor
  · intro r l
    show gacc _ _ _ _ = _
    rw [gacc_apply, h.1, Row.part_split (hz r) n (R r) (v l) (fun a b => L (ix2 a b)) hL]
    congr 1
    refine Finset.sum_congr rfl fun c _ => ?_
    rw [hs, hv, gp_apply, glw_apply, h.2]
    simp only [hm, gz_apply, hk]
    rfl
  · intro r
    show gcar _ _ _ = _
    rw [gcar_apply, h.2, Row.car_split n]
    simp only [hm]

end

end Cert.Proof.Head
end
-- ==== Proof.Val.All.lean ====
/- What the body leaves in its block of results, over the extended reals. -/
module

public import proofs.«01_k».proof.Proof.Val.Head
public import Idealize.ShloMosaic.Lib.Pipeline.Value
public import Idealize.ShloMosaic.PureOps.IdealRules

@[expose] public section

set_option maxRecDepth 16384

noncomputable section

namespace Cert.Proof.All

open Cert.KernelIdeal Cert.KernelIdeal.Gen Cert.Proof.KI Cert.Proof.Head
open Idealize.ShloMosaic Idealize.ShloMosaic.Pointwise
open scoped BigOperators

theorem named_bot : (Named.named κ "underflow" 0xC2C80000#32 : Ideal .f32) = (⊥ : EReal) := IdealRules.named_const.ideal_named_scalar _ _ _ _ rfl

theorem guard (s : St Ideal) (x : ℝ) (h : s.c1 (ix3 0 0 0) = (x : EReal)) :
    Scalar.cmpf .ogt (k0_pay5 (carS s)) (Named.named κ "underflow" 0xC2C80000#32) = 1#1 := by
  rw [named_bot]
  pointwise [k0_pay5]
  have hc : carS s (ix3 1 0 0) = (x : EReal) := by
    rw [← h]
    have e : rCC.idx (ix3 1 0 0) = rC1.emb (ix3 0 0 0) := by
      funext a
      fin_cases a <;> rfl
    unfold carS
    rw [e]
    exact View.canon_cons_emb (Val := Elt Ideal) (e := .f32) rC1 s.c1 _ (ix3 0 0 0)
  have hle : (x : EReal) ≤ Finset.fold max (Ideal.ofBits FTy.f32 4286578688#32) (fun y : S1x2x256x1.Idx => carS s (ix3 (y 1) (y 2) 0))
      {i | reduces_S1x2x256x1_S1.drop i = ix1 0} := by
    rw [Finset.le_fold_max]
    refine .inr ⟨ix4 0 1 0 0, ?_, hc.symm.le⟩
    rw [Finset.mem_filter]
    refine ⟨Finset.mem_univ _, ?_⟩
    funext a
    fin_cases a
    exact Subsingleton.elim (α := Fin 1) _ _
  rw [decide_eq_true (lt_of_lt_of_le (EReal.bot_lt_coe x) hle)]
  rfl

theorem kblk_apply (X : Vec Ideal S1x8192x128 .f32) (n : Fin 32) (c : Fin 256) (d : Fin 128) :
    kblk X n (ix3 0 c d) = X (ix3 0 (Fin.ofNat 8192 (256 * n.val + c.val)) d) := by
  unfold kblk View.ld
  congr 1
  funext a
  fin_cases a
  · rfl
  · apply Fin.ext
    have := n.isLt
    have := c.isLt
    show 256 * n.val + 1 * c.val = (256 * n.val + c.val) % 8192
    omega
  · apply Fin.ext
    show 0 + 1 * d.val = d.val
    omega

theorem pay65_apply (j : S2x256x128.Idx) : k0_pay65 (F := Ideal) j = 0 := by
  pointwise [k0_pay65]
theorem pay66_apply (j : S2x256x1.Idx) : k0_pay66 (F := Ideal) j = 0 := by
  pointwise [k0_pay66]

theorem init_zero (b : Bool) : (∀ j, (hd initS b).1 j = 0) ∧ ∀ j, (hd initS b).2 j = 0 := by
  cases b
  · exact ⟨fun j => pay65_apply (rA0.idx j), fun j => pay66_apply (rC0.idx j)⟩
  · exact ⟨fun j => pay65_apply (rA1.idx j), fun j => pay66_apply (rC1.idx j)⟩

theorem pay63_apply (Q : Vec Ideal S1x256x128 .f32) (r : Fin 256) (l : Fin 128) :
    k0_pay63 Q (ix2 r l) = if l.val < 64 then Q (ix3 0 r l) else 0 := by
  pointwise [k0_pay63, k0_pay62]
  rw [show (64#32 : BitVec 32) = BitVec.ofNat 32 64 from rfl, Row.slt_ofNat _ _ (by omega) (by omega)]
  by_cases hl : l.val < 64
  · rw [if_pos hl, if_pos hl]; rfl
  · rw [if_neg hl, if_neg hl]; rfl

theorem pay64_apply (Q : Vec Ideal S1x256x128 .f32) (r : Fin 256) (l : Fin 128) :
    k0_pay64 Q (ix2 r l) = if 64 ≤ l.val then Q (ix3 0 r l) else 0 := by
  pointwise [k0_pay64, k0_pay62]
  rw [show (64#32 : BitVec 32) = BitVec.ofNat 32 64 from rfl, Row.sge_ofNat _ _ (by omega) (by omega)]
  by_cases hl : 64 ≤ l.val
  · rw [if_pos hl, if_pos hl]; rfl
  · rw [if_neg hl, if_neg hl]; rfl

theorem pay68_apply (L : Vec Ideal S256x256 .bf16) (a b : Fin 256) : k0_pay68 L (ix2 a b) = L (ix2 a b) := by
  pointwise [k0_pay68]

theorem pay2_apply (a0 a1 : Vec Ideal S1x256x128 .f32) (r : Fin 256) (l : Fin 128) :
    k0_pay2 (iota .tc S256x128 32 [1] iota_S256x128_d1_w32) a0 a1 (ix3 0 r l) = if l.val < 64 then a0 (ix3 0 r l) else a1 (ix3 0 r l) := by
  pointwise [k0_pay2]
  rw [show (64#32 : BitVec 32) = BitVec.ofNat 32 64 from rfl, Row.slt_ofNat _ _ (by omega) (by omega)]
  by_cases hl : l.val < 64
  · rw [if_pos hl, if_pos hl]; rfl
  · rw [if_neg hl, if_neg hl]; rfl

/-! ### All the blocks -/

/-- The scores of the block's rows, from the keys. -/
def zq (q : FVec Ideal S256x128 .bf16) (K : Vec Ideal S1x8192x128 .f32) (r : Fin 256) (s : ℕ) : EReal :=
  (∑ d : Fin 128, q (ix2 r d) * K (ix3 0 (Fin.ofNat 8192 s) d)) * eighth

/-- A column of the values. -/
def vl (V : Vec Ideal S1x8192x128 .f32) (l : Fin 128) (s : ℕ) : EReal := V (ix3 0 (Fin.ofNat 8192 s) l)

section
variable (q0 q1 : FVec Ideal S256x128 .bf16) (L : FVec Ideal S256x256 .bf16) (K V : Vec Ideal S1x8192x128 .f32)
  (hz : ∀ (b : Bool) (r : Fin 256), Row.IsReal (zq (if b then q1 else q0) K r))
  (hL : ∀ a b, L (ix2 a b) = if b < a then 1 else 0)

theorem hk (q : FVec Ideal S256x128 .bf16) (n : Fin 32) (r c : Fin 256) :
    (∑ d : Fin 128, q (ix2 r d) * kblk K n (ix3 0 c d)) * eighth = zq q K r (256 * n.val + c.val) := by
  simp only [kblk_apply]
  rfl

include hz hL

/-- The loop takes every block below: its test never fails, what is left being real. -/
theorem inv_loopS (R : Fin 256 → ℕ) : ∀ (n : ℕ) (s : St Ideal), n ≤ 32 → (∀ r, 256 * n ≤ R r) →
    (∀ b : Bool, Inv (zq (if b then q1 else q0) K) (vl V) (256 * n) R (hd s b)) →
    ∀ b : Bool, Inv (zq (if b then q1 else q0) K) (vl V) 0 R (hd (loopS q0 q1 L K V n s) b)
  | 0, s, _, _, h => h
  | n + 1, s, hn, hR, h => by
    obtain ⟨x, hx⟩ := Row.car_real (hz true 0) (256 * (n + 1)) (R 0)
    have hg := guard s x (((h true).2 0).trans hx)
    rw [loopS, if_pos hg]
    have hn32 : (Fin.ofNat 32 n).val = n := Nat.mod_eq_of_lt (by omega)
    refine inv_loopS R n _ (by omega) (fun r => by have := hR r; omega) fun b => ?_
    rw [hd_stepS]
    refine inv_stepH (hz b) hL (fun r c => ?_) (fun c l => ?_) (fun r => ?_) (h b)
    · rw [hk, hn32]
    · rw [kblk_apply, hn32]; rfl
    · have := hR r; omega

theorem inv_allS (i : Fin 32) (b : Bool) :
    Inv (zq (if b then q1 else q0) K) (vl V) 0 (fun r => 256 * i.val + r.val) (hd (allS q0 q1 L K V i) b) := by
  have hi := i.isLt
  have h0 : ∀ b : Bool, Inv (zq (if b then q1 else q0) K) (vl V) (256 * i.val + 256) (fun r => 256 * i.val + r.val) (hd initS b) := fun b =>
    ⟨fun r l => by rw [(init_zero b).1, Row.part_empty]; have := r.isLt; dsimp only; omega,
     fun r => by rw [(init_zero b).2, Row.car_empty]; have := r.isLt; dsimp only; omega⟩
  have hd1 : ∀ b : Bool, Inv (zq (if b then q1 else q0) K) (vl V) (256 * i.val) (fun r => 256 * i.val + r.val)
      (diagH (if b then q1 else q0) L (kblk K i) (kblk V i) (hd initS b)) := fun b =>
    inv_diagH (hz b) hL (fun r c => hk K _ i r c) (fun c l => kblk_apply V i c l) (fun _ => rfl) (h0 b)
  unfold allS
  by_cases h : i.val = 0
  · rw [if_pos h, hd_diagA]
    have := hd1 b
    rw [h] at this ⊢
    exact this
  · rw [if_neg h]
    have hn32 : (Fin.ofNat 32 (i.val - 1)).val = i.val - 1 := Nat.mod_eq_of_lt (by omega)
    refine inv_loopS q0 q1 L K V hz hL _ (i.val - 1) _ (by omega) (fun r => by omega) (fun b => ?_) b
    rw [hd_neighB, hd_diagB]
    refine inv_stepH (hz b) hL (fun r c => ?_) (fun c l => ?_) (fun r => ?_) ?_
    · rw [hk, hn32]
    · rw [kblk_apply, hn32]; rfl
    · omega
    · have e : 256 * (i.val - 1) + 256 = 256 * i.val := by omega
      rw [e]
      exact hd1 b

end

/-- The head of a lane. -/
def hb (l : Fin 128) : Bool := decide (64 ≤ l.val)

/-- The scores of a head, its lanes of the queries against its lanes of the keys. -/
def zh (Q : Vec Ideal S1x256x128 .f32) (K : Vec Ideal S1x8192x128 .f32) (b : Bool) (r : Fin 256) (s : ℕ) : EReal :=
  (∑ d : Fin 64, Q (ix3 0 r ⟨64 * b.toNat + d.val, by have := b.toNat_le; omega⟩)
    * K (ix3 0 (Fin.ofNat 8192 s) ⟨64 * b.toNat + d.val, by have := b.toNat_le; omega⟩)) * eighth

/-- The lanes outside the head are zero. -/
theorem zq_eq (Q : Vec Ideal S1x256x128 .f32) (K : Vec Ideal S1x8192x128 .f32) (b : Bool) :
    zq (if b then k0_pay64 Q else k0_pay63 Q) K = zh Q K b := by
  funext r s
  unfold zq zh
  congr 1
  have hs : ∀ f : Fin 128 → EReal, ∑ d, f d = ∑ d : Fin 64, f ⟨d.val, by omega⟩ + ∑ d : Fin 64, f ⟨64 + d.val, by omega⟩ :=
    fun f => Fin.sum_univ_add (a := 64) (b := 64) f
  rw [hs]
  cases b
  · rw [Finset.sum_eq_zero (s := Finset.univ) (f := fun d : Fin 64 => (if false = true then k0_pay64 Q else k0_pay63 Q) (ix2 r ⟨64 + d.val, _⟩) * _) fun d _ => by
      rw [if_neg (by decide), pay63_apply, if_neg (by dsimp only; omega), zero_mul], add_zero]
    refine Finset.sum_congr rfl fun d _ => ?_
    rw [if_neg (by decide), pay63_apply, if_pos (by dsimp only; omega)]
    simp only [Bool.toNat_false, Nat.mul_zero, Nat.zero_add]
  · rw [Finset.sum_eq_zero (s := Finset.univ) (f := fun d : Fin 64 => (if true = true then k0_pay64 Q else k0_pay63 Q) (ix2 r ⟨d.val, _⟩) * _) fun d _ => by
      rw [if_pos rfl, pay64_apply, if_neg (by dsimp only; omega), zero_mul], zero_add]
    refine Finset.sum_congr rfl fun d _ => ?_
    rw [if_pos rfl, pay64_apply, if_pos (by dsimp only; omega)]
    simp only [Bool.toNat_true, Nat.mul_one]

/-- The block of results at an element. -/
theorem outS_apply (Q : Vec Ideal S1x256x128 .f32) (K V : Vec Ideal S1x8192x128 .f32) (L : Vec Ideal S256x256 .bf16) (i : Fin 32)
    (hz : ∀ b r, Row.IsReal (zh Q K b r)) (hL : ∀ a b, L (ix2 a b) = if b < a then 1 else 0) (r : Fin 256) (l : Fin 128) :
    outS Q K V L i (ix3 0 r l) = Row.part 0 (256 * i.val + r.val) (zh Q K (hb l) r) (vl V l) := by
  have h := inv_allS (k0_pay63 Q) (k0_pay64 Q) (k0_pay68 L) K V (fun b r => by rw [zq_eq]; exact hz b r)
    (fun a b => by rw [pay68_apply, hL]) i
  unfold outS
  dsimp only
  rw [pay2_apply]
  by_cases hl : l.val < 64
  · have := (h false).1 r l
    rw [zq_eq] at this
    rw [if_pos hl, show hb l = false from decide_eq_false (by omega)]
    exact this
  · have := (h true).1 r l
    rw [zq_eq] at this
    rw [if_neg hl, show hb l = true from decide_eq_true (by omega)]
    exact this

end Cert.Proof.All
end
-- ==== Proof.Val.Ref.lean ====
/- The reference, read at an element over the extended reals. -/
module

public import proofs.«01_k».proof.Proof.Gen.ReferenceIdeal.Run
public import proofs.«01_k».proof.Proof.Val.Row
public import Idealize.ShloMosaic.Lib.Pointwise

@[expose] public section

set_option maxRecDepth 16384

noncomputable section

namespace Cert.Proof.Ref

open Cert.ReferenceIdeal Cert.ReferenceIdeal.Gen
open Idealize.ShloMosaic Idealize.ShloMosaic.TcCoe Idealize.ShloMosaic.Pointwise
open scoped BigOperators

abbrev Arg : Type := FVec Ideal S2x8192x2304 .f32
abbrev Sq : Type := FVec Ideal S2x4x8192x8192 .f32

def rqkv (X : Arg) : FVec Ideal S2x8192x768 .f32 :=
  extractStridedSlice S2x8192x768 ![0, 0, 1536] X slices_S2x8192x2304_S2x8192x768_0_0_1536

/-- The heads of a third of the columns. -/
def heads (x : FVec Ideal S2x8192x256 .f32) : FVec Ideal S2x4x8192x64 .f32 :=
  transpose S2x4x8192x64 [0, 2, 1, 3] (shapeCast S2x8192x4x64 x shapeCasts_S2x8192x256_S2x8192x4x64 : FVec Ideal S2x8192x4x64 .f32)
    transposes_S2x8192x4x64_S2x4x8192x64_0_2_1_3

def rq (X : Arg) : FVec Ideal S2x4x8192x64 .f32 :=
  heads (extractStridedSlice S2x8192x256 ![0, 0, 0] (rqkv X) slices_S2x8192x768_S2x8192x256_0_0_0)
def rk (X : Arg) : FVec Ideal S2x4x8192x64 .f32 :=
  heads (extractStridedSlice S2x8192x256 ![0, 0, 256] (rqkv X) slices_S2x8192x768_S2x8192x256_0_0_256)
def rv (X : Arg) : FVec Ideal S2x4x8192x64 .f32 :=
  heads (extractStridedSlice S2x8192x256 ![0, 0, 512] (rqkv X) slices_S2x8192x768_S2x8192x256_0_0_512)

def rzero : Sq := broadcastInDim S2x4x8192x8192 ![] bcast_S_S2x4x8192x8192 (constant S_ .f32 0x00000000#32)

/-- The scores. -/
def rz (X : Arg) : Sq :=
  mulf (Host.dotGeneral dot_S2x4x8192x64_S2x4x8192x64_S2x4x8192x8192_3_3_2_2_01_01 none (rq X) (rk X))
    (broadcastInDim S2x4x8192x8192 ![] bcast_S_S2x4x8192x8192 (constant S_ .f32 0x3E000000#32))

/-- The negated `log (1 + eʸ)`. -/
def rls (y : Sq) : Sq :=
  Host.negf (select (cmpf .une (subf y rzero) (subf y rzero)) (addf y rzero)
    (addf (maximumf y rzero) (Host.log1p (Host.exp (Host.negf (Host.absf (subf y rzero)))))))

def rmask : IVec S2x4x8192x8192 1 :=
  broadcastInDim S2x4x8192x8192 ![2, 3] bcast_S8192x8192_S2x4x8192x8192_2_3
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

def rstay (X : Arg) : Sq := select rmask (rls (Host.negf (Host.negf (rz X)))) rzero

def rcum (x : Sq) : Sq :=
  Host.reduceWindowAdd ![1, 1, 1, 8192] ![1, 1, 1, 1] ![0, 0, 0, 8191] ![0, 0, 0, 0] x
    (broadcastInDim S_ ![] bcast_S_S_ (constant S_ .f32 0x00000000#32))
    reduceWindows_S2x4x8192x8192_S2x4x8192x8192_w1s1p0_0_w1s1p0_0_w1s1p0_0_w8192s1p8191_0 h_S_

/-- The weights, from the scores and the running sums. -/
def rw (z u : Sq) : Sq :=
  select rmask (Host.exp (addf (rls (Host.negf z))
    (subf (broadcastInDim S2x4x8192x8192 ![0, 1, 2, 3] bcast_S2x4x8192x1_S2x4x8192x8192_0_1_2_3
      (extractStridedSlice S2x4x8192x1 ![0, 0, 0, 8191] u slices_S2x4x8192x8192_S2x4x8192x1_0_0_0_8191)) u))) rzero

def rout (w : Sq) (v : FVec Ideal S2x4x8192x64 .f32) : FVec Ideal S2x8192x256 .f32 :=
  shapeCast S2x8192x256 (transpose S2x8192x4x64 [0, 2, 1, 3]
    (Host.dotGeneral dot_S2x4x8192x8192_S2x4x8192x64_S2x4x8192x64_3_2_2_3_01_01 none w v) transposes_S2x4x8192x64_S2x8192x4x64_0_2_1_3 : FVec Ideal S2x8192x4x64 .f32)
    shapeCasts_S2x8192x4x64_S2x8192x256

theorem res_eq (m : (ℓ : Loc nD τ sig) → Buf (Elt Ideal) ℓ) (c : Dev nD) :
    Cert.ReferenceIdeal.Value.res_main_v32 m c
      = rout (rw (rz (m ((c.tc : Thread nD τ).loc main_arg0))) (rcum (rstay (m ((c.tc : Thread nD τ).loc main_arg0))))) (rv (m ((c.tc : Thread nD τ).loc main_arg0))) := by
  unfold Cert.ReferenceIdeal.Value.res_main_v32
  rfl

/-! ### At an element -/

abbrev eighth : EReal := Ideal.ofBits .f32 0x3E000000#32

theorem rq_apply (X : Arg) (b : Fin 2) (h : Fin 4) (i : Fin 8192) (d : Fin 64) :
    rq X (ix4 b h i d) = X (ix3 b i ⟨1536 + (64 * h.val + d.val), by omega⟩) := by
  pointwise [rq, heads, rqkv]
  congr 2
  apply Fin.ext
  show _ = _
  dsimp only
  omega
theorem rk_apply (X : Arg) (b : Fin 2) (h : Fin 4) (i : Fin 8192) (d : Fin 64) :
    rk X (ix4 b h i d) = X (ix3 b i ⟨1792 + (64 * h.val + d.val), by omega⟩) := by
  pointwise [rk, heads, rqkv]
  congr 2
  apply Fin.ext
  show _ = _
  dsimp only
  omega
theorem rv_apply (X : Arg) (b : Fin 2) (h : Fin 4) (i : Fin 8192) (d : Fin 64) :
    rv X (ix4 b h i d) = X (ix3 b i ⟨2048 + (64 * h.val + d.val), by omega⟩) := by
  pointwise [rv, heads, rqkv]
  congr 2
  apply Fin.ext
  show _ = _
  dsimp only
  omega

theorem rz_apply (X : Arg) (b : Fin 2) (h : Fin 4) (i j : Fin 8192) :
    rz X (ix4 b h i j) = (∑ d : Fin 64, rq X (ix4 b h i d) * rk X (ix4 b h j d)) * eighth := by
  pointwise [rz]

theorem rls_apply (y : Sq) (j : S2x4x8192x8192.Idx) : rls y j = - Row.sp (y j) := by
  pointwise [rls, rzero]
  rw [if_neg (by simp), Row.sp, zero_sub]
  rfl

theorem rmask_apply (b : Fin 2) (h : Fin 4) (i j : Fin 8192) : rmask (ix4 b h i j) = if j < i then 1#1 else 0#1 := by
  pointwise [rmask]
  rw [Row.slt_ofNat _ _ (by omega) (by omega)]
  simp only [Fin.lt_def]

theorem rw_apply (z u : Sq) (b : Fin 2) (h : Fin 4) (i j : Fin 8192) :
    rw z u (ix4 b h i j) = if j < i then Ideal.exp (- Row.sp (- z (ix4 b h i j)) + (u (ix4 b h i 8191) - u (ix4 b h i j))) else 0 := by
  pointwise [rw, rzero]
  rw [rmask_apply, rls_apply]
  pointwise
  by_cases hlt : j < i
  · rw [if_pos hlt, if_pos hlt]; rfl
  · rw [if_neg hlt, if_neg hlt]; rfl

theorem rstay_apply (X : Arg) (b : Fin 2) (h : Fin 4) (i j : Fin 8192) :
    rstay X (ix4 b h i j) = if j < i then - Row.sp (rz X (ix4 b h i j)) else 0 := by
  pointwise [rstay, rzero]
  rw [rmask_apply, rls_apply]
  pointwise
  by_cases hlt : j < i
  · rw [if_pos hlt, if_pos hlt, neg_neg]; rfl
  · rw [if_neg hlt, if_neg hlt]; rfl

/-! ### The running sums -/

abbrev W : Shape := ⟨4, ![1, 1, 1, 8192]⟩

/-- A window's positions are its last axis. -/
def lastAxis : Fin 8192 ≃ W.Idx where
  toFun n := ix4 0 0 0 n
  invFun j := j 3
  left_inv _ := rfl
  right_inv j := by
    funext a
    fin_cases a
    · exact Subsingleton.elim (α := Fin 1) _ _
    · exact Subsingleton.elim (α := Fin 1) _ _
    · exact Subsingleton.elim (α := Fin 1) _ _
    · rfl

theorem rcum_apply (x : Sq) (b : Fin 2) (h : Fin 4) (i j : Fin 8192) (f : ℕ → EReal)
    (hf : ∀ t : Fin 8192, x (ix4 b h i t) = f t.val) : rcum x (ix4 b h i j) = ∑ t ∈ Finset.range (j.val + 1), f t := by
  have hj := j.isLt
  have key : ∀ n : Fin 8192, (if hin : ∀ a : Fin 4, (![0, 0, 0, 8191] : Fin 4 → ℕ) a ≤ ((ix4 b h i j : S2x4x8192x8192.Idx) a).val * (![1, 1, 1, 1] : Fin 4 → ℕ) a + ((lastAxis n) a).val
        ∧ ((ix4 b h i j : S2x4x8192x8192.Idx) a).val * (![1, 1, 1, 1] : Fin 4 → ℕ) a + ((lastAxis n) a).val - (![0, 0, 0, 8191] : Fin 4 → ℕ) a < S2x4x8192x8192.size a
      then x (fun a => ⟨((ix4 b h i j : S2x4x8192x8192.Idx) a).val * (![1, 1, 1, 1] : Fin 4 → ℕ) a + ((lastAxis n) a).val - (![0, 0, 0, 8191] : Fin 4 → ℕ) a, (hin a).2⟩)
      else (0 : EReal)) = if 8191 ≤ j.val + n.val then f (j.val + n.val - 8191) else 0 := by
    intro n
    have hn := n.isLt
    by_cases hc : 8191 ≤ j.val + n.val
    · rw [if_pos hc, dif_pos]
      · rw [← hf ⟨j.val + n.val - 8191, by omega⟩]
        congr 1
        funext a
        apply Fin.ext
        fin_cases a
        · show b.val * 1 + 0 - 0 = b.val; omega
        · show h.val * 1 + 0 - 0 = h.val; omega
        · show i.val * 1 + 0 - 0 = i.val; omega
        · show j.val * 1 + n.val - 8191 = j.val + n.val - 8191; omega
      · intro a
        have := b.isLt
        have := h.isLt
        have := i.isLt
        fin_cases a
        · exact (show 0 ≤ b.val * 1 + 0 ∧ b.val * 1 + 0 - 0 < 2 by omega)
        · exact (show 0 ≤ h.val * 1 + 0 ∧ h.val * 1 + 0 - 0 < 4 by omega)
        · exact (show 0 ≤ i.val * 1 + 0 ∧ i.val * 1 + 0 - 0 < 8192 by omega)
        · exact (show 8191 ≤ j.val * 1 + n.val ∧ j.val * 1 + n.val - 8191 < 8192 by omega)
    · rw [if_neg hc, dif_neg]
      intro hin
      have h3 : 8191 ≤ j.val * 1 + n.val := (hin 3).1
      omega
  have hsum : rcum x (ix4 b h i j) = ∑ n : Fin 8192, if 8191 ≤ j.val + n.val then f (j.val + n.val - 8191) else 0 := by
    rw [← Finset.sum_congr rfl fun n _ => key n]
    have h0 : (broadcastInDim S_ ![] bcast_S_S_ (constant (F := Ideal) S_ .f32 0x00000000#32) : FVec Ideal S_ .f32) (Shape.Idx.first h_S_) = (0 : EReal) := by
      pointwise
    rw [rcum, Host.reduceWindowAdd, h0, Ideal.hostReduceWindowAdd_def, Ideal.hostReduceWindowAdd, Host.reduceWindow]
    rw [← List.foldl_map (f := _) (g := fun (r : EReal) v => r + v), ← List.sum_eq_foldl, ← Fin.sum_univ_def]
    rw [← Equiv.sum_comp W.rowMajor, ← Equiv.sum_comp lastAxis]
    simp only [Equiv.symm_apply_apply]
    rfl
  rw [hsum, Fin.sum_univ_eq_sum_range (fun n => if 8191 ≤ j.val + n then f (j.val + n - 8191) else 0) 8192, ← Finset.sum_filter]
  refine Finset.sum_nbij' (fun n => j.val + n - 8191) (fun t => t + 8191 - j.val) ?_ ?_ ?_ ?_ ?_
  · intro n hn; simp only [Finset.mem_filter, Finset.mem_range] at hn ⊢; omega
  · intro t ht; simp only [Finset.mem_filter, Finset.mem_range] at ht ⊢; omega
  · intro n hn; simp only [Finset.mem_filter, Finset.mem_range] at hn; omega
  · intro t ht; simp only [Finset.mem_range] at ht; omega
  · intro n _; rfl

theorem rout_apply (w : Sq) (v : FVec Ideal S2x4x8192x64 .f32) (b : Fin 2) (i : Fin 8192) (h : Fin 4) (d : Fin 64) :
    rout w v (ix3 b i ⟨64 * h.val + d.val, by omega⟩) = ∑ j : Fin 8192, w (ix4 b h i j) * v (ix4 b h j d) := by
  pointwise [rout]

/-! ### A row -/

/-- The scores of row `i` of head `h`. -/
def zrow (X : Arg) (b : Fin 2) (h : Fin 4) (i : Fin 8192) (s : ℕ) : EReal :=
  (∑ d : Fin 64, X (ix3 b i ⟨1536 + (64 * h.val + d.val), by omega⟩) * X (ix3 b (Fin.ofNat 8192 s) ⟨1792 + (64 * h.val + d.val), by omega⟩)) * eighth

/-- A column of its values. -/
def vcol (X : Arg) (b : Fin 2) (h : Fin 4) (d : Fin 64) (s : ℕ) : EReal := X (ix3 b (Fin.ofNat 8192 s) ⟨2048 + (64 * h.val + d.val), by omega⟩)

theorem ofNat_val (j : Fin 8192) : Fin.ofNat 8192 j.val = j := Fin.ext (Nat.mod_eq_of_lt j.isLt)

/-- The reference at an element: the values before the row, by their weights. -/
theorem out_apply (X : Arg) (b : Fin 2) (i : Fin 8192) (h : Fin 4) (d : Fin 64) (hz : Row.IsReal (zrow X b h i)) :
    rout (rw (rz X) (rcum (rstay X))) (rv X) (ix3 b i ⟨64 * h.val + d.val, by omega⟩)
      = Row.part 0 i.val (zrow X b h i) (vcol X b h d) := by
  have hzr : ∀ j : Fin 8192, rz X (ix4 b h i j) = zrow X b h i j.val := fun j => by
    rw [rz_apply, zrow, ofNat_val]
    simp only [rq_apply, rk_apply]
  have hcum : ∀ j : Fin 8192, rcum (rstay X) (ix4 b h i j)
      = ∑ t ∈ Finset.range (j.val + 1), if t < i.val then Row.st (zrow X b h i) t else 0 := fun j =>
    rcum_apply (rstay X) b h i j _ fun t => by
      rw [rstay_apply, hzr, Row.st, zero_sub]
      simp only [Fin.lt_def]
  have hi := i.isLt
  rw [rout_apply, Row.part, Finset.sum_congr rfl fun j _ => show _ = (if j.val < i.val then Row.wt i.val (zrow X b h i) j.val * vcol X b h d j.val else 0) by
    rw [rw_apply, rv_apply]
    by_cases hlt : j < i
    · have hlt' : j.val < i.val := hlt
      rw [if_pos hlt, if_pos hlt', hzr, hcum, hcum, Row.wt]
      obtain ⟨x, hx⟩ := hz j.val
      have e : (∑ t ∈ Finset.range ((8191 : Fin 8192).val + 1), if t < i.val then Row.st (zrow X b h i) t else 0)
          - (∑ t ∈ Finset.range (j.val + 1), if t < i.val then Row.st (zrow X b h i) t else 0) = Row.car (j.val + 1) i.val (zrow X b h i) :=
        Row.cum_sub hz _ i.val j.val hlt' (by show i.val ≤ 8192; omega)
      rw [e, hx, ← Row.sub_sp, vcol, ofNat_val]
    · have hlt' : ¬ j.val < i.val := hlt
      rw [if_neg hlt, if_neg hlt', zero_mul]]
  rw [Fin.sum_univ_eq_sum_range (fun j => if j < i.val then Row.wt i.val (zrow X b h i) j * vcol X b h d j else 0) 8192, ← Finset.sum_filter]
  congr 1
  ext t
  simp only [Finset.mem_filter, Finset.mem_range, Finset.mem_Ico]
  omega

end Cert.Proof.Ref
end
-- ==== Proof.Val.Final.lean ====
/- What the kernel's result array ends holding, over the extended reals: the reference's value. -/
module

public import proofs.«01_k».proof.Proof.KI.Frame
public import proofs.«01_k».proof.Proof.Val.All
public import proofs.«01_k».proof.Proof.Val.Ref
public import Idealize.ShloMosaic.Lib.StableHlo.ReadAt

@[expose] public section

set_option maxRecDepth 16384

noncomputable section

namespace Cert.Proof.Final

open Cert.KernelIdeal Cert.KernelIdeal.Gen Cert.Proof.KI Cert.Proof.All
open Idealize.ShloMosaic Idealize.ShloMosaic.TcCoe Idealize.ShloMosaic.Pointwise Idealize.SL.Sem
open Idealize.ShloMosaic.Pipeline (Dat)
open scoped BigOperators

variable (m : (ℓ : Loc nD τ sig) → Buf (Elt Ideal) ℓ) (c : Dev nD)

/-- The argument, -/
abbrev X : Ref.Arg := m ((c.tc : Thread nD τ).loc main_arg0)

/-- and the value the result ends at: the reference's. -/
def G : FVec Ideal S2x8192x256 .f32 := Ref.rout (Ref.rw (Ref.rz (X m c)) (Ref.rcum (Ref.rstay (X m c)))) (Ref.rv (X m c))

/-! ### The windows' blocks at an element -/

theorem later_apply (a b : Fin 256) : V m c main_v3 (ix2 a b) = (if b < a then 1 else 0 : EReal) := by
  unfold V
  after_reads_at
  rw [Row.sgt_ofNat _ _ (by omega) (by omega)]
  by_cases h : b.val < a.val
  · rw [if_pos h, if_pos (show b < a from h)]
    show ((((1#1 : BitVec 1).toNat : ℝ)) : EReal) = 1
    norm_num
  · rw [if_neg h, if_neg (show ¬ b < a from h)]
    show ((((0#1 : BitVec 1).toNat : ℝ)) : EReal) = 0
    norm_num

def gb (t : Fin (cfg0 (F := Ideal)).N) : Fin 2 := ⟨t.val / 64 % 2, by omega⟩
def gp (t : Fin (cfg0 (F := Ideal)).N) : Fin 2 := ⟨t.val / 32 % 2, by omega⟩
def gi (t : Fin (cfg0 (F := Ideal)).N) : Fin 32 := ⟨t.val % 32, by omega⟩

theorem qi_eq (t : Fin (cfg0 (F := Ideal)).N) : qi (grid0.coords t) = gi t := by
  have e2 : (grid0.coords t 2).val = t.val / 1 % 32 := Pipeline.Grid.coords_val t 2 (by decide) rfl
  apply Fin.ext
  show (grid0.coords t 2).val = t.val % 32
  rw [e2]; omega

theorem idx0 : ∀ t : Fin grid0.N, win0_0.index t 0 = t.val / 64 % 2 ∧ win0_0.index t 1 = t.val % 32 ∧ win0_0.index t 2 = 12 + t.val / 32 % 2 := by decide +kernel
theorem idx1 : ∀ t : Fin grid0.N, win0_1.index t 0 = t.val / 64 % 2 ∧ win0_1.index t 1 = 0 ∧ win0_1.index t 2 = 14 + t.val / 32 % 2 := by decide +kernel
theorem idx2 : ∀ t : Fin grid0.N, win0_2.index t 0 = t.val / 64 % 2 ∧ win0_2.index t 1 = 0 ∧ win0_2.index t 2 = 16 + t.val / 32 % 2 := by decide +kernel
theorem idx3 : ∀ t : Fin grid0.N, win0_3.index t 0 = 0 ∧ win0_3.index t 1 = 0 := by decide +kernel
theorem idx4 : ∀ t : Fin grid0.N, win0_4.index t 0 = t.val / 64 % 2 ∧ win0_4.index t 1 = t.val % 32 ∧ win0_4.index t 2 = t.val / 32 % 2 := by decide +kernel

theorem blk0_apply (t : Fin (cfg0 (F := Ideal)).N) (r : Fin 256) (l : Fin 128) :
    (iblk m c 0 t : Vec Ideal S1x256x128 .f32) (ix3 0 r l)
      = X m c (ix3 (gb t) ⟨256 * (gi t).val + r.val, by omega⟩ ⟨1536 + (128 * (gp t).val + l.val), by omega⟩) := by
  have hi := idx0 t
  unfold iblk
  rw [View.read_apply]
  show V m c main_arg0 _ = _
  rw [V_main_arg0]
  congr 1
  funext a
  apply Fin.ext
  match a with
  | ⟨0, _⟩ => show win0_0.index t 0 * 1 + 1 * 0 = t.val / 64 % 2; rw [hi.1]; omega
  | ⟨1, _⟩ => show win0_0.index t 1 * 256 + 1 * r.val = 256 * (t.val % 32) + r.val; rw [hi.2.1]; omega
  | ⟨2, _⟩ => show win0_0.index t 2 * 128 + 1 * l.val = 1536 + (128 * (t.val / 32 % 2) + l.val); rw [hi.2.2]; omega

theorem blk1_apply (t : Fin (cfg0 (F := Ideal)).N) (s : Fin 8192) (l : Fin 128) :
    (iblk m c 1 t : Vec Ideal S1x8192x128 .f32) (ix3 0 s l)
      = X m c (ix3 (gb t) s ⟨1792 + (128 * (gp t).val + l.val), by omega⟩) := by
  have hi := idx1 t
  unfold iblk
  rw [View.read_apply]
  show V m c main_arg0 _ = _
  rw [V_main_arg0]
  congr 1
  funext a
  apply Fin.ext
  match a with
  | ⟨0, _⟩ => show win0_1.index t 0 * 1 + 1 * 0 = t.val / 64 % 2; rw [hi.1]; omega
  | ⟨1, _⟩ => show win0_1.index t 1 * 8192 + 1 * s.val = s.val; rw [hi.2.1]; omega
  | ⟨2, _⟩ => show win0_1.index t 2 * 128 + 1 * l.val = 1792 + (128 * (t.val / 32 % 2) + l.val); rw [hi.2.2]; omega

theorem blk2_apply (t : Fin (cfg0 (F := Ideal)).N) (s : Fin 8192) (l : Fin 128) :
    (iblk m c 2 t : Vec Ideal S1x8192x128 .f32) (ix3 0 s l)
      = X m c (ix3 (gb t) s ⟨2048 + (128 * (gp t).val + l.val), by omega⟩) := by
  have hi := idx2 t
  unfold iblk
  rw [View.read_apply]
  show V m c main_arg0 _ = _
  rw [V_main_arg0]
  congr 1
  funext a
  apply Fin.ext
  match a with
  | ⟨0, _⟩ => show win0_2.index t 0 * 1 + 1 * 0 = t.val / 64 % 2; rw [hi.1]; omega
  | ⟨1, _⟩ => show win0_2.index t 1 * 8192 + 1 * s.val = s.val; rw [hi.2.1]; omega
  | ⟨2, _⟩ => show win0_2.index t 2 * 128 + 1 * l.val = 2048 + (128 * (t.val / 32 % 2) + l.val); rw [hi.2.2]; omega

theorem blk3_apply (t : Fin (cfg0 (F := Ideal)).N) (a b : Fin 256) :
    (iblk m c 3 t : Vec Ideal S256x256 .bf16) (ix2 a b) = (if b < a then 1 else 0 : EReal) := by
  have hi := idx3 t
  rw [← later_apply m c a b]
  unfold iblk
  rw [View.read_apply]
  show V m c main_v3 _ = _
  congr 1
  funext d
  apply Fin.ext
  match d with
  | ⟨0, _⟩ => show win0_3.index t 0 * 256 + 1 * a.val = a.val; rw [hi.1]; omega
  | ⟨1, _⟩ => show win0_3.index t 1 * 256 + 1 * b.val = b.val; rw [hi.2]; omega

/-! ### The heads -/

/-- The head of a lane of a pair of heads, -/
def hd (p : Fin 2) (l : Fin 128) : Fin 4 := ⟨2 * p.val + l.val / 64, by omega⟩
/-- and its place there. -/
def hl (l : Fin 128) : Fin 64 := ⟨l.val % 64, by omega⟩

theorem zh_eq (t : Fin (cfg0 (F := Ideal)).N) (b : Bool) (l : Fin 128) (hb : b.toNat = l.val / 64) (r : Fin 256) :
    zh (iblk m c 0 t) (iblk m c 1 t) b r = Ref.zrow (X m c) (gb t) (hd (gp t) l) ⟨256 * (gi t).val + r.val, by omega⟩ := by
  funext s
  unfold zh Ref.zrow
  congr 1
  refine Finset.sum_congr rfl fun d _ => ?_
  rw [blk0_apply, blk1_apply]
  have e : 128 * (gp t).val + (64 * b.toNat + d.val) = 64 * (hd (gp t) l).val + d.val := by
    show 128 * (gp t).val + (64 * b.toNat + d.val) = 64 * (2 * (gp t).val + l.val / 64) + d.val
    rw [hb]; omega
  simp only [e]

theorem vl_eq (t : Fin (cfg0 (F := Ideal)).N) (l : Fin 128) :
    vl (iblk m c 2 t) l = Ref.vcol (X m c) (gb t) (hd (gp t) l) (hl l) := by
  funext s
  unfold vl Ref.vcol
  rw [blk2_apply]
  have e : 128 * (gp t).val + l.val = 64 * (hd (gp t) l).val + (hl l).val := by
    show 128 * (gp t).val + l.val = 64 * (2 * (gp t).val + l.val / 64) + l.val % 64
    omega
  simp only [e]

/-- Every element of the queries and of the keys is a real number. -/
def RealQK (X : Ref.Arg) : Prop := ∀ (b : Fin 2) (i : Fin 8192) (k : Fin 512), ∃ x : ℝ, X (ix3 b i ⟨1536 + k.val, by omega⟩) = (x : EReal)

section
variable (hX : RealQK (X m c))
include hX

omit hX in
theorem eighth_real : ∃ e : ℝ, Head.eighth = (e : EReal) := by
  unfold Head.eighth
  simp only [Ideal.ofBits, Ideal.ieee]
  norm_num
  exact ⟨_, rfl⟩

theorem zrow_real (b : Fin 2) (h : Fin 4) (i : Fin 8192) : Row.IsReal (Ref.zrow (X m c) b h i) := fun s => by
  obtain ⟨y, hy⟩ := Row.sum_real Finset.univ (fun d : Fin 64 => X m c (ix3 b i ⟨1536 + (64 * h.val + d.val), by omega⟩)
      * X m c (ix3 b (Fin.ofNat 8192 s) ⟨1792 + (64 * h.val + d.val), by omega⟩)) fun d => by
    obtain ⟨x, hx⟩ := hX b i ⟨64 * h.val + d.val, by omega⟩
    obtain ⟨x', hx'⟩ := hX b (Fin.ofNat 8192 s) ⟨256 + (64 * h.val + d.val), by omega⟩
    have e : (⟨1792 + (64 * h.val + d.val), by omega⟩ : Fin 2304) = ⟨1536 + (256 + (64 * h.val + d.val)), by omega⟩ := Fin.ext (by dsimp only; omega)
    refine ⟨x * x', ?_⟩
    rw [EReal.coe_mul, ← hx, ← hx']
    rw [e]
  obtain ⟨e, he⟩ := eighth_real
  refine ⟨y * e, ?_⟩
  rw [EReal.coe_mul, ← hy, ← he]
  rfl

theorem block_apply (t : Fin (cfg0 (F := Ideal)).N) (r : Fin 256) (l : Fin 128) :
    outS (iblk m c 0 t) (iblk m c 1 t) (iblk m c 2 t) (iblk m c 3 t) (qi (grid0.coords t)) (ix3 0 r l)
      = G m c (ix3 (gb t) ⟨256 * (gi t).val + r.val, by omega⟩ ⟨128 * (gp t).val + l.val, by omega⟩) := by
  have hz : ∀ b r, Row.IsReal (zh (iblk m c 0 t) (iblk m c 1 t) b r) := fun b r => by
    rw [zh_eq m c t b ⟨64 * b.toNat, by have := b.toNat_le; omega⟩ (by dsimp only; omega) r]
    exact zrow_real m c hX _ _ _
  have hbl : (hb l).toNat = l.val / 64 := by
    unfold hb
    by_cases h : 64 ≤ l.val
    · rw [decide_eq_true h, Bool.toNat_true]; omega
    · rw [decide_eq_false h, Bool.toNat_false]; omega
  rw [outS_apply _ _ _ _ _ hz (blk3_apply m c t), zh_eq m c t _ l hbl, vl_eq, qi_eq]
  have e : (⟨128 * (gp t).val + l.val, by omega⟩ : Fin 256) = ⟨64 * (hd (gp t) l).val + (hl l).val, by omega⟩ := Fin.ext (by
    show 128 * (gp t).val + l.val = 64 * (2 * (gp t).val + l.val / 64) + l.val % 64
    omega)
  rw [e]
  exact (Ref.out_apply (X m c) (gb t) ⟨256 * (gi t).val + r.val, by omega⟩ (hd (gp t) l) (hl l) (zrow_real m c hX _ _ _)).symm

/-! ### The whole array -/

theorem flushed_eq (t : Fin (cfg0 (F := Ideal)).N) :
    (dats m 0 c).flushed 4 t = (((cfg0 (F := Ideal)).win 4).blk t).view.read (Elt Ideal) (G m c) := by
  have hi := idx4 t
  show ((cfg0 (F := Ideal)).win 4).cut (grid0.coords t) ((dats m 0 c).after 4 t) = _
  rw [after0_4]
  funext (j : S1x256x128.Idx)
  obtain ⟨r, l, rfl⟩ : ∃ (r : Fin 256) (l : Fin 128), j = ix3 0 r l := ⟨j 1, j 2, by
    funext a
    match a with
    | ⟨0, _⟩ => exact Subsingleton.elim (α := Fin 1) _ _
    | ⟨1, _⟩ => rfl
    | ⟨2, _⟩ => rfl⟩
  refine Eq.trans (block_apply m c hX t r l) ?_
  rw [View.read_apply]
  congr 1
  funext a
  apply Fin.ext
  match a with
  | ⟨0, _⟩ => show t.val / 64 % 2 = win0_4.index t 0 * 1 + 1 * 0; rw [hi.1]; omega
  | ⟨1, _⟩ => show 256 * (t.val % 32) + r.val = win0_4.index t 1 * 256 + 1 * r.val; rw [hi.2.1]; omega
  | ⟨2, _⟩ => show 128 * (t.val / 32 % 2) + l.val = win0_4.index t 2 * 128 + 1 * l.val; rw [hi.2.2]; omega

theorem final : (dats m 0 c).arrAt 4 (cfg0 (F := Ideal)).N = G m c :=
  (dats m 0 c).arrAt_eq_of_cover 4 (G m c) (fun t _ => flushed_eq m c hX t) fun (i : S2x8192x256.Idx) => by
    have hN : (cfg0 (F := Ideal)).N = 128 := N_0
    have h0 : (i 0).val < 2 := (i 0).isLt
    have h1 : (i 1).val < 8192 := (i 1).isLt
    have h2 : (i 2).val < 256 := (i 2).isLt
    let t : Fin (cfg0 (F := Ideal)).N := ⟨64 * (i 0).val + 32 * ((i 2).val / 128) + (i 1).val / 256, by omega⟩
    have hi := idx4 t
    have ht : t.val = 64 * (i 0).val + 32 * ((i 2).val / 128) + (i 1).val / 256 := rfl
    refine ⟨t, flush0_4 t, ?_⟩
    show i ∈ ((View.whole main_v4).slice (win0_4.rect t)).set
    rw [View.set_slice_whole, Rect.mem_set_unit]
    intro a
    match a with
    | ⟨0, _⟩ =>
      show win0_4.index t 0 * 1 ≤ (i 0).val ∧ (i 0).val < win0_4.index t 0 * 1 + 1
      rw [hi.1]; omega
    | ⟨1, _⟩ =>
      show win0_4.index t 1 * 256 ≤ (i 1).val ∧ (i 1).val < win0_4.index t 1 * 256 + 256
      rw [hi.2.1]; omega
    | ⟨2, _⟩ =>
      show win0_4.index t 2 * 128 ≤ (i 2).val ∧ (i 2).val < win0_4.index t 2 * 128 + 128
      rw [hi.2.2]; omega

end

/-- The kernel's run: its result at the reference's value, its argument as it was. -/
theorem run (ρ : Dev nD → PrngReg)
    (hX : ∀ c : Dev nD, RealQK (X m c)) :
    θ_run defs (onTc (τ := τ) (main (F := Ideal))) ⟨m, fun _ => 0, ρ⟩ fun r => ∀ c : Dev nD,
      r.2.mem ((c.tc : Thread nD τ).loc main_v4) = G m c
      ∧ r.2.mem ((c.tc : Thread nD τ).loc main_arg0) = m ((c.tc : Thread nD τ).loc main_arg0) :=
  (θ_run defs _ _).mono (fun _ h c => ⟨((h.1 c).1 4).trans (final m c (hX c)),
      ((h.1 c).1 2).trans (((dats m 0 c).arrAt_in 2 rfl _).trans ((A_eq m c 2).trans (V_main_arg0 m c)))⟩)
    (run_main_quiescent m ρ)

end Cert.Proof.Final
end
-- ==== Proof.Val.Pre.lean ====
/- What the precondition says: every element of the queries and of the keys is a real number. -/
module

public import proofs.«01_k».proof.Pre_finite_qk
public import Idealize.ShloMosaic.Lib.ReduceAll
public import Idealize.ShloMosaic.Lib.Pointwise
public import Idealize.ShloMosaic.PureOps.Ideal.Laws

@[expose] public section

noncomputable section

namespace Cert.Proof.Pre

open Cert.Pre_finite_qk
open Idealize.ShloMosaic Idealize.ShloMosaic.Pointwise

theorem facts : Cert.Pre_finite_qk.Facts where
  slices_S2x8192x2304_S2x8192x512_0_0_1536 := by decide
  bcast_S_S2x8192x512 := by decide
  reducesTo_S2x8192x512_S_d0_1_2 := by decide
  h_S_ := by decide

/-- An extended real whose size is below the infinity is a real number. -/
theorem real_of_size {x : EReal} (h : max x (-x) < ⊤) : ∃ y : ℝ, x = (y : EReal) := by
  induction x with
  | bot => simp at h
  | coe y => exact ⟨y, rfl⟩
  | top => simp at h

theorem real [hf : Cert.Pre_finite_qk.Facts] (X : FVec Ideal S2x8192x2304 .f32) (h : fn X = fun _ => 1#1) (b : Fin 2) (i : Fin 8192) (k : Fin 512) :
    ∃ x : ℝ, X (ix3 b i ⟨1536 + k.val, by omega⟩) = (x : EReal) := by
  haveI : Subsingleton S_.Idx := ⟨fun a b => funext fun d => d.elim0⟩
  have e := Host.reduce_andi_all _ _ _ _ (fun d => d.elim0) (congrFun h fun d => d.elim0) (ix3 b i k)
  have e' : BitVec.ofBool (decide (max (X (ix3 b i ⟨1536 + k.val, by omega⟩)) (-(X (ix3 b i ⟨1536 + k.val, by omega⟩))) < Ideal.ofBits .f32 0x7F800000#32)) = 1#1 := by
    rw [← e]
    pointwise []
    rfl
  have ht : Ideal.ofBits .f32 0x7F800000#32 = (⊤ : EReal) := by simp [Ideal.ofBits, Ideal.ieee]
  rw [ht] at e'
  refine real_of_size ?_
  by_contra hn
  rw [decide_eq_false hn] at e'
  exact absurd e' (by decide)

end Cert.Proof.Pre
end
-- ==== Proof.Val.InProj.lean ====
/- The input projection's call, over the extended reals: its blocks of rows make the plain product. -/
module

public import proofs.«01_k».proof.Proof.Gen.Kernel2Ideal.Value
public import proofs.«01_k».proof.Proof.Gen.Reference2Ideal.Run
public import Idealize.ShloMosaic.Lib.Pointwise
public import Idealize.ShloMosaic.Lib.StableHlo.ReadAt

@[expose] public section

set_option maxRecDepth 16384

noncomputable section

namespace Cert.Proof.InProj

open Cert.Kernel2Ideal Cert.Kernel2Ideal.Gen
open Idealize.ShloMosaic Idealize.ShloMosaic.TcCoe Idealize.ShloMosaic.Pointwise Idealize.SL.Sem
open Idealize.ShloMosaic.Pipeline (Dat)
open scoped BigOperators

/-- The stream's element of a row of the two batch rows laid end to end. -/
def flat (X : FVec Ideal S2x8192x1024 .f32) (R : Fin 16384) (k : Fin 1024) : EReal :=
  X (ix3 ⟨R.val / 8192, by omega⟩ ⟨R.val % 8192, by omega⟩ k)

/-- The product, an element of it. -/
def prod (X : FVec Ideal S2x8192x1024 .f32) (W : FVec Ideal S1024x2304 .f32) (R : Fin 16384) (n : Fin 2304) : EReal :=
  ∑ k : Fin 1024, flat X R k * W (ix2 k n)

/-- What the body leaves of its blocks. -/
theorem out_apply (x : Vec Ideal S512x1024 .f32) (w : Vec Ideal S1024x2304 .bf16) (r : Fin 512) (n : Fin 2304) :
    out0_2 x w (ix2 r n) = ∑ k : Fin 1024, x (ix2 r k) * w (ix2 k n) := by
  have e : r0_2.emb (ix2 r n) = ix2 r n := by
    funext a
    apply Fin.ext
    match a with
    | ⟨0, _⟩ => show 0 + 1 * r.val = r.val; omega
    | ⟨1, _⟩ => show 0 + 1 * n.val = n.val; omega
  unfold out0_2
  refine (congrArg (View.canon _) e.symm).trans ((View.canon_cons_emb (Val := Elt Ideal) (e := .f32) r0_2 _ [] (ix2 r n)).trans ?_)
  have h0 : (![0, 0] : Fin 2 → ℕ) = fun _ => 0 := by decide
  rw [View.ld_unit_zero h0, View.ld_unit_zero h0]
  pointwise [k0_pay1]

variable (m : (ℓ : Loc nD τ sig) → Buf (Elt Ideal) ℓ) (c : Dev nD)

theorem x_apply (R : Fin 16384) (k : Fin 1024) : V m c main_v0 (ix2 R k) = flat (m ((c.tc : Thread nD τ).loc main_arg0)) R k := by
  unfold V flat
  after_reads_at

theorem w_apply (k : Fin 1024) (n : Fin 2304) : V m c main_v1 (ix2 k n) = m ((c.tc : Thread nD τ).loc main_arg1) (ix2 k n) := by
  unfold V
  after_reads_at

/-- The reference's result. -/
theorem ref_apply (X : FVec Ideal S2x8192x1024 .f32) (W : FVec Ideal S1024x2304 .f32) (R : Fin 16384) (n : Fin 2304) :
    shapeCast _ (Host.dotGeneral (F := Ideal) Cert.Reference2Ideal.dot_S2x8192x1024_S1024x2304_S2x8192x2304_2_0_01_1_n_n none X W)
      Cert.Reference2Ideal.Gen.facts.toFacts₀.shapeCasts_S2x8192x2304_S16384x2304 (ix2 R n) = prod X W R n := by
  unfold prod flat
  pointwise []

/-! ### The blocks and the whole array -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

/-- The row of a point's block. -/
def row (t : Fin cfg0.N) (r : Fin 512) : Fin 16384 :=
  ⟨512 * t.val + r.val, by have : t.val < 32 := t.isLt.trans_eq N_0; omega⟩

theorem blk0_apply (t : Fin cfg0.N) (r : Fin 512) (k : Fin 1024) :
    (iblk m c 0 t : Vec Ideal S512x1024 .f32) (ix2 r k) = flat (m ((c.tc : Thread nD τ).loc main_arg0)) (row t r) k := by
  have hi := idx0 t
  rw [← x_apply]
  unfold iblk
  rw [View.read_apply]
  show V m c main_v0 _ = _
  congr 1
  funext a
  apply Fin.ext
  match a with
  | ⟨0, _⟩ => show win0_0.index t 0 * 512 + 1 * r.val = 512 * t.val + r.val; rw [hi.1]; omega
  | ⟨1, _⟩ => show win0_0.index t 1 * 1024 + 1 * k.val = k.val; rw [hi.2]; omega

theorem blk1_apply (t : Fin cfg0.N) (k : Fin 1024) (n : Fin 2304) :
    (iblk m c 1 t : Vec Ideal S1024x2304 .bf16) (ix2 k n) = m ((c.tc : Thread nD τ).loc main_arg1) (ix2 k n) := by
  have hi := idx1 t
  rw [← w_apply m c k n]
  unfold iblk
  rw [View.read_apply]
  show V m c main_v1 _ = _
  congr 1
  funext a
  apply Fin.ext
  match a with
  | ⟨0, _⟩ => show win0_1.index t 0 * 1024 + 1 * k.val = k.val; rw [hi.1]; omega
  | ⟨1, _⟩ => show win0_1.index t 1 * 2304 + 1 * n.val = n.val; rw [hi.2]; omega

/-- The value the result ends at. -/
def G : FVec Ideal S16384x2304 .f32 := fun i => prod (m ((c.tc : Thread nD τ).loc main_arg0)) (m ((c.tc : Thread nD τ).loc main_arg1)) (i 0) (i 1)

theorem flushed_eq (t : Fin cfg0.N) :
    (dats m 0 c).flushed 2 t = ((cfg0.win 2).blk t).view.read (Elt Ideal) (G m c) := by
  have hi := idx2 t
  rw [Cert.Kernel2Ideal.Value.flushed2]
  funext (j : S512x2304.Idx)
  obtain ⟨r, n, rfl⟩ : ∃ (r : Fin 512) (n : Fin 2304), j = ix2 r n := ⟨j 0, j 1, by
    funext a
    match a with
    | ⟨0, _⟩ => rfl
    | ⟨1, _⟩ => rfl⟩
  refine Eq.trans (out_apply (iblk m c 0 t) (iblk m c 1 t) r n) ?_
  rw [View.read_apply]
  refine Eq.trans (b := G m c (ix2 (row t r) n)) ?_ ?_
  · show _ = prod _ _ (row t r) n
    unfold prod
    exact Finset.sum_congr rfl fun k _ => by rw [blk0_apply, blk1_apply]
  · congr 1
    funext a
    apply Fin.ext
    match a with
    | ⟨0, _⟩ => show 512 * t.val + r.val = win0_2.index t 0 * 512 + 1 * r.val; rw [hi.1]; omega
    | ⟨1, _⟩ => show n.val = win0_2.index t 1 * 2304 + 1 * n.val; rw [hi.2]; omega

theorem final : (dats m 0 c).arrAt 2 cfg0.N = G m c :=
  (dats m 0 c).arrAt_eq_of_cover 2 (G m c) (fun t _ => flushed_eq m c t) fun (i : S16384x2304.Idx) => by
    have hN : cfg0.N = 32 := N_0
    have h0 : (i 0).val < 16384 := (i 0).isLt
    have h1 : (i 1).val < 2304 := (i 1).isLt
    let t : Fin cfg0.N := ⟨(i 0).val / 512, by omega⟩
    have hi := idx2 t
    have ht : t.val = (i 0).val / 512 := rfl
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 512 ≤ (i 0).val ∧ (i 0).val < win0_2.index t 0 * 512 + 512
      rw [hi.1]; omega
    | ⟨1, _⟩ =>
      show win0_2.index t 1 * 2304 ≤ (i 1).val ∧ (i 1).val < win0_2.index t 1 * 2304 + 2304
      rw [hi.2]; omega

/-- The reference's result is that value. -/
theorem ref_eq (X : FVec Ideal S2x8192x1024 .f32) (W : FVec Ideal S1024x2304 .f32) :
    shapeCast _ (Host.dotGeneral (F := Ideal) Cert.Reference2Ideal.dot_S2x8192x1024_S1024x2304_S2x8192x2304_2_0_01_1_n_n none X W)
      Cert.Reference2Ideal.Gen.facts.toFacts₀.shapeCasts_S2x8192x2304_S16384x2304 = fun i => prod X W (i 0) (i 1) := by
  funext i
  have e : i = ix2 (i 0) (i 1) := by
    funext a
    match a with
    | ⟨0, _⟩ => rfl
    | ⟨1, _⟩ => rfl
  exact (congrArg _ e).trans (ref_apply X W (i 0) (i 1))

end Cert.Proof.InProj
end
-- ==== Proof.Val.Norm.lean ====
/- One row's norm, and a row before it, over the extended reals. -/
module

public import Idealize.ShloMosaic.PureOps.Ideal.Laws
public import Mathlib.Algebra.BigOperators.Fin

@[expose] public section

noncomputable section

namespace Cert.Proof.Norm

open Idealize.ShloMosaic
open scoped BigOperators

/-- The mean of a row of 1024, -/
def mean (y : Fin 1024 → EReal) : EReal := Ideal.div (∑ k, y k) (Ideal.ofBits .f32 0x44800000#32)
/-- the row less its mean, -/
def cen (y : Fin 1024 → EReal) (k : Fin 1024) : EReal := y k - mean y
/-- and the row normed, scaled and shifted. -/
def normed (y g b : Fin 1024 → EReal) (k : Fin 1024) : EReal :=
  cen y k * Ideal.rsqrt (mean (fun j => cen y j * cen y j) + Ideal.ofBits .f32 0x3727C5AC#32) * g k + b k

/-- A row before its norm: the stream's, scaled, and the two products. -/
def pre (ya : Fin 768 → EReal) (yd : Fin 256 → EReal) (x : Fin 1024 → EReal) (w : Fin 1024 → Fin 1024 → EReal) (k : Fin 1024) : EReal :=
  Ideal.ofBits .f32 0x3FB504F3#32 * x k
    + (∑ e : Fin 768, ya e * w ⟨e.val, by omega⟩ k + ∑ e : Fin 256, yd e * w ⟨768 + e.val, by omega⟩ k)

/-- It depends on its operands alone. -/
theorem normed_congr {ya ya' : Fin 768 → EReal} {yd yd' : Fin 256 → EReal} {x x' g g' b b' : Fin 1024 → EReal} {w w' : Fin 1024 → Fin 1024 → EReal}
    (k : Fin 1024) (ha : ya = ya') (hd : yd = yd') (hx : x = x') (hw : w = w') (hg : g = g') (hb : b = b') :
    normed (pre ya yd x w) g b k = normed (pre ya' yd' x' w') g' b' k := by
  subst ha hd hx hw hg hb; rfl

end Cert.Proof.Norm
end
-- ==== Proof.Val.OutRef.lean ====
/- What the reference of the output projection computes, at an element. -/
module

public import proofs.«01_k».proof.Proof.Gen.Reference3Ideal.Run
public import proofs.«01_k».proof.Proof.Val.Norm
public import Idealize.ShloMosaic.Lib.Pointwise

@[expose] public section

set_option maxRecDepth 16384

noncomputable section

namespace Cert.Proof.OutRef

open Cert.Reference3Ideal Cert.Reference3Ideal.Gen Cert.Proof.Norm
open Idealize.ShloMosaic Idealize.ShloMosaic.TcCoe Idealize.ShloMosaic.Pointwise
open scoped BigOperators

variable (YA : FVec Ideal S2x8192x768 .f32) (YD : FVec Ideal S2x8192x256 .f32) (X : FVec Ideal S2x8192x1024 .f32)
  (W : FVec Ideal S1024x1024 .f32) (Gm B : FVec Ideal S1024 .f32)

/-- A row before its norm, from the arguments, -/
def prow (R : Fin 16384) : Fin 1024 → EReal :=
  pre (fun e => YA (ix3 ⟨R.val / 8192, by omega⟩ ⟨R.val % 8192, by omega⟩ e)) (fun e => YD (ix3 ⟨R.val / 8192, by omega⟩ ⟨R.val % 8192, by omega⟩ e))
    (fun e => X (ix3 ⟨R.val / 8192, by omega⟩ ⟨R.val % 8192, by omega⟩ e)) (fun e k => W (ix2 e k))

/-- and the value of the result. -/
def value : FVec Ideal S16384x1024 .f32 := fun i => normed (prow YA YD X W (i 0)) (fun e => Gm (ix1 e)) (fun e => B (ix1 e)) (i 1)

/-- The reference's rows before their norm, -/
def rP : FVec Ideal S2x8192x1024 .f32 :=
  addf (mulf (broadcastInDim S2x8192x1024 ![] bcast_S_S2x8192x1024 (constant S_ .f32 0x3FB504F3#32)) X) (Host.dotGeneral dot_S2x8192x1024_S1024x1024_S2x8192x1024_2_0_01_1_n_n none (concatenate S2x8192x1024 2 [⟨S2x8192x768, YA⟩, ⟨S2x8192x256, YD⟩] concatenates_S2x8192x768_S2x8192x256_S2x8192x1024_d2) W)

/-- their means, -/
def rM (P : FVec Ideal S2x8192x1024 .f32) : FVec Ideal S2x8192x1 .f32 :=
  Host.divf (broadcastInDim S2x8192x1 ![0, 1] bcast_S2x8192_S2x8192x1_0_1 (Host.reduceAdd P (constant S_ .f32 0x00000000#32) reducesTo_S2x8192x1024_S2x8192_d2 h_S_)) (broadcastInDim S2x8192x1 ![] bcast_S_S2x8192x1 (constant S_ .f32 0x44800000#32))

/-- the rows less their means, -/
def rC (P : FVec Ideal S2x8192x1024 .f32) : FVec Ideal S2x8192x1024 .f32 :=
  subf P (broadcastInDim S2x8192x1024 ![0, 1, 2] bcast_S2x8192x1_S2x8192x1024_0_1_2 (rM P))

/-- and its result. -/
def rN (C : FVec Ideal S2x8192x1024 .f32) : FVec Ideal S16384x1024 .f32 :=
  shapeCast _ (addf (mulf (mulf C (broadcastInDim S2x8192x1024 ![0, 1, 2] bcast_S2x8192x1_S2x8192x1024_0_1_2 (Host.rsqrt (addf (rM (mulf C C)) (broadcastInDim S2x8192x1 ![] bcast_S_S2x8192x1 (constant S_ .f32 0x3727C5AC#32)))))) (broadcastInDim S2x8192x1024 ![0, 1, 2] bcast_S1x1x1024_S2x8192x1024_0_1_2 (broadcastInDim S1x1x1024 ![2] bcast_S1024_S1x1x1024_2 Gm))) (broadcastInDim S2x8192x1024 ![0, 1, 2] bcast_S1x1x1024_S2x8192x1024_0_1_2 (broadcastInDim S1x1x1024 ![2] bcast_S1024_S1x1x1024_2 B))) shapeCasts_S2x8192x1024_S16384x1024

theorem res_eq (m : (ℓ : Loc nD τ sig) → Buf (Elt Ideal) ℓ) (c : Dev nD) :
    Value.res_main_v27 (F := Ideal) m c
      = rN (m ((c.tc : Thread nD τ).loc main_arg4))
          (m ((c.tc : Thread nD τ).loc main_arg5))
          (rC (rP (m ((c.tc : Thread nD τ).loc main_arg0))
            (m ((c.tc : Thread nD τ).loc main_arg1))
            (m ((c.tc : Thread nD τ).loc main_arg2))
            (m ((c.tc : Thread nD τ).loc main_arg3)))) := rfl

theorem rP_apply (b : Fin 2) (s : Fin 8192) (k : Fin 1024) : rP YA YD X W (ix3 b s k)
    = pre (fun e => YA (ix3 b s e)) (fun e => YD (ix3 b s e)) (fun e => X (ix3 b s e)) (fun e k => W (ix2 e k)) k := by
  unfold pre
  pointwise [rP]

theorem rM_apply (P : FVec Ideal S2x8192x1024 .f32) (b : Fin 2) (s : Fin 8192) :
    rM P (ix3 b s 0) = mean fun k => P (ix3 b s k) := by
  unfold mean
  pointwise [rM]

theorem rC_apply (P : FVec Ideal S2x8192x1024 .f32) (b : Fin 2) (s : Fin 8192) (k : Fin 1024) :
    rC P (ix3 b s k) = cen (fun k => P (ix3 b s k)) k := by
  unfold cen
  rw [← rM_apply]
  pointwise [rC]

theorem rN_apply (C : FVec Ideal S2x8192x1024 .f32) (R : Fin 16384) (k : Fin 1024) :
    rN Gm B C (ix2 R k) = C (ix3 ⟨R.val / 8192, by omega⟩ ⟨R.val % 8192, by omega⟩ k)
        * Ideal.rsqrt (rM (mulf C C) (ix3 ⟨R.val / 8192, by omega⟩ ⟨R.val % 8192, by omega⟩ 0) + Ideal.ofBits .f32 0x3727C5AC#32) * Gm (ix1 k) + B (ix1 k) := by
  pointwise [rN]

/-- The reference's result is that value. -/
theorem value_eq : rN Gm B (rC (rP YA YD X W)) = value YA YD X W Gm B := by
  funext i
  obtain ⟨R, k, rfl⟩ : ∃ (R : Fin 16384) (k : Fin 1024), i = ix2 R k := ⟨i 0, i 1, by
    funext a
    match a with
    | ⟨0, _⟩ => rfl
    | ⟨1, _⟩ => rfl⟩
  rw [rN_apply]
  have hp : ∀ (b : Fin 2) (s : Fin 8192), (fun k => rP YA YD X W (ix3 b s k))
      = pre (fun e => YA (ix3 b s e)) (fun e => YD (ix3 b s e)) (fun e => X (ix3 b s e)) (fun e k => W (ix2 e k)) := fun b s => funext fun k => rP_apply YA YD X W b s k
  have hc : ∀ (b : Fin 2) (s : Fin 8192) (k : Fin 1024), rC (rP YA YD X W) (ix3 b s k)
      = cen (pre (fun e => YA (ix3 b s e)) (fun e => YD (ix3 b s e)) (fun e => X (ix3 b s e)) (fun e k => W (ix2 e k))) k := fun b s k => by rw [rC_apply, hp]
  rw [rM_apply, hc]
  have hm : ∀ (b : Fin 2) (s : Fin 8192) (k : Fin 1024), mulf (rC (rP YA YD X W)) (rC (rP YA YD X W)) (ix3 b s k)
      = rC (rP YA YD X W) (ix3 b s k) * rC (rP YA YD X W) (ix3 b s k) := fun _ _ _ => rfl
  simp only [hm, hc]
  rfl

end Cert.Proof.OutRef
end
-- ==== Proof.Val.OutLn.lean ====
/- The output projection's call with its residual and norm, over the extended reals. -/
module

public import proofs.«01_k».proof.Proof.Gen.Kernel3Ideal.Value
public import proofs.«01_k».proof.Proof.Val.OutRef
public import Idealize.ShloMosaic.Lib.Pointwise
public import Idealize.ShloMosaic.Lib.StableHlo.ReadAt

@[expose] public section

set_option maxRecDepth 16384

noncomputable section

namespace Cert.Proof.OutLn

open Cert.Kernel3Ideal Cert.Kernel3Ideal.Gen Cert.Proof.Norm
open Idealize.ShloMosaic Idealize.ShloMosaic.TcCoe Idealize.ShloMosaic.Pointwise Idealize.SL.Sem
open Idealize.ShloMosaic.Pipeline (Dat)
open scoped BigOperators

/-! ### What the body leaves of its blocks -/

variable (ya : Vec Ideal S512x768 .f32) (yd : Vec Ideal S512x256 .f32) (x : Vec Ideal S512x1024 .f32)
  (w : Vec Ideal S1024x1024 .bf16) (g b : Vec Ideal S1x1024 .f32)

theorem cen_apply (r : Fin 512) (k : Fin 1024) :
    k0_pay4 ya (View.ld w r0_1) yd (View.ld w r0_3) x (ix2 r k)
      = cen (pre (fun e => ya (ix2 r e)) (fun e => yd (ix2 r e)) (fun e => x (ix2 r e)) (fun e k => w (ix2 e k))) k := by
  unfold cen mean pre
  pointwise [k0_pay4]

theorem out_apply (r : Fin 512) (k : Fin 1024) :
    out0_6 ya yd x w g b (ix2 r k)
      = normed (pre (fun e => ya (ix2 r e)) (fun e => yd (ix2 r e)) (fun e => x (ix2 r e)) (fun e k => w (ix2 e k)))
          (fun e => g (ix2 0 e)) (fun e => b (ix2 0 e)) k := by
  have e : r0_4.emb (ix2 r k) = ix2 r k := by
    funext a
    apply Fin.ext
    match a with
    | ⟨0, _⟩ => show 0 + 1 * r.val = r.val; omega
    | ⟨1, _⟩ => show 0 + 1 * k.val = k.val; omega
  unfold out0_6
  refine (congrArg (View.canon _) e.symm).trans ((View.canon_cons_emb (Val := Elt Ideal) (e := .f32) r0_4 _ [] (ix2 r k)).trans ?_)
  have h0 : (![0, 0] : Fin 2 → ℕ) = fun _ => 0 := by decide
  rw [View.ld_unit_zero (S := S512x768) h0, View.ld_unit_zero (S := S512x256) h0, View.ld_unit_zero (S := S512x1024) h0,
    View.ld_unit_zero (S := S1x1024) h0, View.ld_unit_zero (S := S1x1024) h0]
  have hc := cen_apply ya yd x w r
  unfold normed
  simp only [← hc]
  unfold mean
  pointwise [k0_pay1, k0_pay2, k0_pay3, k0_pay5]

/-! ### The arrays the call is given -/

variable (m : (ℓ : Loc nD τ sig) → Buf (Elt Ideal) ℓ) (c : Dev nD)

theorem v0_apply (R : Fin 16384) (k : Fin 768) : V m c main_v0 (ix2 R k)
    = m ((c.tc : Thread nD τ).loc main_arg0) (ix3 ⟨R.val / 8192, by omega⟩ ⟨R.val % 8192, by omega⟩ k) := by
  unfold V
  after_reads_at

theorem v1_apply (R : Fin 16384) (k : Fin 256) : V m c main_v1 (ix2 R k)
    = m ((c.tc : Thread nD τ).loc main_arg1) (ix3 ⟨R.val / 8192, by omega⟩ ⟨R.val % 8192, by omega⟩ k) := by
  unfold V
  after_reads_at

theorem v2_apply (R : Fin 16384) (k : Fin 1024) : V m c main_v2 (ix2 R k)
    = m ((c.tc : Thread nD τ).loc main_arg2) (ix3 ⟨R.val / 8192, by omega⟩ ⟨R.val % 8192, by omega⟩ k) := by
  unfold V
  after_reads_at

theorem v3_apply (e k : Fin 1024) : V m c main_v3 (ix2 e k) = m ((c.tc : Thread nD τ).loc main_arg3) (ix2 e k) := by
  unfold V
  after_reads_at

theorem v4_apply (k : Fin 1024) : V m c main_v4 (ix2 0 k) = m ((c.tc : Thread nD τ).loc main_arg4) (ix1 k) := by
  unfold V
  after_reads_at

theorem v5_apply (k : Fin 1024) : V m c main_v5 (ix2 0 k) = m ((c.tc : Thread nD τ).loc main_arg5) (ix1 k) := by
  unfold V
  after_reads_at

/-! ### The blocks and the whole array -/

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = t.val ∧ win0_6.index t 1 = 0 := by decide +kernel

/-- The row of a point's block. -/
def row (t : Fin cfg0.N) (r : Fin 512) : Fin 16384 := ⟨512 * t.val + r.val, by have : t.val < 32 := t.isLt.trans_eq N_0; omega⟩

/-- An index of an array with two axes is its two coordinates. -/
theorem eq_ix2 {a b : ℕ} (i : (⟨2, ![a, b]⟩ : Shape).Idx) (x : Fin a) (y : Fin b) (h0 : (i 0).val = x.val) (h1 : (i 1).val = y.val) : i = ix2 x y := by
  funext d
  apply Fin.ext
  match d with
  | ⟨0, _⟩ => exact h0
  | ⟨1, _⟩ => exact h1

theorem blk0_apply (t : Fin cfg0.N) (r : Fin 512) (k : Fin 768) :
    (iblk m c 0 t : Vec Ideal S512x768 .f32) (ix2 r k) = V m c main_v0 (ix2 (row t r) k) := by
  have hi := idx0 t
  unfold iblk
  rw [View.read_apply]
  refine congrArg (V m c main_v0) (eq_ix2 _ _ _ ?_ ?_)
  · show win0_0.index t 0 * 512 + 1 * r.val = 512 * t.val + r.val; rw [hi.1]; omega
  · show win0_0.index t 1 * 768 + 1 * k.val = k.val; rw [hi.2]; omega

theorem blk1_apply (t : Fin cfg0.N) (r : Fin 512) (k : Fin 256) :
    (iblk m c 1 t : Vec Ideal S512x256 .f32) (ix2 r k) = V m c main_v1 (ix2 (row t r) k) := by
  have hi := idx1 t
  unfold iblk
  rw [View.read_apply]
  refine congrArg (V m c main_v1) (eq_ix2 _ _ _ ?_ ?_)
  · show win0_1.index t 0 * 512 + 1 * r.val = 512 * t.val + r.val; rw [hi.1]; omega
  · show win0_1.index t 1 * 256 + 1 * k.val = k.val; rw [hi.2]; omega

theorem blk2_apply (t : Fin cfg0.N) (r : Fin 512) (k : Fin 1024) :
    (iblk m c 2 t : Vec Ideal S512x1024 .f32) (ix2 r k) = V m c main_v2 (ix2 (row t r) k) := by
  have hi := idx2 t
  unfold iblk
  rw [View.read_apply]
  refine congrArg (V m c main_v2) (eq_ix2 _ _ _ ?_ ?_)
  · show win0_2.index t 0 * 512 + 1 * r.val = 512 * t.val + r.val; rw [hi.1]; omega
  · show win0_2.index t 1 * 1024 + 1 * k.val = k.val; rw [hi.2]; omega

theorem blk3_apply (t : Fin cfg0.N) (e k : Fin 1024) :
    (iblk m c 3 t : Vec Ideal S1024x1024 .bf16) (ix2 e k) = V m c main_v3 (ix2 e k) := by
  have hi := idx3 t
  unfold iblk
  rw [View.read_apply]
  refine congrArg (V m c main_v3) (eq_ix2 _ _ _ ?_ ?_)
  · show win0_3.index t 0 * 1024 + 1 * e.val = e.val; rw [hi.1]; omega
  · show win0_3.index t 1 * 1024 + 1 * k.val = k.val; rw [hi.2]; omega

theorem blk4_apply (t : Fin cfg0.N) (k : Fin 1024) :
    (iblk m c 4 t : Vec Ideal S1x1024 .f32) (ix2 0 k) = V m c main_v4 (ix2 0 k) := by
  have hi := idx4 t
  unfold iblk
  rw [View.read_apply]
  refine congrArg (V m c main_v4) (eq_ix2 _ _ _ ?_ ?_)
  · show win0_4.index t 0 * 1 + 1 * 0 = 0; rw [hi.1]
  · show win0_4.index t 1 * 1024 + 1 * k.val = k.val; rw [hi.2]; omega

theorem blk5_apply (t : Fin cfg0.N) (k : Fin 1024) :
    (iblk m c 5 t : Vec Ideal S1x1024 .f32) (ix2 0 k) = V m c main_v5 (ix2 0 k) := by
  have hi := idx5 t
  unfold iblk
  rw [View.read_apply]
  refine congrArg (V m c main_v5) (eq_ix2 _ _ _ ?_ ?_)
  · show win0_5.index t 0 * 1 + 1 * 0 = 0; rw [hi.1]
  · show win0_5.index t 1 * 1024 + 1 * k.val = k.val; rw [hi.2]; omega

/-- The value the result ends at. -/
def G : FVec Ideal S16384x1024 .f32 :=
  OutRef.value (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem flushed_eq (t : Fin cfg0.N) :
    (dats m 0 c).flushed 6 t = ((cfg0.win 6).blk t).view.read (Elt Ideal) (G m c) := by
  have hi := idx6 t
  rw [Cert.Kernel3Ideal.Value.flushed6]
  funext (j : S512x1024.Idx)
  obtain ⟨r, k, rfl⟩ : ∃ (r : Fin 512) (k : Fin 1024), j = ix2 r k := ⟨j 0, j 1, eq_ix2 _ _ _ rfl rfl⟩
  refine Eq.trans (out_apply (iblk m c 0 t) (iblk m c 1 t) (iblk m c 2 t) (iblk m c 3 t) (iblk m c 4 t) (iblk m c 5 t) r k) ?_
  rw [View.read_apply]
  refine Eq.trans (b := G m c (ix2 (row t r) k)) ?_ (congrArg (G m c) (eq_ix2 _ _ _ ?_ ?_).symm)
  · refine (normed_congr k (funext fun e => (blk0_apply m c t r e).trans (v0_apply m c (row t r) e))
      (funext fun e => (blk1_apply m c t r e).trans (v1_apply m c (row t r) e))
      (funext fun e => (blk2_apply m c t r e).trans (v2_apply m c (row t r) e))
      (funext fun e => funext fun j => (blk3_apply m c t e j).trans (v3_apply m c e j))
      (funext fun e => (blk4_apply m c t e).trans (v4_apply m c e))
      (funext fun e => (blk5_apply m c t e).trans (v5_apply m c e))).trans ?_
    rfl
  · show win0_6.index t 0 * 512 + 1 * r.val = 512 * t.val + r.val; rw [hi.1]; omega
  · show win0_6.index t 1 * 1024 + 1 * k.val = k.val; rw [hi.2]; omega

theorem final : (dats m 0 c).arrAt 6 cfg0.N = G m c :=
  (dats m 0 c).arrAt_eq_of_cover 6 (G m c) (fun t _ => flushed_eq m c t) fun (i : S16384x1024.Idx) => by
    have hN : cfg0.N = 32 := N_0
    have h0 : (i 0).val < 16384 := (i 0).isLt
    have h1 : (i 1).val < 1024 := (i 1).isLt
    let t : Fin cfg0.N := ⟨(i 0).val / 512, by omega⟩
    have hi := idx6 t
    have ht : t.val = (i 0).val / 512 := rfl
    refine ⟨t, flush0_6 t, ?_⟩
    show i ∈ ((View.whole main_v6).slice (win0_6.rect t)).set
    rw [View.set_slice_whole, Rect.mem_set_unit]
    intro a
    match a with
    | ⟨0, _⟩ =>
      show win0_6.index t 0 * 512 ≤ (i 0).val ∧ (i 0).val < win0_6.index t 0 * 512 + 512
      rw [hi.1]; omega
    | ⟨1, _⟩ =>
      show win0_6.index t 1 * 1024 ≤ (i 1).val ∧ (i 1).val < win0_6.index t 1 * 1024 + 1024
      rw [hi.2]; omega

end Cert.Proof.OutLn
end
-- ==== Proof.Val.Mix.lean ====
/- The three mixers of one position and one channel over the extended reals: what both programs come to. -/
module

public import Idealize.ShloMosaic.PureOps.Ideal.Laws
public import Idealize.ShloMosaic.Lib.Pointwise
public import Mathlib.Algebra.BigOperators.Fin

@[expose] public section

noncomputable section

namespace Cert.Proof.Mix

open Idealize.ShloMosaic Idealize.ShloMosaic.Pointwise
open scoped BigOperators

/-- The first terms of a sequence, summed in order. -/
def fold (f : ℕ → EReal) : ℕ → EReal
  | 0 => 0
  | n + 1 => fold f n + f n

/-- The entry at a position and those before it, summed from the newest. -/
def run (h : ℕ → EReal) (p : ℕ) : ℕ → EReal
  | 0 => h p
  | n + 1 => run h p n + h (p - (n + 1))

/-- A sequence with 32 zeros before it. -/
def padded (f : ℕ → EReal) (n : ℕ) : EReal := if 32 ≤ n then f (n - 32) else 0

/-- The mean of a row of 256, -/
def mean (y : Fin 256 → EReal) : EReal := Ideal.div (∑ k, y k) (Ideal.ofBits .f32 0x43800000#32)
/-- the row less its mean, -/
def cen (y : Fin 256 → EReal) (k : Fin 256) : EReal := y k - mean y
/-- the row normed, scaled and shifted, -/
def normed (y g b : Fin 256 → EReal) (k : Fin 256) : EReal :=
  cen y k * Ideal.rsqrt (mean (fun j => cen y j * cen y j) + Ideal.ofBits .f32 0x3727C5AC#32) * g k + b k
/-- and a value times its logistic. -/
def silu (h : EReal) : EReal := h * Ideal.logistic h

/-- The windows of the four groups of channels. -/
def win (e : ℕ) : ℕ := if e < 64 then 2 else if e < 128 then 4 else if e < 192 then 8 else 16

/-- How many positions a window holds at position `t`. -/
def filled (w t : ℕ) : ℝ := (min (t + 1) w : ℕ)

theorem filled_pos (w t : ℕ) (hw : 0 < w) : 0 < filled w t := by
  unfold filled
  exact_mod_cast lt_min (Nat.succ_pos t) hw

/-- The mean of a window less the entry itself. -/
def pooled (h : ℕ → EReal) (w t : ℕ) : EReal := run h (32 + t) (w - 1) * ((1 / filled w t : ℝ) : EReal) - h (32 + t)

/-- The gated causal convolution, normed, at channel `k`. -/
def ya (h w : Fin 256 → ℕ → EReal) (cb g b : Fin 256 → EReal) (t : ℕ) (k : Fin 256) : EReal :=
  silu (normed (fun k => fold (fun n => w k n * h k (2 + n + t)) 31 + cb k) g b k)

/-- The pooled windows, mixed, at channel `k`. -/
def yb (h : Fin 256 → ℕ → EReal) (W : Fin 256 → Fin 256 → EReal) (s : Fin 256 → EReal) (t : ℕ) (k : Fin 256) : EReal :=
  (∑ e : Fin 256, pooled (h e) (win e.val) t * W e k) * s k

/-- The gated short convolution at one channel. -/
def yc (h w : ℕ → EReal) (g : EReal) (t : ℕ) : EReal := g * fold (fun n => w n * h (30 + n + t)) 3

/-! ### The whole result -/

section Arrays

variable (P : (⟨3, ![2, 8192, 2304]⟩ : Shape).Idx → EReal) (caw : (⟨2, ![31, 256]⟩ : Shape).Idx → EReal)
  (cab nag nab : (⟨1, ![256]⟩ : Shape).Idx → EReal) (pw : (⟨3, ![4, 64, 64]⟩ : Shape).Idx → EReal) (ps : (⟨1, ![256]⟩ : Shape).Idx → EReal)
  (ccw : (⟨2, ![3, 256]⟩ : Shape).Idx → EReal)

/-- A column of the input at a position, zero past the end. -/
def col (b : Fin 2) (c s : ℕ) : EReal := if h : s < 8192 ∧ c < 2304 then P (ix3 b ⟨s, h.1⟩ ⟨c, h.2⟩) else 0

/-- The three sequences the mixers look back over. -/
def featA (b : Fin 2) (k s : ℕ) : EReal := col P b k s * Ideal.logistic (col P b (256 + k) s)
def featB (b : Fin 2) (k s : ℕ) : EReal := col P b (512 + k) s
def featC (b : Fin 2) (k s : ℕ) : EReal := col P b (1280 + k) s * col P b (768 + k) s

/-- A convolution's weight, -/
def tapA (k : Fin 256) (n : ℕ) : EReal := if h : n < 31 then caw (ix2 ⟨n, h⟩ k) else 0
def tapC (k : Fin 256) (n : ℕ) : EReal := if h : n < 3 then ccw (ix2 ⟨n, h⟩ k) else 0
/-- and the pooled channels' matrix: zero outside the four blocks on the diagonal. -/
def diag (e k : Fin 256) : EReal :=
  if e.val / 64 = k.val / 64 then pw (ix3 ⟨k.val / 64, by omega⟩ ⟨e.val % 64, by omega⟩ ⟨k.val % 64, by omega⟩) else 0

/-- The result at a batch's position, its three thirds: -/
def outA (b : Fin 2) (t : ℕ) (k : Fin 256) : EReal :=
  ya (fun k => padded (featA P b k.val)) (tapA caw) (fun k => cab (ix1 k)) (fun k => nag (ix1 k)) (fun k => nab (ix1 k)) t k
def outB (b : Fin 2) (t : ℕ) (k : Fin 256) : EReal :=
  yb (fun e => padded (featB P b e.val)) (diag pw) (fun k => ps (ix1 k)) t k
def outC (b : Fin 2) (t : ℕ) (k : Fin 256) : EReal := yc (padded (featC P b k.val)) (tapC ccw k) (col P b (1024 + k.val) t) t

/-- and whole. -/
def value : (⟨3, ![2, 8192, 768]⟩ : Shape).Idx → EReal := fun i =>
  if (i 2).val < 256 then outA P caw cab nag nab (i 0) (i 1).val ⟨(i 2).val % 256, by omega⟩
  else if (i 2).val < 512 then outB P pw ps (i 0) (i 1).val ⟨(i 2).val % 256, by omega⟩
  else outC P ccw (i 0) (i 1).val ⟨(i 2).val % 256, by omega⟩

end Arrays

end Cert.Proof.Mix
end
-- ==== Proof.Val.LocalBody.lean ====
/- What the local mixers' body leaves of its blocks, over the extended reals. -/
module

public import proofs.«01_k».proof.Proof.Gen.Kernel4Ideal.Frame
public import proofs.«01_k».proof.Proof.Val.Mix
public import Idealize.ShloMosaic.Lib.Pointwise

@[expose] public section

set_option maxRecDepth 65536

noncomputable section

namespace Cert.Proof.LocalBody

open Cert.Kernel4Ideal Cert.Kernel4Ideal.Gen Cert.Proof.Mix
open Idealize.ShloMosaic Idealize.ShloMosaic.TcCoe Idealize.ShloMosaic.Pointwise Idealize.ShloMosaic.Tactic
open scoped BigOperators

/-! ### The three mixers of a block, of what the scratch holds -/

/-- The long convolution with its bias, -/
def conv (H : Vec Ideal S544x768 .f32) (x1 : Vec Ideal S31x256 .f32) (x2 : Vec Ideal S1x256 .f32) : FVec Ideal S512x256 .f32 :=
  k0_pay12 (k0_pay11 (k0_pay9 (k0_pay8 (k0_pay7 (FloatOps.ofBits FTy.f32 0#32) (View.ld x1 (Rect.unit ![0, 0] ![1, 256] inb_S31x256_S1x256_0_0))
    (View.ld H (Rect.unit ![2, 0] ![512, 256] inb_S544x768_S512x256_2_0)) (View.ld x1 (Rect.unit ![1, 0] ![1, 256] inb_S31x256_S1x256_1_0)) (View.ld H
    (Rect.unit ![3, 0] ![512, 256] inb_S544x768_S512x256_3_0)) (View.ld x1 (Rect.unit ![2, 0] ![1, 256] inb_S31x256_S1x256_2_0)) (View.ld H (Rect.unit
    ![4, 0] ![512, 256] inb_S544x768_S512x256_4_0)) (View.ld x1 (Rect.unit ![3, 0] ![1, 256] inb_S31x256_S1x256_3_0)) (View.ld H (Rect.unit ![5, 0]
    ![512, 256] inb_S544x768_S512x256_5_0)) (View.ld x1 (Rect.unit ![4, 0] ![1, 256] inb_S31x256_S1x256_4_0)) (View.ld H (Rect.unit ![6, 0] ![512,
    256] inb_S544x768_S512x256_6_0)) (View.ld x1 (Rect.unit ![5, 0] ![1, 256] inb_S31x256_S1x256_5_0)) (View.ld H (Rect.unit ![7, 0] ![512, 256]
    inb_S544x768_S512x256_7_0))) (View.ld x1 (Rect.unit ![6, 0] ![1, 256] inb_S31x256_S1x256_6_0)) (View.ld H (Rect.unit ![8, 0] ![512, 256]
    inb_S544x768_S512x256_8_0)) (View.ld x1 (Rect.unit ![7, 0] ![1, 256] inb_S31x256_S1x256_7_0)) (View.ld H (Rect.unit ![9, 0] ![512, 256]
    inb_S544x768_S512x256_9_0)) (View.ld x1 (Rect.unit ![8, 0] ![1, 256] inb_S31x256_S1x256_8_0)) (View.ld H (Rect.unit ![10, 0] ![512, 256]
    inb_S544x768_S512x256_10_0)) (View.ld x1 (Rect.unit ![9, 0] ![1, 256] inb_S31x256_S1x256_9_0)) (View.ld H (Rect.unit ![11, 0] ![512, 256]
    inb_S544x768_S512x256_11_0)) (View.ld x1 (Rect.unit ![10, 0] ![1, 256] inb_S31x256_S1x256_10_0)) (View.ld H (Rect.unit ![12, 0] ![512, 256]
    inb_S544x768_S512x256_12_0)) (View.ld x1 (Rect.unit ![11, 0] ![1, 256] inb_S31x256_S1x256_11_0)) (View.ld H (Rect.unit ![13, 0] ![512, 256]
    inb_S544x768_S512x256_13_0)) (View.ld x1 (Rect.unit ![12, 0] ![1, 256] inb_S31x256_S1x256_12_0)) (View.ld H (Rect.unit ![14, 0] ![512, 256]
    inb_S544x768_S512x256_14_0))) (View.ld x1 (Rect.unit ![13, 0] ![1, 256] inb_S31x256_S1x256_13_0)) (View.ld H (Rect.unit ![15, 0] ![512, 256]
    inb_S544x768_S512x256_15_0)) (View.ld x1 (Rect.unit ![14, 0] ![1, 256] inb_S31x256_S1x256_14_0)) (View.ld H (Rect.unit ![16, 0] ![512, 256]
    inb_S544x768_S512x256_16_0)) (View.ld x1 (Rect.unit ![15, 0] ![1, 256] inb_S31x256_S1x256_15_0)) (View.ld H (Rect.unit ![17, 0] ![512, 256]
    inb_S544x768_S512x256_17_0)) (View.ld x1 (Rect.unit ![16, 0] ![1, 256] inb_S31x256_S1x256_16_0)) (View.ld H (Rect.unit ![18, 0] ![512, 256]
    inb_S544x768_S512x256_18_0)) (View.ld x1 (Rect.unit ![17, 0] ![1, 256] inb_S31x256_S1x256_17_0)) (View.ld H (Rect.unit ![19, 0] ![512, 256]
    inb_S544x768_S512x256_19_0)) (View.ld x1 (Rect.unit ![18, 0] ![1, 256] inb_S31x256_S1x256_18_0)) (View.ld H (Rect.unit ![20, 0] ![512, 256]
    inb_S544x768_S512x256_20_0))) (k0_pay10 (View.ld x1 (Rect.unit ![19, 0] ![1, 256] inb_S31x256_S1x256_19_0)) (View.ld H (Rect.unit ![21, 0] ![512,
    256] inb_S544x768_S512x256_21_0))) (View.ld x1 (Rect.unit ![20, 0] ![1, 256] inb_S31x256_S1x256_20_0)) (View.ld H (Rect.unit ![22, 0] ![512, 256]
    inb_S544x768_S512x256_22_0)) (View.ld x1 (Rect.unit ![21, 0] ![1, 256] inb_S31x256_S1x256_21_0)) (View.ld H (Rect.unit ![23, 0] ![512, 256]
    inb_S544x768_S512x256_23_0)) (View.ld x1 (Rect.unit ![22, 0] ![1, 256] inb_S31x256_S1x256_22_0)) (View.ld H (Rect.unit ![24, 0] ![512, 256]
    inb_S544x768_S512x256_24_0)) (View.ld x1 (Rect.unit ![23, 0] ![1, 256] inb_S31x256_S1x256_23_0)) (View.ld H (Rect.unit ![25, 0] ![512, 256]
    inb_S544x768_S512x256_25_0)) (View.ld x1 (Rect.unit ![24, 0] ![1, 256] inb_S31x256_S1x256_24_0)) (View.ld H (Rect.unit ![26, 0] ![512, 256]
    inb_S544x768_S512x256_26_0)) (View.ld x1 (Rect.unit ![25, 0] ![1, 256] inb_S31x256_S1x256_25_0)) (View.ld H (Rect.unit ![27, 0] ![512, 256]
    inb_S544x768_S512x256_27_0))) (View.ld x1 (Rect.unit ![26, 0] ![1, 256] inb_S31x256_S1x256_26_0)) (View.ld H (Rect.unit ![28, 0] ![512, 256]
    inb_S544x768_S512x256_28_0)) (View.ld x1 (Rect.unit ![27, 0] ![1, 256] inb_S31x256_S1x256_27_0)) (View.ld H (Rect.unit ![29, 0] ![512, 256]
    inb_S544x768_S512x256_29_0)) (View.ld x1 (Rect.unit ![28, 0] ![1, 256] inb_S31x256_S1x256_28_0)) (View.ld H (Rect.unit ![30, 0] ![512, 256]
    inb_S544x768_S512x256_30_0)) (View.ld x1 (Rect.unit ![29, 0] ![1, 256] inb_S31x256_S1x256_29_0)) (View.ld H (Rect.unit ![31, 0] ![512, 256]
    inb_S544x768_S512x256_31_0)) (View.ld x1 (Rect.unit ![30, 0] ![1, 256] inb_S31x256_S1x256_30_0)) (View.ld H (Rect.unit ![32, 0] ![512, 256]
    inb_S544x768_S512x256_32_0)) (View.ld x2 (Rect.unit ![0, 0] ![1, 256] inb_S1x256_S1x256_0_0))

/-- its row sums over 256, -/
def convMean (H : Vec Ideal S544x768 .f32) (x1 : Vec Ideal S31x256 .f32) (x2 : Vec Ideal S1x256 .f32) : FVec Ideal S512x1 .f32 :=
  k0_pay15 (k0_pay11 (k0_pay9 (k0_pay8 (k0_pay7 (FloatOps.ofBits FTy.f32 0#32) (View.ld x1 (Rect.unit ![0, 0] ![1, 256] inb_S31x256_S1x256_0_0))
    (View.ld H (Rect.unit ![2, 0] ![512, 256] inb_S544x768_S512x256_2_0)) (View.ld x1 (Rect.unit ![1, 0] ![1, 256] inb_S31x256_S1x256_1_0)) (View.ld H
    (Rect.unit ![3, 0] ![512, 256] inb_S544x768_S512x256_3_0)) (View.ld x1 (Rect.unit ![2, 0] ![1, 256] inb_S31x256_S1x256_2_0)) (View.ld H (Rect.unit
    ![4, 0] ![512, 256] inb_S544x768_S512x256_4_0)) (View.ld x1 (Rect.unit ![3, 0] ![1, 256] inb_S31x256_S1x256_3_0)) (View.ld H (Rect.unit ![5, 0]
    ![512, 256] inb_S544x768_S512x256_5_0)) (View.ld x1 (Rect.unit ![4, 0] ![1, 256] inb_S31x256_S1x256_4_0)) (View.ld H (Rect.unit ![6, 0] ![512,
    256] inb_S544x768_S512x256_6_0)) (View.ld x1 (Rect.unit ![5, 0] ![1, 256] inb_S31x256_S1x256_5_0)) (View.ld H (Rect.unit ![7, 0] ![512, 256]
    inb_S544x768_S512x256_7_0))) (View.ld x1 (Rect.unit ![6, 0] ![1, 256] inb_S31x256_S1x256_6_0)) (View.ld H (Rect.unit ![8, 0] ![512, 256]
    inb_S544x768_S512x256_8_0)) (View.ld x1 (Rect.unit ![7, 0] ![1, 256] inb_S31x256_S1x256_7_0)) (View.ld H (Rect.unit ![9, 0] ![512, 256]
    inb_S544x768_S512x256_9_0)) (View.ld x1 (Rect.unit ![8, 0] ![1, 256] inb_S31x256_S1x256_8_0)) (View.ld H (Rect.unit ![10, 0] ![512, 256]
    inb_S544x768_S512x256_10_0)) (View.ld x1 (Rect.unit ![9, 0] ![1, 256] inb_S31x256_S1x256_9_0)) (View.ld H (Rect.unit ![11, 0] ![512, 256]
    inb_S544x768_S512x256_11_0)) (View.ld x1 (Rect.unit ![10, 0] ![1, 256] inb_S31x256_S1x256_10_0)) (View.ld H (Rect.unit ![12, 0] ![512, 256]
    inb_S544x768_S512x256_12_0)) (View.ld x1 (Rect.unit ![11, 0] ![1, 256] inb_S31x256_S1x256_11_0)) (View.ld H (Rect.unit ![13, 0] ![512, 256]
    inb_S544x768_S512x256_13_0)) (View.ld x1 (Rect.unit ![12, 0] ![1, 256] inb_S31x256_S1x256_12_0)) (View.ld H (Rect.unit ![14, 0] ![512, 256]
    inb_S544x768_S512x256_14_0))) (View.ld x1 (Rect.unit ![13, 0] ![1, 256] inb_S31x256_S1x256_13_0)) (View.ld H (Rect.unit ![15, 0] ![512, 256]
    inb_S544x768_S512x256_15_0)) (View.ld x1 (Rect.unit ![14, 0] ![1, 256] inb_S31x256_S1x256_14_0)) (View.ld H (Rect.unit ![16, 0] ![512, 256]
    inb_S544x768_S512x256_16_0)) (View.ld x1 (Rect.unit ![15, 0] ![1, 256] inb_S31x256_S1x256_15_0)) (View.ld H (Rect.unit ![17, 0] ![512, 256]
    inb_S544x768_S512x256_17_0)) (View.ld x1 (Rect.unit ![16, 0] ![1, 256] inb_S31x256_S1x256_16_0)) (View.ld H (Rect.unit ![18, 0] ![512, 256]
    inb_S544x768_S512x256_18_0)) (View.ld x1 (Rect.unit ![17, 0] ![1, 256] inb_S31x256_S1x256_17_0)) (View.ld H (Rect.unit ![19, 0] ![512, 256]
    inb_S544x768_S512x256_19_0)) (View.ld x1 (Rect.unit ![18, 0] ![1, 256] inb_S31x256_S1x256_18_0)) (View.ld H (Rect.unit ![20, 0] ![512, 256]
    inb_S544x768_S512x256_20_0))) (k0_pay10 (View.ld x1 (Rect.unit ![19, 0] ![1, 256] inb_S31x256_S1x256_19_0)) (View.ld H (Rect.unit ![21, 0] ![512,
    256] inb_S544x768_S512x256_21_0))) (View.ld x1 (Rect.unit ![20, 0] ![1, 256] inb_S31x256_S1x256_20_0)) (View.ld H (Rect.unit ![22, 0] ![512, 256]
    inb_S544x768_S512x256_22_0)) (View.ld x1 (Rect.unit ![21, 0] ![1, 256] inb_S31x256_S1x256_21_0)) (View.ld H (Rect.unit ![23, 0] ![512, 256]
    inb_S544x768_S512x256_23_0)) (View.ld x1 (Rect.unit ![22, 0] ![1, 256] inb_S31x256_S1x256_22_0)) (View.ld H (Rect.unit ![24, 0] ![512, 256]
    inb_S544x768_S512x256_24_0)) (View.ld x1 (Rect.unit ![23, 0] ![1, 256] inb_S31x256_S1x256_23_0)) (View.ld H (Rect.unit ![25, 0] ![512, 256]
    inb_S544x768_S512x256_25_0)) (View.ld x1 (Rect.unit ![24, 0] ![1, 256] inb_S31x256_S1x256_24_0)) (View.ld H (Rect.unit ![26, 0] ![512, 256]
    inb_S544x768_S512x256_26_0)) (View.ld x1 (Rect.unit ![25, 0] ![1, 256] inb_S31x256_S1x256_25_0)) (View.ld H (Rect.unit ![27, 0] ![512, 256]
    inb_S544x768_S512x256_27_0))) (View.ld x1 (Rect.unit ![26, 0] ![1, 256] inb_S31x256_S1x256_26_0)) (View.ld H (Rect.unit ![28, 0] ![512, 256]
    inb_S544x768_S512x256_28_0)) (View.ld x1 (Rect.unit ![27, 0] ![1, 256] inb_S31x256_S1x256_27_0)) (View.ld H (Rect.unit ![29, 0] ![512, 256]
    inb_S544x768_S512x256_29_0)) (View.ld x1 (Rect.unit ![28, 0] ![1, 256] inb_S31x256_S1x256_28_0)) (View.ld H (Rect.unit ![30, 0] ![512, 256]
    inb_S544x768_S512x256_30_0)) (View.ld x1 (Rect.unit ![29, 0] ![1, 256] inb_S31x256_S1x256_29_0)) (View.ld H (Rect.unit ![31, 0] ![512, 256]
    inb_S544x768_S512x256_31_0)) (View.ld x1 (Rect.unit ![30, 0] ![1, 256] inb_S31x256_S1x256_30_0)) (View.ld H (Rect.unit ![32, 0] ![512, 256]
    inb_S544x768_S512x256_32_0)) (View.ld x2 (Rect.unit ![0, 0] ![1, 256] inb_S1x256_S1x256_0_0))

/-- the first mixer's columns, -/
def colsA (H : Vec Ideal S544x768 .f32) (x1 : Vec Ideal S31x256 .f32) (x2 x3 x4 : Vec Ideal S1x256 .f32) : FVec Ideal S1x512x256 .f32 :=
  k0_pay16 (conv H x1 x2) (k0_pay13 (View.ld x3 (Rect.unit ![0, 0] ![1, 256] inb_S1x256_S1x256_0_0)))
    (k0_pay14 (View.ld x4 (Rect.unit ![0, 0] ![1, 256] inb_S1x256_S1x256_0_0))) (convMean H x1 x2)

/-- the second's, -/
def colsB (i : grid0.Coords) (H : Vec Ideal S544x768 .f32) (x5 : Vec Ideal S256x256 .bf16) (x6 : Vec Ideal S1x256 .f32) : FVec Ideal S1x512x256 .f32 :=
  k0_pay28 (k0_pay27 (k0_pay17 (BitVec.ofNat 32 (i 1).val)) (iota Kind.tc S512x256 32 [1] iota_S512x256_d1_w32) (View.ld H (Rect.unit ![32, 256] ![512,
    256] inb_S544x768_S512x256_32_256)) (k0_pay23 (k0_pay17 (BitVec.ofNat 32 (i 1).val)) (iota Kind.tc S512x256 32 [1] iota_S512x256_d1_w32) k0_pay18
    (k0_pay19 (View.ld H (Rect.unit ![32, 256] ![512, 256] inb_S544x768_S512x256_32_256)) (View.ld H (Rect.unit ![31, 256] ![512, 256]
    inb_S544x768_S512x256_31_256))) (k0_pay20 (BitVec.ofNat 32 (i 1).val)) k0_pay21 (View.ld H (Rect.unit ![30, 256] ![512, 256]
    inb_S544x768_S512x256_30_256)) (View.ld H (Rect.unit ![29, 256] ![512, 256] inb_S544x768_S512x256_29_256))) (k0_pay24 (k0_pay19 (View.ld H
    (Rect.unit ![32, 256] ![512, 256] inb_S544x768_S512x256_32_256)) (View.ld H (Rect.unit ![31, 256] ![512, 256] inb_S544x768_S512x256_31_256)))
    (View.ld H (Rect.unit ![30, 256] ![512, 256] inb_S544x768_S512x256_30_256)) (View.ld H (Rect.unit ![29, 256] ![512, 256]
    inb_S544x768_S512x256_29_256)) (View.ld H (Rect.unit ![28, 256] ![512, 256] inb_S544x768_S512x256_28_256)) (View.ld H (Rect.unit ![27, 256] ![512,
    256] inb_S544x768_S512x256_27_256)) (View.ld H (Rect.unit ![26, 256] ![512, 256] inb_S544x768_S512x256_26_256)) (View.ld H (Rect.unit ![25, 256]
    ![512, 256] inb_S544x768_S512x256_25_256))) (k0_pay25 (k0_pay17 (BitVec.ofNat 32 (i 1).val))) (k0_pay26 (iota Kind.tc S512x256 32 [1]
    iota_S512x256_d1_w32)) (View.ld H (Rect.unit ![24, 256] ![512, 256] inb_S544x768_S512x256_24_256)) (View.ld H (Rect.unit ![23, 256] ![512, 256]
    inb_S544x768_S512x256_23_256)) (View.ld H (Rect.unit ![22, 256] ![512, 256] inb_S544x768_S512x256_22_256)) (View.ld H (Rect.unit ![21, 256] ![512,
    256] inb_S544x768_S512x256_21_256)) (View.ld H (Rect.unit ![20, 256] ![512, 256] inb_S544x768_S512x256_20_256)) (View.ld H (Rect.unit ![19, 256]
    ![512, 256] inb_S544x768_S512x256_19_256)) (View.ld H (Rect.unit ![18, 256] ![512, 256] inb_S544x768_S512x256_18_256)) (View.ld H (Rect.unit ![17,
    256] ![512, 256] inb_S544x768_S512x256_17_256))) (View.ld x5 (Rect.unit ![0, 0] ![256, 256] inb_S256x256_S256x256_0_0)) (View.ld x6 (Rect.unit
    ![0, 0] ![1, 256] inb_S1x256_S1x256_0_0))

/-- and the third's. -/
def colsC (H : Vec Ideal S544x768 .f32) (x0 : Vec Ideal S1x512x1536 .f32) (x7 : Vec Ideal S3x256 .f32) : FVec Ideal S1x512x256 .f32 :=
  k0_pay29 (k0_pay3 (View.ld x0 (Rect.unit ![0, 0, 1024] ![1, 512, 256] inb_S1x512x1536_S1x512x256_0_0_1024))) (View.ld x7 (Rect.unit ![0, 0] ![1,
    256] inb_S3x256_S1x256_0_0)) (View.ld H (Rect.unit ![30, 512] ![512, 256] inb_S544x768_S512x256_30_512)) (View.ld x7 (Rect.unit ![1, 0] ![1, 256]
    inb_S3x256_S1x256_1_0)) (View.ld H (Rect.unit ![31, 512] ![512, 256] inb_S544x768_S512x256_31_512)) (View.ld x7 (Rect.unit ![2, 0] ![1, 256]
    inb_S3x256_S1x256_2_0)) (View.ld H (Rect.unit ![32, 512] ![512, 256] inb_S544x768_S512x256_32_512))

/-- The block the body leaves. -/
def block (i : grid0.Coords) (H : Vec Ideal S544x768 .f32) (x0 : Vec Ideal S1x512x1536 .f32) (x1 : Vec Ideal S31x256 .f32)
    (x2 x3 x4 : Vec Ideal S1x256 .f32) (x5 : Vec Ideal S256x256 .bf16) (x6 : Vec Ideal S1x256 .f32) (x7 : Vec Ideal S3x256 .f32) :
    Vec Ideal S1x512x768 .f32 :=
  View.canon [⟨Rect.unit ![0, 0, 512] ![1, 512, 256] inb_S1x512x768_S1x512x256_0_0_512, colsC H x0 x7⟩,
    ⟨Rect.unit ![0, 0, 256] ![1, 512, 256] inb_S1x512x768_S1x512x256_0_0_256, colsB i H x5 x6⟩,
    ⟨Rect.unit ![0, 0, 0] ![1, 512, 256] inb_S1x512x768_S1x512x256_0_0_0, colsA H x1 x2 x3 x4⟩]

/-! ### Their entries -/

theorem colsC_apply (H : Vec Ideal S544x768 .f32) (x0 : Vec Ideal S1x512x1536 .f32) (x7 : Vec Ideal S3x256 .f32) (h w : ℕ → EReal)
    (r : Fin 512) (k : Fin 256) (hh : ∀ (n : ℕ) (hn : n < 544), H (ix2 ⟨n, hn⟩ ⟨512 + k.val, by omega⟩) = h n)
    (hw : ∀ n : Fin 3, x7 (ix2 n k) = w n.val) :
    colsC H x0 x7 (ix3 0 r k) = x0 (ix3 0 r ⟨1024 + k.val, by omega⟩) * fold (fun n => w n * h (30 + n + r.val)) 3 := by
  unfold colsC
  pointwise [k0_pay29, k0_pay3]
  simp only [hh, hw, fold, zero_add]
  rfl

theorem conv_apply (H : Vec Ideal S544x768 .f32) (x1 : Vec Ideal S31x256 .f32) (x2 : Vec Ideal S1x256 .f32) (h w : ℕ → EReal)
    (r : Fin 512) (k : Fin 256) (hh : ∀ (n : ℕ) (hn : n < 544), H (ix2 ⟨n, hn⟩ ⟨k.val, by omega⟩) = h n)
    (hw : ∀ n : Fin 31, x1 (ix2 n k) = w n.val) :
    conv H x1 x2 (ix2 r k) = fold (fun n => w n * h (2 + n + r.val)) 31 + x2 (ix2 0 k) := by
  unfold conv
  pointwise [k0_pay7, k0_pay8, k0_pay9, k0_pay10, k0_pay11, k0_pay12]
  simp only [hh, hw, fold, zero_add]
  rfl

theorem colsA_apply (H : Vec Ideal S544x768 .f32) (x1 : Vec Ideal S31x256 .f32) (x2 x3 x4 : Vec Ideal S1x256 .f32) (r : Fin 512) (k : Fin 256) :
    colsA H x1 x2 x3 x4 (ix3 0 r k)
      = silu (normed (fun j => conv H x1 x2 (ix2 r j)) (fun j => x3 (ix2 0 j)) (fun j => x4 (ix2 0 j)) k) := by
  have e : convMean H x1 x2 (ix2 r 0) = mean (fun j => conv H x1 x2 (ix2 r j)) := by
    unfold convMean k0_pay15 conv
    generalize k0_pay12 (F := Ideal) _ _ _ _ _ _ _ _ _ _ _ _ = C
    unfold mean
    pointwise []
  unfold colsA silu normed cen
  rw [← e]
  generalize conv H x1 x2 = C
  unfold mean
  pointwise [k0_pay16, k0_pay13, k0_pay14]

theorem group_word : ∀ e : Fin 256,
    IntOp.andi (IntOp.cmpi .sge (BitVec.ofNat 32 e.val) 0#32) (IntOp.cmpi .slt (BitVec.ofNat 32 e.val) 64#32) = (if e.val < 64 then 1#1 else 0#1)
    ∧ IntOp.andi (IntOp.cmpi .sge (BitVec.ofNat 32 e.val) 64#32) (IntOp.cmpi .slt (BitVec.ofNat 32 e.val) 128#32)
      = (if 64 ≤ e.val ∧ e.val < 128 then 1#1 else 0#1)
    ∧ IntOp.andi (IntOp.cmpi .sge (BitVec.ofNat 32 e.val) 128#32) (IntOp.cmpi .slt (BitVec.ofNat 32 e.val) 192#32)
      = (if 128 ≤ e.val ∧ e.val < 192 then 1#1 else 0#1)
    ∧ IntOp.andi (IntOp.cmpi .sge (BitVec.ofNat 32 e.val) 192#32) (IntOp.cmpi .slt (BitVec.ofNat 32 e.val) 256#32)
      = (if 192 ≤ e.val then 1#1 else 0#1) := by decide +kernel

/-- A window's count, read from the words of the position. -/
theorem count_word (t w : ℕ) (ht : t < 8192) (hw : w < 32) :
    FloatOps.sitofp (F := Ideal) FTy.f32 (IntOp.minsi (BitVec.ofNat 32 (t + 1)) (BitVec.ofNat 32 w)) = ((filled w t : ℝ) : EReal) := by
  show (((IntOp.minsi (BitVec.ofNat 32 (t + 1)) (BitVec.ofNat 32 w)).toInt : ℝ) : EReal) = _
  have e : (IntOp.minsi (BitVec.ofNat 32 (t + 1)) (BitVec.ofNat 32 w)).toInt = ((min (t + 1) w : ℕ) : ℤ) := by
    have word : ∀ n : ℕ, n < 2 ^ 30 → (BitVec.ofNat 32 n).toInt = (n : ℤ) := fun n hn => by
      have e : (BitVec.ofNat 32 n).toNat = n := by rw [BitVec.toNat_ofNat]; omega
      rw [BitVec.toInt_eq_toNat_of_lt (by omega), e]
    have a : (BitVec.ofNat 32 (t + 1)).toInt = ((t + 1 : ℕ) : ℤ) := word _ (by omega)
    have b : (BitVec.ofNat 32 w).toInt = (w : ℤ) := word _ (by omega)
    unfold IntOp.minsi
    rw [BitVec.slt, a, b]
    by_cases h : ((t + 1 : ℕ) : ℤ) < w
    · rw [if_pos (by simpa using h), a, min_eq_left (by omega)]
    · rw [if_neg (by simpa using h), b, min_eq_right (by omega)]
  rw [e]
  unfold filled
  rw [Int.cast_natCast]

/-- The reciprocal of a window's count, read from the words of the position. -/
theorem inv_word (q r w : ℕ) (hq : q < 16) (hr : r < 512) (hw : 0 < w) (hw' : w < 32) :
    Ideal.div 1 (FloatOps.sitofp (F := Ideal) FTy.f32 (IntOp.minsi
        (IntOp.addi (IntOp.addi (Scalar.muli (BitVec.ofNat 32 q) 512#32) (BitVec.ofNat 32 r)) 1#32) (BitVec.ofNat 32 w)))
      = ((1 / filled w (512 * q + r) : ℝ) : EReal) := by
  have e : IntOp.addi (IntOp.addi (Scalar.muli (BitVec.ofNat 32 q) 512#32) (BitVec.ofNat 32 r)) 1#32 = BitVec.ofNat 32 (512 * q + r + 1) := by
    show BitVec.ofNat 32 q * 512#32 + BitVec.ofNat 32 r + 1#32 = _
    apply BitVec.eq_of_toNat_eq
    simp only [BitVec.toNat_add, BitVec.toNat_mul, BitVec.toNat_ofNat]
    omega
  rw [e, count_word _ w (by omega) (by omega)]
  exact (Ideal.div_coe (filled_pos w _ hw).ne' 1).trans (one_mul _)

theorem colsB_apply (i : grid0.Coords) (H : Vec Ideal S544x768 .f32) (x5 : Vec Ideal S256x256 .bf16) (x6 : Vec Ideal S1x256 .f32) (h : Fin 256 → ℕ → EReal)
    (r : Fin 512) (k : Fin 256) (hh : ∀ (e : Fin 256) (n : ℕ) (hn : n < 544), H (ix2 ⟨n, hn⟩ ⟨256 + e.val, by omega⟩) = h e n) :
    colsB i H x5 x6 (ix3 0 r k)
      = (∑ e : Fin 256, (run (h e) (32 + r.val) (win e.val - 1) * ((1 / filled (win e.val) (512 * (i 1).val + r.val) : ℝ) : EReal) - h e (32 + r.val))
          * x5 (ix2 e k)) * x6 (ix2 0 k) := by
  unfold colsB
  pointwise [k0_pay28, k0_pay27, k0_pay17, k0_pay18, k0_pay19, k0_pay20, k0_pay21, k0_pay22, k0_pay23, k0_pay24, k0_pay25, k0_pay26]
  refine congrArg (· * _) (Finset.sum_congr rfl fun e _ => congrArg (· * _) ?_)
  have hq : (i 1).val < 16 := (i 1).isLt
  have i2 := inv_word (i 1).val r.val 2 hq r.isLt (by decide) (by decide)
  have i4 := inv_word (i 1).val r.val 4 hq r.isLt (by decide) (by decide)
  have i8 := inv_word (i 1).val r.val 8 hq r.isLt (by decide) (by decide)
  have i16 := inv_word (i 1).val r.val 16 hq r.isLt (by decide) (by decide)
  obtain ⟨g0, g1, g2, g3⟩ := group_word e
  simp only [hh, g0, g1, g2, g3, i2, i4, i8, i16]
  have sub : ∀ n : ℕ, n ≤ 32 → (32 + r.val) - n = (32 - n) + r.val := fun n hn => by omega
  have one : ∀ a b : EReal, Scalar.select 1#1 a b = a := fun _ _ => rfl
  have zero : ∀ a b : EReal, Scalar.select 0#1 a b = b := fun _ _ => rfl
  rcases lt_or_ge e.val 64 with l | l
  · have w : win e.val = 2 := by simp [win, l]
    rw [w, if_neg (by omega), if_neg (by omega), if_neg (by omega), if_pos l]
    simp only [one, zero, run, Nat.reduceSub, Nat.reduceAdd, Nat.reduceLeDiff, sub]
  rcases lt_or_ge e.val 128 with l' | l'
  · have w : win e.val = 4 := by simp [win, l', not_lt.mpr l]
    rw [w, if_neg (by omega), if_neg (by omega), if_pos ⟨l, l'⟩]
    simp only [one, zero, run, Nat.reduceSub, Nat.reduceAdd, Nat.reduceLeDiff, sub]
  rcases lt_or_ge e.val 192 with l'' | l''
  · have w : win e.val = 8 := by simp [win, l'', not_lt.mpr l, not_lt.mpr l']
    rw [w, if_neg (by omega), if_pos ⟨l', l''⟩]
    simp only [one, zero, run, Nat.reduceSub, Nat.reduceAdd, Nat.reduceLeDiff, sub]
  · have w : win e.val = 16 := by simp [win, not_lt.mpr l, not_lt.mpr l', not_lt.mpr l'']
    rw [w, if_pos l'']
    simp only [one, zero, run, Nat.reduceSub, Nat.reduceAdd, Nat.reduceLeDiff, sub]

theorem block_apply (i : grid0.Coords) (H : Vec Ideal S544x768 .f32) (x0 : Vec Ideal S1x512x1536 .f32) (x1 : Vec Ideal S31x256 .f32)
    (x2 x3 x4 : Vec Ideal S1x256 .f32) (x5 : Vec Ideal S256x256 .bf16) (x6 : Vec Ideal S1x256 .f32) (x7 : Vec Ideal S3x256 .f32)
    (r : Fin 512) (k : Fin 256) :
    block i H x0 x1 x2 x3 x4 x5 x6 x7 (ix3 0 r ⟨k.val, by omega⟩) = colsA H x1 x2 x3 x4 (ix3 0 r k)
    ∧ block i H x0 x1 x2 x3 x4 x5 x6 x7 (ix3 0 r ⟨256 + k.val, by omega⟩) = colsB i H x5 x6 (ix3 0 r k)
    ∧ block i H x0 x1 x2 x3 x4 x5 x6 x7 (ix3 0 r ⟨512 + k.val, by omega⟩) = colsC H x0 x7 (ix3 0 r k) := by
  have hr := r.isLt
  have hk := k.isLt
  have emb : ∀ (o : ℕ) (ho : ∀ a, (![0, 0, o] : Fin 3 → ℕ) a + (![1, 512, 256] : Fin 3 → ℕ) a ≤ S1x512x768.size a) (h : o + k.val < 768),
      (Rect.unit (s := S1x512x768) ![0, 0, o] ![1, 512, 256] ho).emb (ix3 0 r k) = ix3 0 r ⟨o + k.val, h⟩ := fun o ho h => by
    funext a
    apply Fin.ext
    match a with
    | ⟨0, _⟩ => rfl
    | ⟨1, _⟩ => show 0 + 1 * r.val = r.val; omega
    | ⟨2, _⟩ => show o + 1 * k.val = o + k.val; omega
  have miss : ∀ (o : ℕ) (ho : ∀ a, (![0, 0, o] : Fin 3 → ℕ) a + (![1, 512, 256] : Fin 3 → ℕ) a ≤ S1x512x768.size a) (n : ℕ) (h : n < 768),
      n < o → ix3 0 r ⟨n, h⟩ ∉ (Rect.unit (s := S1x512x768) ![0, 0, o] ![1, 512, 256] ho).set := fun o ho n h hn hm => by
    have := ((Rect.mem_set_unit ..).mp hm) 2
    have h2 : o ≤ n := this.1
    omega
  unfold block
  generalize colsA H x1 x2 x3 x4 = A
  generalize colsB i H x5 x6 = B
  generalize colsC H x0 x7 = C
  refine ⟨?_, ?_, ?_⟩
  · rw [View.canon_cons_of_not_mem (Val := Elt Ideal) (e := .f32) ⟨Rect.unit (s := S1x512x768) ![0, 0, 512] ![1, 512, 256] inb_S1x512x768_S1x512x256_0_0_512, C⟩ _
      (miss 512 inb_S1x512x768_S1x512x256_0_0_512 k.val (by omega) (by omega)),
      View.canon_cons_of_not_mem (Val := Elt Ideal) (e := .f32) ⟨Rect.unit (s := S1x512x768) ![0, 0, 256] ![1, 512, 256] inb_S1x512x768_S1x512x256_0_0_256, B⟩ _
      (miss 256 inb_S1x512x768_S1x512x256_0_0_256 k.val (by omega) (by omega))]
    have e := View.canon_cons_emb (Val := Elt Ideal) (e := .f32) (Rect.unit (s := S1x512x768) ![0, 0, 0] ![1, 512, 256] inb_S1x512x768_S1x512x256_0_0_0) A [] (ix3 0 r k)
    rw [emb 0 _ (by omega)] at e
    simp only [Nat.zero_add] at e
    exact e
  · rw [View.canon_cons_of_not_mem (Val := Elt Ideal) (e := .f32) ⟨Rect.unit (s := S1x512x768) ![0, 0, 512] ![1, 512, 256] inb_S1x512x768_S1x512x256_0_0_512, C⟩ _
      (miss 512 inb_S1x512x768_S1x512x256_0_0_512 (256 + k.val) (by omega) (by omega))]
    have e := View.canon_cons_emb (Val := Elt Ideal) (e := .f32) (Rect.unit (s := S1x512x768) ![0, 0, 256] ![1, 512, 256] inb_S1x512x768_S1x512x256_0_0_256) B
      [⟨Rect.unit (s := S1x512x768) ![0, 0, 0] ![1, 512, 256] inb_S1x512x768_S1x512x256_0_0_0, A⟩] (ix3 0 r k)
    rw [emb 256 _ (by omega)] at e
    exact e
  · have e := View.canon_cons_emb (Val := Elt Ideal) (e := .f32) (Rect.unit (s := S1x512x768) ![0, 0, 512] ![1, 512, 256] inb_S1x512x768_S1x512x256_0_0_512) C
      [⟨Rect.unit (s := S1x512x768) ![0, 0, 256] ![1, 512, 256] inb_S1x512x768_S1x512x256_0_0_256, B⟩,
        ⟨Rect.unit (s := S1x512x768) ![0, 0, 0] ![1, 512, 256] inb_S1x512x768_S1x512x256_0_0_0, A⟩] (ix3 0 r k)
    rw [emb 512 _ (by omega)] at e
    exact e

end Cert.Proof.LocalBody
end
-- ==== Proof.Val.LocalHist.lean ====
/- What the local mixers' body leaves in its scratch and in its block at a point, over the extended reals. -/
module

public import proofs.«01_k».proof.Proof.Val.LocalBody
public import Idealize.ShloMosaic.Lib.WritesUnit

@[expose] public section

set_option maxRecDepth 65536

noncomputable section

namespace Cert.Proof.LocalHist

open Cert.Kernel4Ideal Cert.Kernel4Ideal.Gen Cert.Proof.Mix Cert.Proof.LocalBody
open Idealize.ShloMosaic Idealize.ShloMosaic.TcCoe Idealize.ShloMosaic.Pointwise Idealize.ShloMosaic.Tactic

/-- The body's three stores of the block's own positions, newest first, -/
def own (x0 : Vec Ideal S1x512x1536 .f32) : List (View.Piece (Elt Ideal) S544x768 .f32) :=
  [⟨Rect.unit ![32, 512] ![512, 256] inb_S544x768_S512x256_32_512,
      k0_pay6 (View.ld x0 (Rect.unit ![0, 0, 768] ![1, 512, 256] inb_S1x512x1536_S1x512x256_0_0_768))
        (View.ld x0 (Rect.unit ![0, 0, 1280] ![1, 512, 256] inb_S1x512x1536_S1x512x256_0_0_1280))⟩,
    ⟨Rect.unit ![32, 256] ![512, 256] inb_S544x768_S512x256_32_256,
      k0_pay5 (View.ld x0 (Rect.unit ![0, 0, 512] ![1, 512, 256] inb_S1x512x1536_S1x512x256_0_0_512))⟩,
    ⟨Rect.unit ![32, 0] ![512, 256] inb_S544x768_S512x256_32_0,
      k0_pay4 (View.ld x0 (Rect.unit ![0, 0, 0] ![1, 512, 256] inb_S1x512x1536_S1x512x256_0_0_0))
        (View.ld x0 (Rect.unit ![0, 0, 256] ![1, 512, 256] inb_S1x512x1536_S1x512x256_0_0_256))⟩]

/-- and its store of zeros before the first. -/
def zeros : List (View.Piece (Elt Ideal) S544x768 .f32) :=
  [⟨Rect.unit ![0, 0] ![32, 768] inb_S544x768_S32x768_0_0, k0_pay2 (F := Ideal)⟩]

section Scratch

variable {sp : Space} (v : View sig .tc sp S544x768 .f32) (f : v.ty.Contents (Elt Ideal)) (x0 : Vec Ideal S1x512x1536 .f32)

/-- What the scratch holds after these stores. -/
def hist : Vec Ideal S544x768 .f32 := v.read (Elt Ideal) (v.writes (Elt Ideal) f (own x0))

theorem hist_own (r : Fin 512) (k : Fin 256) :
    hist v f x0 (ix2 ⟨32 + r.val, by omega⟩ ⟨k.val, by omega⟩)
        = x0 (ix3 0 r ⟨k.val, by omega⟩) * Ideal.logistic (x0 (ix3 0 r ⟨256 + k.val, by omega⟩))
    ∧ hist v f x0 (ix2 ⟨32 + r.val, by omega⟩ ⟨256 + k.val, by omega⟩) = x0 (ix3 0 r ⟨512 + k.val, by omega⟩)
    ∧ hist v f x0 (ix2 ⟨32 + r.val, by omega⟩ ⟨512 + k.val, by omega⟩)
        = x0 (ix3 0 r ⟨1280 + k.val, by omega⟩) * x0 (ix3 0 r ⟨768 + k.val, by omega⟩) := by
  have hr := r.isLt
  have hk := k.isLt
  unfold hist own
  refine ⟨?_, ?_, ?_⟩
  · rw [View.read_writes_cons_unit_of_not_mem v f _ _ _ _ rfl (1 : Fin 2) (Or.inl (by show k.val < 512; omega)),
      View.read_writes_cons_unit_of_not_mem v f _ _ _ _ rfl (1 : Fin 2) (Or.inl (by show k.val < 256; omega)),
      View.read_writes_cons_unit_of_mem v f (off := ![32, 0]) (off' := ![32, 0]) (size := ![512, 256]) inb_S544x768_S512x256_32_0 _ _ _ (ix2 r k) rfl (Fin.forall_fin_two.mpr ⟨rfl, (Nat.zero_add _).symm⟩)]
    pointwise [k0_pay4]
  · rw [View.read_writes_cons_unit_of_not_mem v f _ _ _ _ rfl (1 : Fin 2) (Or.inl (by show 256 + k.val < 512; omega)),
      View.read_writes_cons_unit_of_mem v f (off := ![32, 256]) (off' := ![32, 256]) (size := ![512, 256]) inb_S544x768_S512x256_32_256 _ _ _ (ix2 r k) rfl (Fin.forall_fin_two.mpr ⟨rfl, rfl⟩)]
    pointwise [k0_pay5]
  · rw [View.read_writes_cons_unit_of_mem v f (off := ![32, 512]) (off' := ![32, 512]) (size := ![512, 256]) inb_S544x768_S512x256_32_512 _ _ _ (ix2 r k) rfl (Fin.forall_fin_two.mpr ⟨rfl, rfl⟩)]
    pointwise [k0_pay6]

theorem hist_before (n : ℕ) (hn : n < 32) (j : Fin 768) :
    hist v f x0 (ix2 ⟨n, by omega⟩ j) = v.read (Elt Ideal) f (ix2 ⟨n, by omega⟩ j) := by
  unfold hist own
  rw [View.read_writes_cons_unit_of_not_mem v f _ _ _ _ rfl (0 : Fin 2) (Or.inl (by show n < 32; omega)),
    View.read_writes_cons_unit_of_not_mem v f _ _ _ _ rfl (0 : Fin 2) (Or.inl (by show n < 32; omega)),
    View.read_writes_cons_unit_of_not_mem v f _ _ _ _ rfl (0 : Fin 2) (Or.inl (by show n < 32; omega)), View.writes_nil]

theorem zeros_apply (n : ℕ) (hn : n < 32) (j : Fin 768) :
    v.read (Elt Ideal) (v.writes (Elt Ideal) f zeros) (ix2 ⟨n, by omega⟩ j) = 0 := by
  unfold zeros
  rw [View.read_writes_cons_unit_of_mem v f (off := ![0, 0]) (off' := ![0, 0]) (size := ![32, 768]) inb_S544x768_S32x768_0_0 _ _ _ (ix2 ⟨n, hn⟩ j) rfl
    (Fin.forall_fin_two.mpr ⟨(Nat.zero_add _).symm, (Nat.zero_add _).symm⟩)]
  pointwise [k0_pay2]

/-- Where the body's own stores cover a row, what was there before doesn't matter. -/
theorem hist_covered (g : v.ty.Contents (Elt Ideal)) (n : ℕ) (hn : 32 ≤ n) (hn' : n < 544) (j : Fin 768) :
    hist v g x0 (ix2 ⟨n, hn'⟩ j) = hist v f x0 (ix2 ⟨n, hn'⟩ j) := by
  obtain ⟨r, rfl⟩ : ∃ r, n = 32 + r := ⟨n - 32, by omega⟩
  have hj := j.isLt
  rcases lt_or_ge j.val 256 with l | l
  · exact (hist_own v g x0 ⟨r, by omega⟩ ⟨j.val, l⟩).1.trans (hist_own v f x0 ⟨r, by omega⟩ ⟨j.val, l⟩).1.symm
  rcases lt_or_ge j.val 512 with l' | l'
  · have e : j = ⟨256 + (j.val - 256), by omega⟩ := Fin.ext (by show j.val = 256 + (j.val - 256); omega)
    rw [e]
    exact (hist_own v g x0 ⟨r, by omega⟩ ⟨j.val - 256, by omega⟩).2.1.trans (hist_own v f x0 ⟨r, by omega⟩ ⟨j.val - 256, by omega⟩).2.1.symm
  · have e : j = ⟨512 + (j.val - 512), by omega⟩ := Fin.ext (by show j.val = 512 + (j.val - 512); omega)
    rw [e]
    exact (hist_own v g x0 ⟨r, by omega⟩ ⟨j.val - 512, by omega⟩).2.2.trans (hist_own v f x0 ⟨r, by omega⟩ ⟨j.val - 512, by omega⟩).2.2.symm

/-- So a load of covered rows is a load of what the scratch holds. -/
theorem own_ld (o c a b : ℕ) (ho : 32 ≤ o) (h : ∀ d, (![o, c] : Fin 2 → ℕ) d + (![a, b] : Fin 2 → ℕ) d ≤ S544x768.size d) :
    v.readCov (own x0) (Rect.unit (s := S544x768) ![o, c] ![a, b] h).toLoadRect
      = View.ld (hist v f x0) (Rect.unit (s := S544x768) ![o, c] ![a, b] h) := by
  funext y
  have h0 : o + a ≤ 544 := h 0
  have h1 : c + b ≤ 768 := h 1
  have y0 : (y 0).val < a := (y 0).isLt
  have y1 : (y 1).val < b := (y 1).isLt
  have e : (Rect.unit (s := S544x768) ![o, c] ![a, b] h).emb y = ix2 ⟨o + (y 0).val, by omega⟩ ⟨c + (y 1).val, by omega⟩ := by
    funext d
    apply Fin.ext
    match d with
    | ⟨0, _⟩ => show o + 1 * (y 0).val = o + (y 0).val; omega
    | ⟨1, _⟩ => show c + 1 * (y 1).val = c + (y 1).val; omega
  show hist v v.junk x0 ((Rect.unit (s := S544x768) ![o, c] ![a, b] h).emb y) = hist v f x0 ((Rect.unit (s := S544x768) ![o, c] ![a, b] h).emb y)
  rw [e]
  exact hist_covered v f x0 v.junk _ (by omega) _ _

end Scratch

section Body

variable (c : Dev nD) (i : grid0.Coords) (arg2 : Memref sig .tc .vmem S1x512x1536 .f32) (harg2 : arg2.IsWhole) (arg3 : Memref sig .tc .vmem S31x256 .f32) (harg3 : arg3.IsWhole)
  (arg4 : Memref sig .tc .vmem S1x256 .f32) (harg4 : arg4.IsWhole) (arg5 : Memref sig .tc .vmem S1x256 .f32) (harg5 : arg5.IsWhole)
  (arg6 : Memref sig .tc .vmem S1x256 .f32) (harg6 : arg6.IsWhole) (arg7 : Memref sig .tc .vmem S256x256 .bf16) (harg7 : arg7.IsWhole)
  (arg8 : Memref sig .tc .vmem S1x256 .f32) (harg8 : arg8.IsWhole) (arg9 : Memref sig .tc .vmem S3x256 .f32) (harg9 : arg9.IsWhole)
  (arg10 : Memref sig .tc .vmem S1x512x768 .f32) (harg10 : arg10.IsWhole) (arg11 : Memref sig .tc .vmem S544x768 .f32) (harg11 : arg11.IsWhole)
  (hc0 : ¬cond0_0 i) (hc1 : cond0_0 i) (x0 : Vec Ideal S1x512x1536 .f32) (x1 : Vec Ideal S31x256 .f32) (x2 x3 x4 : Vec Ideal S1x256 .f32)
  (x5 : Vec Ideal S256x256 .bf16) (x6 : Vec Ideal S1x256 .f32) (x7 : Vec Ideal S3x256 .f32) (xs0 : Vec Ideal S544x768 .f32)

/-- What the scratch holds once a batch's first point has stored, -/
def histA : Vec Ideal S544x768 .f32 := hist arg11.view (arg11.view.writes (Elt Ideal) arg11.view.junk zeros) x0
/-- and once another has, over what the point before left. -/
def histB : Vec Ideal S544x768 .f32 := hist arg11.view (harg11.unread xs0) x0

theorem outA : out0_A_8 c i arg2 harg2 arg3 harg3 arg4 harg4 arg5 harg5 arg6 harg6 arg7 harg7 arg8 harg8 arg9 harg9 arg10 harg10 arg11 harg11 hc1 x0 x1 x2 x3 x4 x5 x6 x7 = block i (histA arg11 x0) x0 x1 x2 x3 x4 x5 x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc1 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg11.read_unread, View.readCov]
  unfold block colsA colsB colsC conv convMean histA hist own zeros
  rfl

theorem soutA (n : ℕ) (hn : n < 32) (j : Fin 768) :
    sout0_A_0 c i arg2 harg2 arg3 harg3 arg4 harg4 arg5 harg5 arg6 harg6 arg7 harg7 arg8 harg8 arg9 harg9 arg10 harg10 arg11 harg11 hc1 x0 x1 x2 x3 x4 x5 x6 x7 (ix2 ⟨n, by omega⟩ j) = histA arg11 x0 (ix2 ⟨512 + n, by omega⟩ j) := by
  unfold sout0_A_0
  unfold kernelRun0_A
  dsimp only
  sl_unfold_words
  simp only [View.readAt_eq_ld, harg2.read_unread, harg11.read_unread, View.readCov]
  rw [View.read_writes_cons_unit_of_mem (Val := Elt Ideal) VS0_0 VS0_0.junk (off := ![0, 0]) (off' := ![0, 0]) (size := ![32, 768]) inb_S544x768_S32x768_0_0 _ _ _ (ix2 ⟨n, hn⟩ j) rfl
    (Fin.forall_fin_two.mpr ⟨(Nat.zero_add _).symm, (Nat.zero_add _).symm⟩)]
  unfold histA hist own zeros
  pointwise [k0_pay1]
  rfl

theorem outB : out0_B_8 c i arg2 harg2 arg3 harg3 arg4 harg4 arg5 harg5 arg6 harg6 arg7 harg7 arg8 harg8 arg9 harg9 arg10 harg10 arg11 harg11 hc0 x0 x1 x2 x3 x4 x5 x6 x7 xs0 = block i (histB arg11 harg11 x0 xs0) x0 x1 x2 x3 x4 x5 x6 x7 := by
  have e0 := own_ld arg11.view (harg11.unread xs0) x0 32 0 512 256 (by decide) inb_S544x768_S512x256_32_0
  have e1 := own_ld arg11.view (harg11.unread xs0) x0 32 256 512 256 (by decide) inb_S544x768_S512x256_32_256
  have e2 := own_ld arg11.view (harg11.unread xs0) x0 32 512 512 256 (by decide) inb_S544x768_S512x256_32_512
  unfold hist own at e0 e1 e2
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 x7 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg11.read_unread]
  rw [e0, e1, e2]
  unfold block colsA colsB colsC conv convMean histB hist own
  rfl

theorem soutB (n : ℕ) (hn : n < 32) (j : Fin 768) :
    sout0_B_0 c i arg2 harg2 arg3 harg3 arg4 harg4 arg5 harg5 arg6 harg6 arg7 harg7 arg8 harg8 arg9 harg9 arg10 harg10 arg11 harg11 hc0 x0 x1 x2 x3 x4 x5 x6 x7 xs0 (ix2 ⟨n, by omega⟩ j) = histB arg11 harg11 x0 xs0 (ix2 ⟨512 + n, by omega⟩ j) := by
  have e := own_ld arg11.view (harg11.unread xs0) x0 512 0 32 768 (by decide) inb_S544x768_S32x768_512_0
  unfold own at e
  unfold sout0_B_0
  unfold kernelRun0_B
  dsimp only
  sl_unfold_words
  simp only [View.readAt_eq_ld, harg2.read_unread, harg11.read_unread]
  rw [View.read_writes_cons_unit_of_mem (Val := Elt Ideal) VS0_0 VS0_0.junk (off := ![0, 0]) (off' := ![0, 0]) (size := ![32, 768]) inb_S544x768_S32x768_0_0 _ _ _ (ix2 ⟨n, hn⟩ j) rfl
    (Fin.forall_fin_two.mpr ⟨(Nat.zero_add _).symm, (Nat.zero_add _).symm⟩)]
  rw [e]
  unfold histB
  pointwise [k0_pay1]

end Body

end Cert.Proof.LocalHist
end
-- ==== Proof.Val.LocalDiag.lean ====
/- The pooled channels' matrix that the local mixers' call is given, over the extended reals. -/
module

public import proofs.«01_k».proof.Proof.Gen.Kernel4Ideal.Frame
public import proofs.«01_k».proof.Proof.Val.Mix
public import Idealize.ShloMosaic.Lib.Pointwise
public import Idealize.ShloMosaic.Lib.StableHlo.ReadAt
public import Idealize.ShloMosaic.Lib.Routing.OpsSet
public import Idealize.ShloMosaic.Lib.Routing.OpsPair
public import Idealize.ShloMosaic.Lib.Routing.OpsOne

@[expose] public section

set_option maxRecDepth 16384

noncomputable section

namespace Cert.Proof.LocalDiag

open Cert.Kernel4Ideal Cert.Kernel4Ideal.Gen
open Idealize.ShloMosaic Idealize.ShloMosaic.TcCoe Idealize.ShloMosaic.Pointwise Idealize.SL.Sem

/-- One square written at an offset on the diagonal. -/
theorem scatter_apply (x0 : S256x256.Idx → EReal) (idx : IVec S2 32) (upd : S64x64.Idx → EReal) (o : ℕ) (hi : ∀ q : Fin 2, (idx (ix1 q)).toInt = (o : ℤ))
    (e k : Fin 256) :
    Host.scatter scatter_S256x256_S2_S64x64_01_n_01_0 (fun _ b => b) x0 idx upd (ix2 e k)
      = if h : (o ≤ e.val ∧ e.val < o + 64) ∧ (o ≤ k.val ∧ k.val < o + 64) then upd (ix2 ⟨e.val - o, by omega⟩ ⟨k.val - o, by omega⟩)
        else x0 (ix2 e k) := by
  have lands : ∀ r c : Fin 64, scatter_S256x256_S2_S64x64_01_n_01_0.resultIdx? (ix2 r c) idx = some (ix2 e k)
      ↔ (o : ℤ) + (r.val : ℤ) = (e.val : ℤ) ∧ (o : ℤ) + (c.val : ℤ) = (k.val : ℤ) := fun r c => by
    have w0 : scatter_S256x256_S2_S64x64_01_n_01_0.window (ix2 r c) 0 = r.val := rfl
    have w1 : scatter_S256x256_S2_S64x64_01_n_01_0.window (ix2 r c) 1 = c.val := rfl
    refine (Routing.resultIdx?_ix2 (R := 256) (C := 256) scatter_S256x256_S2_S64x64_01_n_01_0 (ix2 r c) idx e k).trans ?_
    have s0 : scatter_S256x256_S2_S64x64_01_n_01_0.start (ix2 r c) idx 0 = (o : ℤ) := (Routing.start_pair (R := 256) (C := 256) _ rfl rfl idx _ 0).trans (hi 0)
    have s1 : scatter_S256x256_S2_S64x64_01_n_01_0.start (ix2 r c) idx 1 = (o : ℤ) := (Routing.start_pair (R := 256) (C := 256) _ rfl rfl idx _ 1).trans (hi 1)
    rw [s0, s1]
    exact Iff.rfl
  by_cases h : (o ≤ e.val ∧ e.val < o + 64) ∧ (o ≤ k.val ∧ k.val < o + 64)
  · rw [dif_pos h]
    refine Routing.scatter_set_hit _ x0 idx upd _ _ (fun (j : S64x64.Idx) hj => ?_) (ix2 ⟨e.val - o, by omega⟩ ⟨k.val - o, by omega⟩)
      ((lands _ _).mpr ⟨by show (o : ℤ) + ((e.val - o : ℕ) : ℤ) = _; omega, by show (o : ℤ) + ((k.val - o : ℕ) : ℤ) = _; omega⟩)
    obtain ⟨r, c, rfl⟩ : ∃ (r c : Fin 64), j = ix2 r c := ⟨j 0, j 1, by funext d; match d with | ⟨0, _⟩ => rfl | ⟨1, _⟩ => rfl⟩
    have := (lands r c).mp hj
    congr 1
    have hr : r = ⟨e.val - o, by omega⟩ := Fin.ext (by show r.val = e.val - o; omega)
    have hc : c = ⟨k.val - o, by omega⟩ := Fin.ext (by show c.val = k.val - o; omega)
    rw [← hr, ← hc]
  · rw [dif_neg h]
    refine Routing.scatter_set_miss _ x0 idx upd _ (fun (j : S64x64.Idx) hj => h ?_)
    obtain ⟨r, c, rfl⟩ : ∃ (r c : Fin 64), j = ix2 r c := ⟨j 0, j 1, by funext d; match d with | ⟨0, _⟩ => rfl | ⟨1, _⟩ => rfl⟩
    have := (lands r c).mp hj
    have hr := r.isLt
    have hc := c.isLt
    omega

/-- Two words that are one, side by side. -/
theorem pair_apply (a b : IVec S1 32) (w : BitVec 32) (ha : a (ix1 0) = w) (hb : b (ix1 0) = w) (q : Fin 2) :
    concatenate S2 0 [⟨S1, a⟩, ⟨S1, b⟩] concatenates_S1_S1_S2_d0 (ix1 q) = w := by
  match q with
  | ⟨0, _⟩ => exact (by pointwise []; exact ha : concatenate S2 0 [⟨S1, a⟩, ⟨S1, b⟩] concatenates_S1_S1_S2_d0 (ix1 0) = w)
  | ⟨1, _⟩ => exact (by pointwise []; exact hb : concatenate S2 0 [⟨S1, a⟩, ⟨S1, b⟩] concatenates_S1_S1_S2_d0 (ix1 1) = w)

variable (m : (ℓ : Loc nD τ sig) → Buf (Elt Ideal) ℓ) (c : Dev nD)

theorem v25_apply (e k : Fin 256) : V m c main_v25 (ix2 e k)
    = Mix.diag (m ((c.tc : Thread nD τ).loc main_arg5)) e k := by
  unfold V
  after_reads_at
  rw [scatter_apply _ _ _ 192 (fun q => (congrArg BitVec.toInt (pair_apply _ _ 192#32 (by after_reads_at) (by after_reads_at) q)).trans (by decide)),
    scatter_apply _ _ _ 128 (fun q => (congrArg BitVec.toInt (pair_apply _ _ 128#32 (by after_reads_at) (by after_reads_at) q)).trans (by decide)),
    scatter_apply _ _ _ 64 (fun q => (congrArg BitVec.toInt (pair_apply _ _ 64#32 (by after_reads_at) (by after_reads_at) q)).trans (by decide)),
    scatter_apply _ _ _ 0 (fun q => (congrArg BitVec.toInt (pair_apply _ _ 0#32 (by after_reads_at) (by after_reads_at) q)).trans (by decide))]
  have e0 : broadcastInDim S256x256 ![] bcast_S_S256x256 (constant (F := Ideal) S_ FTy.f32 0#32) (ix2 e k) = (0 : EReal) := by
    pointwise []
  rw [e0]
  have he := e.isLt
  have hk := k.isLt
  unfold Mix.diag
  have at_ : ∀ (g : Fin 4) (o : ℕ) (hg : o = 64 * g.val) (h : (o ≤ e.val ∧ e.val < o + 64) ∧ (o ≤ k.val ∧ k.val < o + 64)),
      m (c, Proc.tc.devRef main_arg5) (ix3 g ⟨e.val - o, by omega⟩ ⟨k.val - o, by omega⟩)
        = if e.val / 64 = k.val / 64 then m ((c.tc : Thread nD τ).loc main_arg5) (ix3 ⟨k.val / 64, by omega⟩ ⟨e.val % 64, by omega⟩ ⟨k.val % 64, by omega⟩) else (0 : EReal) :=
    fun g o hg h => by
      rw [if_pos (by omega)]
      have a0 : g = ⟨k.val / 64, by omega⟩ := Fin.ext (by show g.val = k.val / 64; omega)
      have a1 : (⟨e.val - o, by omega⟩ : Fin 64) = ⟨e.val % 64, by omega⟩ := Fin.ext (by show e.val - o = e.val % 64; omega)
      have a2 : (⟨k.val - o, by omega⟩ : Fin 64) = ⟨k.val % 64, by omega⟩ := Fin.ext (by show k.val - o = k.val % 64; omega)
      rw [a1, a2, ← a0]
  split
  · next h => exact at_ 3 192 rfl h
  split
  · next h => exact at_ 2 128 rfl h
  split
  · next h => exact at_ 1 64 rfl h
  split
  · next h => exact at_ 0 0 rfl h
  rw [if_neg (by omega)]

end Cert.Proof.LocalDiag
end
-- ==== Proof.Val.LocalMix.lean ====
/- The local mixers' call, over the extended reals. -/
module

public import proofs.«01_k».proof.Proof.Gen.Kernel4Ideal.Value
public import proofs.«01_k».proof.Proof.Val.LocalHist
public import proofs.«01_k».proof.Proof.Val.LocalDiag

@[expose] public section

set_option maxRecDepth 16384

noncomputable section

namespace Cert.Proof.LocalMix

open Cert.Kernel4Ideal Cert.Kernel4Ideal.Gen Cert.Proof.Mix Cert.Proof.LocalBody Cert.Proof.LocalHist
open Idealize.ShloMosaic Idealize.ShloMosaic.TcCoe Idealize.ShloMosaic.Pointwise Idealize.SL.Sem
open Idealize.ShloMosaic.Pipeline (Dat)
open scoped BigOperators

/-! ### The scratch: the three sequences side by side, from 32 positions before the block -/

section Block

variable (P : S2x8192x2304.Idx → EReal) (b : Fin 2) (q : ℕ)

/-- The three sequences side by side. -/
def feat (j s : ℕ) : EReal := if j < 256 then featA P b j s else if j < 512 then featB P b (j - 256) s else featC P b (j - 512) s

/-- The scratch holds them from 32 positions before block `q`. -/
def Good (H : Vec Ideal S544x768 .f32) : Prop :=
  ∀ (n : ℕ) (hn : n < 544) (j : Fin 768), H (ix2 ⟨n, hn⟩ j) = padded (feat P b j.val) (512 * q + n)

theorem good_hist {sp : Space} (v : View sig .tc sp S544x768 .f32) (f : v.ty.Contents (Elt Ideal)) (x0 : Vec Ideal S1x512x1536 .f32)
    (hx : ∀ (r : Fin 512) (k : Fin 1536), x0 (ix3 0 r k) = col P b k.val (512 * q + r.val))
    (hb : ∀ (n : ℕ) (hn : n < 32) (j : Fin 768), v.read (Elt Ideal) f (ix2 ⟨n, by omega⟩ j) = padded (feat P b j.val) (512 * q + n)) :
    Good P b q (hist v f x0) := by
  intro n hn j
  rcases lt_or_ge n 32 with l | l
  · exact (hist_before v f x0 n l j).trans (hb n l j)
  · obtain ⟨r, rfl⟩ : ∃ r, n = 32 + r := ⟨n - 32, by omega⟩
    have hj := j.isLt
    have e : padded (feat P b j.val) (512 * q + (32 + r)) = feat P b j.val (512 * q + r) := by
      unfold padded
      rw [if_pos (by omega)]
      congr 1
      omega
    rw [e]
    unfold feat
    split
    · next h =>
      have := (hist_own v f x0 ⟨r, by omega⟩ ⟨j.val, h⟩).1
      exact this.trans (by rw [hx, hx]; rfl)
    split
    · next h h' =>
      have := (hist_own v f x0 ⟨r, by omega⟩ ⟨j.val - 256, by omega⟩).2.1
      have ej : (⟨256 + (j.val - 256), by omega⟩ : Fin 768) = j := Fin.ext (by show 256 + (j.val - 256) = j.val; omega)
      simp only [ej] at this
      exact this.trans (by rw [hx]; rfl)
    · next h h' =>
      have := (hist_own v f x0 ⟨r, by omega⟩ ⟨j.val - 512, by omega⟩).2.2
      have ej : (⟨512 + (j.val - 512), by omega⟩ : Fin 768) = j := Fin.ext (by show 512 + (j.val - 512) = j.val; omega)
      simp only [ej] at this
      exact this.trans (by rw [hx, hx]; rfl)

theorem run_shift (f : ℕ → EReal) (a p n : ℕ) (h : n ≤ p) : run (fun s => f (a + s)) p n = run f (a + p) n := by
  induction n with
  | zero => rfl
  | succ n ih =>
    show run (fun s => f (a + s)) p n + f (a + (p - (n + 1))) = run f (a + p) n + f (a + p - (n + 1))
    rw [ih (by omega), show a + (p - (n + 1)) = a + p - (n + 1) by omega]

variable (caw : S31x256.Idx → EReal) (cab nag nab : S256.Idx → EReal) (pw : S4x64x64.Idx → EReal) (ps : S256.Idx → EReal) (ccw : S3x256.Idx → EReal)
variable (i : grid0.Coords) (H : Vec Ideal S544x768 .f32) (x0 : Vec Ideal S1x512x1536 .f32) (x1 : Vec Ideal S31x256 .f32) (x2 x3 x4 : Vec Ideal S1x256 .f32)
  (x5 : Vec Ideal S256x256 .bf16) (x6 : Vec Ideal S1x256 .f32) (x7 : Vec Ideal S3x256 .f32)

/-- The block that point `q` of batch `b` leaves. -/
theorem block_value (hq : q < 16) (hi : (i 1).val = q) (hH : Good P b q H)
    (h0 : ∀ (r : Fin 512) (k : Fin 1536), x0 (ix3 0 r k) = col P b k.val (512 * q + r.val))
    (h1 : ∀ n k, x1 (ix2 n k) = caw (ix2 n k)) (h2 : ∀ k, x2 (ix2 0 k) = cab (ix1 k)) (h3 : ∀ k, x3 (ix2 0 k) = nag (ix1 k))
    (h4 : ∀ k, x4 (ix2 0 k) = nab (ix1 k)) (h5 : ∀ e k, x5 (ix2 e k) = diag pw e k) (h6 : ∀ k, x6 (ix2 0 k) = ps (ix1 k))
    (h7 : ∀ n k, x7 (ix2 n k) = ccw (ix2 n k)) (r : Fin 512) (j : Fin 768) :
    block i H x0 x1 x2 x3 x4 x5 x6 x7 (ix3 0 r j) = value P caw cab nag nab pw ps ccw (ix3 b ⟨512 * q + r.val, by omega⟩ j) := by
  have hj := j.isLt
  have fA : ∀ (k : Fin 256), padded (feat P b k.val) = padded (featA P b k.val) := fun k => by
    congr 1; funext s; exact if_pos k.isLt
  have fB : ∀ (k : Fin 256), padded (feat P b (256 + k.val)) = padded (featB P b k.val) := fun k => by
    congr 1; funext s
    exact (if_neg (by omega)).trans ((if_pos (by omega)).trans (by rw [Nat.add_sub_cancel_left]))
  have fC : ∀ (k : Fin 256), padded (feat P b (512 + k.val)) = padded (featC P b k.val) := fun k => by
    congr 1; funext s
    exact (if_neg (by omega)).trans ((if_neg (by omega)).trans (by rw [Nat.add_sub_cancel_left]))
  have tA : ∀ (k : Fin 256) (n : Fin 31), tapA caw k n.val = caw (ix2 n k) := fun k n => by
    unfold tapA
    rw [dif_pos n.isLt]
  have tC : ∀ (k : Fin 256) (n : Fin 3), tapC ccw k n.val = ccw (ix2 n k) := fun k n => by
    unfold tapC
    rw [dif_pos n.isLt]
  have hA : ∀ k : Fin 256, conv H x1 x2 (ix2 r k) = fold (fun n => tapA caw k n * padded (featA P b k.val) (2 + n + (512 * q + r.val))) 31 + cab (ix1 k) := fun k => by
    rw [conv_apply H x1 x2 (fun n => padded (featA P b k.val) (512 * q + n)) (tapA caw k) r k
      (fun n hn => (hH n hn ⟨k.val, by omega⟩).trans (congrFun (fA k) _)) (fun n => (h1 n k).trans (tA k n).symm), h2]
    congr 2
    funext n
    rw [show 512 * q + (2 + n + r.val) = 2 + n + (512 * q + r.val) by omega]
  unfold value
  show _ = if j.val < 256 then _ else if j.val < 512 then _ else _
  split
  · next h =>
    refine ((block_apply i H x0 x1 x2 x3 x4 x5 x6 x7 r ⟨j.val, h⟩).1).trans ?_
    rw [colsA_apply]
    have ej : (⟨j.val % 256, by omega⟩ : Fin 256) = ⟨j.val, h⟩ := Fin.ext (Nat.mod_eq_of_lt h)
    unfold Mix.outA ya
    simp only [hA, h3, h4]
    exact congrArg (fun k => silu (normed (fun k => fold (fun n => tapA caw k n * padded (featA P b k.val) (2 + n + (512 * q + r.val))) 31 + cab (ix1 k)) (fun k => nag (ix1 k)) (fun k => nab (ix1 k)) k)) ej.symm
  split
  · next h h' =>
    have e1 : (⟨256 + (j.val - 256), by omega⟩ : Fin 768) = j := Fin.ext (by show 256 + (j.val - 256) = j.val; omega)
    have ej : (⟨j.val - 256, by omega⟩ : Fin 256) = ⟨j.val % 256, by omega⟩ := Fin.ext (by show j.val - 256 = j.val % 256; omega)
    have := (block_apply i H x0 x1 x2 x3 x4 x5 x6 x7 r ⟨j.val - 256, by omega⟩).2.1
    simp only [e1] at this
    refine this.trans ?_
    rw [colsB_apply i H x5 x6 (fun e n => padded (featB P b e.val) (512 * q + n)) r _
      (fun e n hn => (hH n hn ⟨256 + e.val, by omega⟩).trans (congrFun (fB e) _)), h6, ej]
    unfold Mix.outB yb pooled
    refine congrArg (· * ps (ix1 ⟨j.val % 256, by omega⟩)) (Finset.sum_congr rfl fun e _ => ?_)
    have hw : win e.val - 1 ≤ 32 + r.val := by
      unfold win
      split; · omega
      split; · omega
      split <;> omega
    rw [h5, run_shift _ _ _ _ hw, hi, show 512 * q + (32 + r.val) = 32 + (512 * q + r.val) by omega]
    rfl
  · next h h' =>
    have e1 : (⟨512 + (j.val - 512), by omega⟩ : Fin 768) = j := Fin.ext (by show 512 + (j.val - 512) = j.val; omega)
    have ej : (⟨j.val - 512, by omega⟩ : Fin 256) = ⟨j.val % 256, by omega⟩ := Fin.ext (by show j.val - 512 = j.val % 256; omega)
    have := (block_apply i H x0 x1 x2 x3 x4 x5 x6 x7 r ⟨j.val - 512, by omega⟩).2.2
    simp only [e1] at this
    refine this.trans ?_
    rw [colsC_apply H x0 x7 (fun n => padded (featC P b (j.val - 512)) (512 * q + n)) (tapC ccw ⟨j.val - 512, by omega⟩) r _
      (fun n hn => (hH n hn ⟨512 + (j.val - 512), by omega⟩).trans (congrFun (fC ⟨j.val - 512, by omega⟩) _)) (fun n => (h7 n _).trans (tC _ n).symm), h0]
    have ev : j.val - 512 = j.val % 256 := by omega
    simp only [ev]
    unfold outC yc
    congr 2
    funext n
    rw [show 512 * q + (30 + n + r.val) = 30 + n + (512 * q + r.val) by omega]
    rfl

end Block

/-! ### The arrays the call is given -/

variable (m : (ℓ : Loc nD τ sig) → Buf (Elt Ideal) ℓ) (c : Dev nD)

theorem v0_apply (i : S2x8192x2304.Idx) : V m c main_arg0 i = m ((c.tc : Thread nD τ).loc main_arg0) i := by
  unfold V
  after_reads_at

theorem v1_apply (i : S31x256.Idx) : V m c main_arg1 i = m ((c.tc : Thread nD τ).loc main_arg1) i := by
  unfold V
  after_reads_at

theorem v2_apply (k : Fin 256) : V m c main_v26 (ix2 0 k) = m ((c.tc : Thread nD τ).loc main_arg2) (ix1 k) := by
  unfold V
  after_reads_at

theorem v3_apply (k : Fin 256) : V m c main_v27 (ix2 0 k) = m ((c.tc : Thread nD τ).loc main_arg3) (ix1 k) := by
  unfold V
  after_reads_at

theorem v4_apply (k : Fin 256) : V m c main_v28 (ix2 0 k) = m ((c.tc : Thread nD τ).loc main_arg4) (ix1 k) := by
  unfold V
  after_reads_at

theorem v6_apply (k : Fin 256) : V m c main_v29 (ix2 0 k) = m ((c.tc : Thread nD τ).loc main_arg6) (ix1 k) := by
  unfold V
  after_reads_at

theorem v7_apply (i : S3x256.Idx) : V m c main_arg7 i = m ((c.tc : Thread nD τ).loc main_arg7) i := by
  unfold V
  after_reads_at

/-! ### The blocks -/

theorem idx0 : ∀ t : Fin grid0.N, win0_0.index t 0 = t.val / 16 ∧ win0_0.index t 1 = t.val % 16 ∧ win0_0.index t 2 = 0 := by decide +kernel
theorem idx8 : ∀ t : Fin grid0.N, win0_8.index t 0 = t.val / 16 ∧ win0_8.index t 1 = t.val % 16 ∧ win0_8.index t 2 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem coord1 : ∀ t : Fin grid0.N, (grid0.coords t 1).val = t.val % 16 := by decide +kernel

/-- An index of an array with two axes is its two coordinates, -/
theorem eq_ix2 {a b : ℕ} (i : (⟨2, ![a, b]⟩ : Shape).Idx) (x : Fin a) (y : Fin b) (h0 : (i 0).val = x.val) (h1 : (i 1).val = y.val) : i = ix2 x y := by
  funext d
  apply Fin.ext
  match d with
  | ⟨0, _⟩ => exact h0
  | ⟨1, _⟩ => exact h1

/-- and of one with three, its three. -/
theorem eq_ix3 {a b d : ℕ} (i : (⟨3, ![a, b, d]⟩ : Shape).Idx) (x : Fin a) (y : Fin b) (z : Fin d) (h0 : (i 0).val = x.val) (h1 : (i 1).val = y.val)
    (h2 : (i 2).val = z.val) : i = ix3 x y z := by
  funext e
  apply Fin.ext
  match e with
  | ⟨0, _⟩ => exact h0
  | ⟨1, _⟩ => exact h1
  | ⟨2, _⟩ => exact h2

/-- A point's batch. -/
def batch (t : Fin cfg0.N) : Fin 2 := ⟨t.val / 16, by have : t.val < 32 := t.isLt.trans_eq N_0; omega⟩

/-- A point's input block. -/
theorem blk0_apply (t : Fin cfg0.N) (r : Fin 512) (k : Fin 1536) :
    X0_0 m c t (ix3 0 r k) = col (m ((c.tc : Thread nD τ).loc main_arg0)) (batch t) k.val (512 * (t.val % 16) + r.val) := by
  have hi := idx0 t
  have hk := k.isLt
  unfold col
  rw [dif_pos ⟨by omega, by omega⟩]
  unfold X0_0 Pipeline.Window.fill
  rw [dif_pos (moved0_0 t _)]
  unfold iblk
  rw [View.read_apply]
  refine (congrArg (V m c main_arg0) (eq_ix3 _ (batch t) ⟨512 * (t.val % 16) + r.val, by omega⟩ ⟨k.val, by omega⟩ ?_ ?_ ?_)).trans (v0_apply m c _)
  · show win0_0.index t 0 * 1 + 1 * 0 = t.val / 16; rw [hi.1]; omega
  · show win0_0.index t 1 * 512 + 1 * r.val = 512 * (t.val % 16) + r.val; rw [hi.2.1]; omega
  · show win0_0.index t 2 * 1536 + 1 * k.val = k.val; rw [hi.2.2]; omega

theorem blk1_apply (t : Fin cfg0.N) (n : Fin 31) (k : Fin 256) :
    (iblk m c 1 t : Vec Ideal S31x256 .f32) (ix2 n k) = m ((c.tc : Thread nD τ).loc main_arg1) (ix2 n k) := by
  have hi := idx1 t
  unfold iblk
  rw [View.read_apply]
  refine (congrArg (V m c main_arg1) (eq_ix2 _ n k ?_ ?_)).trans (v1_apply m c _)
  · show win0_1.index t 0 * 31 + 1 * n.val = n.val; rw [hi.1]; omega
  · show win0_1.index t 1 * 256 + 1 * k.val = k.val; rw [hi.2]; omega

theorem blk2_apply (t : Fin cfg0.N) (k : Fin 256) :
    (iblk m c 2 t : Vec Ideal S1x256 .f32) (ix2 0 k) = m ((c.tc : Thread nD τ).loc main_arg2) (ix1 k) := by
  have hi := idx2 t
  unfold iblk
  rw [View.read_apply]
  refine (congrArg (V m c main_v26) (eq_ix2 _ 0 k ?_ ?_)).trans (v2_apply m c k)
  · show win0_2.index t 0 * 1 + 1 * 0 = 0; rw [hi.1]
  · show win0_2.index t 1 * 256 + 1 * k.val = k.val; rw [hi.2]; omega

theorem blk3_apply (t : Fin cfg0.N) (k : Fin 256) :
    (iblk m c 3 t : Vec Ideal S1x256 .f32) (ix2 0 k) = m ((c.tc : Thread nD τ).loc main_arg3) (ix1 k) := by
  have hi := idx3 t
  unfold iblk
  rw [View.read_apply]
  refine (congrArg (V m c main_v27) (eq_ix2 _ 0 k ?_ ?_)).trans (v3_apply m c k)
  · show win0_3.index t 0 * 1 + 1 * 0 = 0; rw [hi.1]
  · show win0_3.index t 1 * 256 + 1 * k.val = k.val; rw [hi.2]; omega

theorem blk4_apply (t : Fin cfg0.N) (k : Fin 256) :
    (iblk m c 4 t : Vec Ideal S1x256 .f32) (ix2 0 k) = m ((c.tc : Thread nD τ).loc main_arg4) (ix1 k) := by
  have hi := idx4 t
  unfold iblk
  rw [View.read_apply]
  refine (congrArg (V m c main_v28) (eq_ix2 _ 0 k ?_ ?_)).trans (v4_apply m c k)
  · show win0_4.index t 0 * 1 + 1 * 0 = 0; rw [hi.1]
  · show win0_4.index t 1 * 256 + 1 * k.val = k.val; rw [hi.2]; omega

theorem blk5_apply (t : Fin cfg0.N) (e k : Fin 256) :
    (iblk m c 5 t : Vec Ideal S256x256 .bf16) (ix2 e k) = diag (m ((c.tc : Thread nD τ).loc main_arg5)) e k := by
  have hi := idx5 t
  unfold iblk
  rw [View.read_apply]
  refine (congrArg (V m c main_v25) (eq_ix2 _ e k ?_ ?_)).trans (LocalDiag.v25_apply m c e k)
  · show win0_5.index t 0 * 256 + 1 * e.val = e.val; rw [hi.1]; omega
  · show win0_5.index t 1 * 256 + 1 * k.val = k.val; rw [hi.2]; omega

theorem blk6_apply (t : Fin cfg0.N) (k : Fin 256) :
    (iblk m c 6 t : Vec Ideal S1x256 .f32) (ix2 0 k) = m ((c.tc : Thread nD τ).loc main_arg6) (ix1 k) := by
  have hi := idx6 t
  unfold iblk
  rw [View.read_apply]
  refine (congrArg (V m c main_v29) (eq_ix2 _ 0 k ?_ ?_)).trans (v6_apply m c k)
  · show win0_6.index t 0 * 1 + 1 * 0 = 0; rw [hi.1]
  · show win0_6.index t 1 * 256 + 1 * k.val = k.val; rw [hi.2]; omega

theorem blk7_apply (t : Fin cfg0.N) (n : Fin 3) (k : Fin 256) :
    (iblk m c 7 t : Vec Ideal S3x256 .f32) (ix2 n k) = m ((c.tc : Thread nD τ).loc main_arg7) (ix2 n k) := by
  have hi := idx7 t
  unfold iblk
  rw [View.read_apply]
  refine (congrArg (V m c main_arg7) (eq_ix2 _ n k ?_ ?_)).trans (v7_apply m c _)
  · show win0_7.index t 0 * 3 + 1 * n.val = n.val; rw [hi.1]; omega
  · show win0_7.index t 1 * 256 + 1 * k.val = k.val; rw [hi.2]; omega

/-! ### What the scratch carries from one point to the next -/

/-- After a point the scratch's first 32 rows are the 32 positions before the next point's block. -/
def Carried (n : ℕ) (hn : n < cfg0.N) : Prop :=
  ∀ (i : ℕ) (hi : i < 32) (j : Fin 768), (outsAt0 m c n hn).2 (ix2 ⟨i, by omega⟩ j)
    = padded (feat (m ((c.tc : Thread nD τ).loc main_arg0)) (batch ⟨n, hn⟩) j.val) (512 * (n % 16 + 1) + i)

theorem good_A (t : Fin cfg0.N) (h : t.val % 16 = 0) :
    Good (m ((c.tc : Thread nD τ).loc main_arg0)) (batch t) (t.val % 16) (histA scM0_0 (X0_0 m c t)) :=
  good_hist _ _ _ _ _ _ (blk0_apply m c t) fun n hn j => by
    rw [zeros_apply scM0_0.view _ n hn j]
    unfold padded
    rw [if_neg (by omega)]

theorem good_B (t : Fin cfg0.N) (h : ¬t.val % 16 = 0) (hs : Carried m c (t.val - 1) (Nat.lt_of_le_of_lt (Nat.sub_le _ _) t.isLt)) :
    Good (m ((c.tc : Thread nD τ).loc main_arg0)) (batch t) (t.val % 16)
      (histB scM0_0 (Memref.isWhole_whole _) (X0_0 m c t) (outsAt0 m c (t.val - 1) (Nat.lt_of_le_of_lt (Nat.sub_le _ _) t.isLt)).2) :=
  good_hist _ _ _ _ _ _ (blk0_apply m c t) fun n hn j => by
    rw [Memref.IsWhole.read_unread]
    refine (hs n hn j).trans ?_
    have eb : batch ⟨t.val - 1, Nat.lt_of_le_of_lt (Nat.sub_le _ _) t.isLt⟩ = batch t := Fin.ext (by show (t.val - 1) / 16 = t.val / 16; omega)
    rw [eb, show (t.val - 1) % 16 + 1 = t.val % 16 by omega]

theorem step_A (t : Fin cfg0.N) (h : t.val % 16 = 0) (i : ℕ) (hi : i < 32) (j : Fin 768) :
    (outsAt0 m c t.val t.isLt).2 (ix2 ⟨i, by omega⟩ j) = histA scM0_0 (X0_0 m c t) (ix2 ⟨512 + i, by omega⟩ j) := by
  rw [outsAt0_A m c t h]
  dsimp only
  rw [soutA (n := i) (hn := hi)]

theorem step_B (t : Fin cfg0.N) (h : ¬t.val % 16 = 0) (i : ℕ) (hi : i < 32) (j : Fin 768) :
    (outsAt0 m c t.val t.isLt).2 (ix2 ⟨i, by omega⟩ j)
      = histB scM0_0 (Memref.isWhole_whole _) (X0_0 m c t) (outsAt0 m c (t.val - 1) (Nat.lt_of_le_of_lt (Nat.sub_le _ _) t.isLt)).2 (ix2 ⟨512 + i, by omega⟩ j) := by
  rw [outsAt0_B m c t h]
  dsimp only
  rw [soutB (n := i) (hn := hi)]

theorem carried (n : ℕ) (hn : n < cfg0.N) : Carried m c n hn := by
  induction n with
  | zero =>
    intro i hi j
    have e : 512 * (0 % 16) + (512 + i) = 512 * (0 % 16 + 1) + i := by omega
    exact (step_A m c ⟨0, hn⟩ rfl i hi j).trans ((good_A m c ⟨0, hn⟩ rfl (512 + i) (by omega) j).trans (congrArg _ e))
  | succ n ih =>
    intro i hi j
    have e : 512 * ((n + 1) % 16) + (512 + i) = 512 * ((n + 1) % 16 + 1) + i := by omega
    by_cases h : (n + 1) % 16 = 0
    · refine (step_A m c ⟨n + 1, hn⟩ h i hi j).trans ((good_A m c ⟨n + 1, hn⟩ h (512 + i) (by omega) j).trans ?_)
      exact congrArg _ e
    · refine (step_B m c ⟨n + 1, hn⟩ h i hi j).trans ((good_B m c ⟨n + 1, hn⟩ h (ih _) (512 + i) (by omega) j).trans ?_)
      exact congrArg _ e

/-! ### The whole array -/

/-- The value the result ends at. -/
def G : FVec Ideal S2x8192x768 .f32 :=
  Mix.value (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- A point's block over what it found in its scratch. -/
theorem block_point (t : Fin cfg0.N) (H : Vec Ideal S544x768 .f32) (hH : Good (m ((c.tc : Thread nD τ).loc main_arg0)) (batch t) (t.val % 16) H)
    (r : Fin 512) (j : Fin 768) :
    block (grid0.coords t) H (X0_0 m c t) (iblk m c 1 t) (iblk m c 2 t) (iblk m c 3 t) (iblk m c 4 t) (iblk m c 5 t) (iblk m c 6 t) (iblk m c 7 t) (ix3 0 r j)
      = G m c (ix3 (batch t) ⟨512 * (t.val % 16) + r.val, by omega⟩ j) :=
  block_value _ (batch t) (t.val % 16) _ _ _ _ _ _ _ (grid0.coords t) H _ _ _ _ _ _ _ _ (by omega) (coord1 t) hH (blk0_apply m c t) (blk1_apply m c t)
    (blk2_apply m c t) (blk3_apply m c t) (blk4_apply m c t) (blk5_apply m c t) (blk6_apply m c t) (blk7_apply m c t) r j

theorem outs_apply (t : Fin cfg0.N) (r : Fin 512) (j : Fin 768) :
    (outsAt0 m c t.val t.isLt).1 (ix3 0 r j) = G m c (ix3 (batch t) ⟨512 * (t.val % 16) + r.val, by omega⟩ j) := by
  by_cases h : t.val % 16 = 0
  · rw [outsAt0_A m c t h]
    dsimp only
    rw [LocalHist.outA]
    exact block_point m c t _ (good_A m c t h) r j
  · rw [outsAt0_B m c t h]
    dsimp only
    rw [LocalHist.outB]
    exact block_point m c t _ (good_B m c t h (carried m c _ _)) r j

theorem flushed_eq (t : Fin cfg0.N) : (dats m 0 c).flushed 8 t = ((cfg0.win 8).blk t).view.read (Elt Ideal) (G m c) := by
  have hi := idx8 t
  rw [Cert.Kernel4Ideal.Value.flushed8]
  funext (j : S1x512x768.Idx)
  obtain ⟨r, k, rfl⟩ : ∃ (r : Fin 512) (k : Fin 768), j = ix3 0 r k := ⟨j 1, j 2, eq_ix3 _ _ _ _ (by have := (j 0).isLt; show (j 0).val = 0; have : (j 0).val < 1 := this; omega) rfl rfl⟩
  refine Eq.trans (outs_apply m c t r k) ?_
  rw [View.read_apply]
  refine congrArg (G m c) (eq_ix3 _ _ _ _ ?_ ?_ ?_).symm
  · show win0_8.index t 0 * 1 + 1 * 0 = t.val / 16; rw [hi.1]; omega
  · show win0_8.index t 1 * 512 + 1 * r.val = 512 * (t.val % 16) + r.val; rw [hi.2.1]; omega
  · show win0_8.index t 2 * 768 + 1 * k.val = k.val; rw [hi.2.2]; omega

theorem final : (dats m 0 c).arrAt 8 cfg0.N = G m c :=
  (dats m 0 c).arrAt_eq_of_cover 8 (G m c) (fun t _ => flushed_eq m c t) fun (i : S2x8192x768.Idx) => by
    have hN : cfg0.N = 32 := N_0
    have h0 : (i 0).val < 2 := (i 0).isLt
    have h1 : (i 1).val < 8192 := (i 1).isLt
    have h2 : (i 2).val < 768 := (i 2).isLt
    let t : Fin cfg0.N := ⟨16 * (i 0).val + (i 1).val / 512, by omega⟩
    have hi := idx8 t
    have ht : t.val = 16 * (i 0).val + (i 1).val / 512 := rfl
    refine ⟨t, flush0_8 t, ?_⟩
    show i ∈ ((View.whole main_v30).slice (win0_8.rect t)).set
    rw [View.set_slice_whole, Rect.mem_set_unit]
    intro a
    match a with
    | ⟨0, _⟩ =>
      show win0_8.index t 0 * 1 ≤ (i 0).val ∧ (i 0).val < win0_8.index t 0 * 1 + 1
      rw [hi.1]; omega
    | ⟨1, _⟩ =>
      show win0_8.index t 1 * 512 ≤ (i 1).val ∧ (i 1).val < win0_8.index t 1 * 512 + 512
      rw [hi.2.1]; omega
    | ⟨2, _⟩ =>
      show win0_8.index t 2 * 768 ≤ (i 2).val ∧ (i 2).val < win0_8.index t 2 * 768 + 768
      rw [hi.2.2]; omega

end Cert.Proof.LocalMix
end
-- ==== Proof.Val.LocalRef.lean ====
/- What the reference of the local mixers computes, at an element. -/
module

public import proofs.«01_k».proof.Proof.Gen.Reference4Ideal.Run
public import proofs.«01_k».proof.Proof.Val.LocalBody
public import Idealize.ShloMosaic.Lib.Pointwise
public import Idealize.ShloMosaic.PureOps.Ideal.Laws

@[expose] public section

set_option maxRecDepth 16384

noncomputable section

namespace Cert.Proof.LocalRef

open Cert.Reference4Ideal Cert.Reference4Ideal.Gen Cert.Reference4Ideal.Value Cert.Proof.Mix
open Idealize.ShloMosaic Idealize.ShloMosaic.TcCoe Idealize.ShloMosaic.Pointwise
open scoped BigOperators

variable (V0 : Valuation τ sig (Elt Ideal))

/-- The arguments. -/
def aP : FVec Ideal S2x8192x2304 .f32 := V0 (Proc.devRef .tc main_arg0)
def aW : FVec Ideal S31x256 .f32 := V0 (Proc.devRef .tc main_arg1)
def aG : FVec Ideal S4x64x64 .f32 := V0 (Proc.devRef .tc main_arg5)
def aC : FVec Ideal S3x256 .f32 := V0 (Proc.devRef .tc main_arg7)

theorem zero_word : FloatOps.sitofp (F := Ideal) .f32 (0#32) = (0 : EReal) := by
  show (((0#32 : BitVec 32).toInt : ℝ) : EReal) = 0
  simp

theorem v0_apply (b : Fin 2) (s : Fin 8192) (k : Fin 1536) : res_main_v0 V0 (ix3 b s k) = col (aP V0) b k.val s.val := by
  have hk := k.isLt
  have hs := s.isLt
  unfold col
  rw [dif_pos ⟨hs, by omega⟩]
  pointwise [res_main_v0]
  rfl

theorem v14_apply (b : Fin 2) (s : Fin 8222) (k : Fin 256) : res_main_v14 V0 (ix3 b s k) = padded (featA (aP V0) b k.val) (2 + s.val) := by
  have hs := s.isLt
  unfold padded featA
  pointwise [res_main_v14]
  simp only [v0_apply]
  by_cases h : 30 ≤ s.val
  · rw [dif_pos ⟨h, by omega⟩, if_pos (by omega), show 2 + s.val - 32 = s.val - 30 by omega]
    rfl
  · rw [dif_neg (fun q => h q.1), if_neg (by omega)]
    exact zero_word

theorem v331_apply (b : Fin 2) (s : Fin 8194) (k : Fin 256) : res_main_v331 V0 (ix3 b s k) = padded (featC (aP V0) b k.val) (30 + s.val) := by
  have hs := s.isLt
  unfold padded featC
  pointwise [res_main_v331]
  simp only [v0_apply]
  by_cases h : 2 ≤ s.val
  · rw [dif_pos ⟨h, by omega⟩, if_pos (by omega), show 30 + s.val - 32 = s.val - 2 by omega]
  · rw [dif_neg (fun q => h q.1), if_neg (by omega)]
    exact zero_word

theorem tapA_eq (n : Fin 31) (k : Fin 256) : V0 (Proc.devRef .tc main_arg1) (ix2 n k) = tapA (aW V0) k n.val := by
  unfold tapA
  rw [dif_pos n.isLt]
  rfl

theorem tapC_eq (n : Fin 3) (k : Fin 256) : V0 (Proc.devRef .tc main_arg7) (ix2 n k) = tapC (aC V0) k n.val := by
  unfold tapC
  rw [dif_pos n.isLt]
  rfl

/-- The convolution's terms. -/
def term (b : Fin 2) (s : Fin 8192) (k : Fin 256) (n : ℕ) : EReal := tapA (aW V0) k n * padded (featA (aP V0) b k.val) (2 + n + s.val)

theorem v90_apply (b : Fin 2) (s : Fin 8192) (k : Fin 256) : res_main_v90 V0 (ix3 b s k) = fold (term V0 b s k) 11 := by
  pointwise [res_main_v90]
  simp only [v14_apply, tapA_eq, fold, term, zero_add, ← Nat.add_assoc]
  rfl

theorem v167_apply (b : Fin 2) (s : Fin 8192) (k : Fin 256) : res_main_v167 V0 (ix3 b s k) = fold (term V0 b s k) 22 := by
  pointwise [res_main_v167]
  simp only [v14_apply, v90_apply, tapA_eq, fold, term, zero_add, ← Nat.add_assoc]
  rfl

theorem v233_apply (b : Fin 2) (s : Fin 8192) (k : Fin 256) :
    res_main_v233 V0 (ix3 b s k) = fold (term V0 b s k) 31 + V0 (Proc.devRef .tc main_arg2) (ix1 k) := by
  pointwise [res_main_v233]
  simp only [v14_apply, v167_apply, tapA_eq, fold, term, zero_add, ← Nat.add_assoc]
  rfl

theorem v239_apply (b : Fin 2) (s : Fin 8192) (k : Fin 256) : res_main_v239 V0 (ix3 b s k) = cen (fun j => res_main_v233 V0 (ix3 b s j)) k := by
  unfold cen mean
  pointwise [res_main_v239]

theorem v255_apply (b : Fin 2) (s : Fin 8192) (k : Fin 256) : res_main_v255 V0 (ix3 b s k)
    = normed (fun j => res_main_v233 V0 (ix3 b s j)) (fun j => V0 (Proc.devRef .tc main_arg3) (ix1 j)) (fun j => V0 (Proc.devRef .tc main_arg4) (ix1 j)) k := by
  have h := v239_apply V0 b s
  unfold normed
  simp only [← h]
  unfold mean
  pointwise [res_main_v255]

theorem silu_apply (y : FVec Ideal S2x8192x256 .f32) (i : S2x8192x256.Idx) :
    mulf y (Host.divf (broadcastInDim S2x8192x256 ![] bcast_S_S2x8192x256 (constant S_ .f32 0x3F800000#32)) (addf (broadcastInDim S2x8192x256 ![] bcast_S_S2x8192x256 (constant S_ .f32 0x3F800000#32)) (Host.exp (Host.negf y)))) i = silu (y i) := by
  unfold silu
  pointwise []
  rfl

/-- The gated short convolution. -/
def rC : FVec Ideal S2x8192x256 .f32 :=
  mulf (extractStridedSlice S2x8192x256 ![0, 0, 1024] (res_main_v0 V0) slices_S2x8192x1536_S2x8192x256_0_0_1024) (addf (addf (mulf (broadcastInDim S2x8192x256 ![0, 1, 2] bcast_S1x1x256_S2x8192x256_0_1_2 (broadcastInDim S1x1x256 ![2] bcast_S256_S1x1x256_2 (shapeCast _ (extractStridedSlice S1x256 ![0, 0] (V0 (Proc.devRef .tc main_arg7)) slices_S3x256_S1x256_0_0) shapeCasts_S1x256_S256))) (extractStridedSlice S2x8192x256 ![0, 0, 0] (res_main_v331 V0) slices_S2x8194x256_S2x8192x256_0_0_0)) (mulf (broadcastInDim S2x8192x256 ![0, 1, 2] bcast_S1x1x256_S2x8192x256_0_1_2 (broadcastInDim S1x1x256 ![2] bcast_S256_S1x1x256_2 (shapeCast _ (extractStridedSlice S1x256 ![1, 0] (V0 (Proc.devRef .tc main_arg7)) slices_S3x256_S1x256_1_0) shapeCasts_S1x256_S256))) (extractStridedSlice S2x8192x256 ![0, 1, 0] (res_main_v331 V0) slices_S2x8194x256_S2x8192x256_0_1_0))) (mulf (broadcastInDim S2x8192x256 ![0, 1, 2] bcast_S1x1x256_S2x8192x256_0_1_2 (broadcastInDim S1x1x256 ![2] bcast_S256_S1x1x256_2 (shapeCast _ (extractStridedSlice S1x256 ![2, 0] (V0 (Proc.devRef .tc main_arg7)) slices_S3x256_S1x256_2_0) shapeCasts_S1x256_S256))) (extractStridedSlice S2x8192x256 ![0, 2, 0] (res_main_v331 V0) slices_S2x8194x256_S2x8192x256_0_2_0)))

theorem rC_apply (b : Fin 2) (s : Fin 8192) (k : Fin 256) : rC V0 (ix3 b s k)
    = yc (padded (featC (aP V0) b k.val)) (tapC (aC V0) k) (col (aP V0) b (1024 + k.val) s.val) s.val := by
  unfold yc
  pointwise [rC]
  simp only [v0_apply, v331_apply, tapC_eq, fold, zero_add, ← Nat.add_assoc]
  rfl

/-! ### The pooled windows -/

abbrev Ch := FVec Ideal S2x8192x64 .f32

/-- One group's means less its entries, of its sums `cs` and the sums `prev` a window before. -/
def group (cs prev x : Ch) (w : BitVec 32) : Ch :=
  subf (Host.divf (subf cs prev) (broadcastInDim S2x8192x64 ![0, 1, 2] bcast_S1x8192x1_S2x8192x64_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 w))))))) x

theorem group_apply (cs prev x : Ch) (w : BitVec 32) (b : Fin 2) (s : Fin 8192) (d : Fin 64) :
    group cs prev x w (ix3 b s d) = Ideal.div (cs (ix3 b s d) - prev (ix3 b s d)) (FloatOps.sitofp (F := Ideal) .f32 (IntOp.minsi (BitVec.ofNat 32 (s.val + 1)) w)) - x (ix3 b s d) := by
  have e : IntOp.addi (BitVec.ofNat 32 s.val) 1#32 = BitVec.ofNat 32 (s.val + 1) := (BitVec.ofNat_add s.val 1).symm
  pointwise [group]
  rw [e]

/-- The sums a window before. -/
def prev2 (cs : Ch) : Ch := extractStridedSlice S2x8192x64 ![0, 0, 0] (pad S2x8194x64 ![0, 2, 0] ![0, 0, 0] ![0, 0, 0] cs (sitofp .f32 (constantI S_ 32 0#32)) pads_S2x8192x64_S2x8194x64_000_200_000 h_S_) slices_S2x8194x64_S2x8192x64_0_0_0
def prev4 (cs : Ch) : Ch := extractStridedSlice S2x8192x64 ![0, 0, 0] (pad S2x8196x64 ![0, 4, 0] ![0, 0, 0] ![0, 0, 0] cs (sitofp .f32 (constantI S_ 32 0#32)) pads_S2x8192x64_S2x8196x64_000_400_000 h_S_) slices_S2x8196x64_S2x8192x64_0_0_0
def prev8 (cs : Ch) : Ch := extractStridedSlice S2x8192x64 ![0, 0, 0] (pad S2x8200x64 ![0, 8, 0] ![0, 0, 0] ![0, 0, 0] cs (sitofp .f32 (constantI S_ 32 0#32)) pads_S2x8192x64_S2x8200x64_000_800_000 h_S_) slices_S2x8200x64_S2x8192x64_0_0_0
def prev16 (cs : Ch) : Ch := extractStridedSlice S2x8192x64 ![0, 0, 0] (pad S2x8208x64 ![0, 16, 0] ![0, 0, 0] ![0, 0, 0] cs (sitofp .f32 (constantI S_ 32 0#32)) pads_S2x8192x64_S2x8208x64_000_1600_000 h_S_) slices_S2x8208x64_S2x8192x64_0_0_0

theorem word_else {p q : Prop} [Decidable p] [Decidable q] (h : p ↔ q) (f : p → EReal) (g : q → EReal) (e : ∀ hp hq, f hp = g hq) :
    (if hp : p then f hp else FloatOps.sitofp (F := Ideal) .f32 (0#32)) = if hq : q then g hq else 0 := by
  by_cases hp : p
  · rw [dif_pos hp, dif_pos (h.mp hp)]
    exact e _ _
  · rw [dif_neg hp, dif_neg fun hq => hp (h.mpr hq)]
    exact zero_word

theorem prev_apply (cs : Ch) (b : Fin 2) (s : Fin 8192) (d : Fin 64) :
    (prev2 cs (ix3 b s d) = if h : 2 ≤ s.val then cs (ix3 b ⟨s.val - 2, by omega⟩ d) else 0)
    ∧ (prev4 cs (ix3 b s d) = if h : 4 ≤ s.val then cs (ix3 b ⟨s.val - 4, by omega⟩ d) else 0)
    ∧ (prev8 cs (ix3 b s d) = if h : 8 ≤ s.val then cs (ix3 b ⟨s.val - 8, by omega⟩ d) else 0)
    ∧ (prev16 cs (ix3 b s d) = if h : 16 ≤ s.val then cs (ix3 b ⟨s.val - 16, by omega⟩ d) else 0) := by
  have hs := s.isLt
  refine ⟨?_, ?_, ?_, ?_⟩ <;> pointwise [prev2, prev4, prev8, prev16] <;>
    exact word_else ⟨fun h => h.1, fun h => ⟨h, by omega⟩⟩ _ _ fun _ _ => rfl

/-- The four groups side by side, mixed. -/
def rQ (q0 q1 q2 q3 : Ch) : FVec Ideal S2x8192x4x64 .f32 :=
  concatenate S2x8192x4x64 2 [⟨S2x8192x1x64, broadcastInDim S2x8192x1x64 ![0, 1, 3] bcast_S2x8192x64_S2x8192x1x64_0_1_3 q0⟩, ⟨S2x8192x1x64, broadcastInDim S2x8192x1x64 ![0, 1, 3] bcast_S2x8192x64_S2x8192x1x64_0_1_3 q1⟩, ⟨S2x8192x1x64, broadcastInDim S2x8192x1x64 ![0, 1, 3] bcast_S2x8192x64_S2x8192x1x64_0_1_3 q2⟩, ⟨S2x8192x1x64, broadcastInDim S2x8192x1x64 ![0, 1, 3] bcast_S2x8192x64_S2x8192x1x64_0_1_3 q3⟩] concatenates_S2x8192x1x64_S2x8192x1x64_S2x8192x1x64_S2x8192x1x64_S2x8192x4x64_d2

theorem rQ_apply (q0 q1 q2 q3 : Ch) (b : Fin 2) (s : Fin 8192) (d : Fin 64) :
    rQ q0 q1 q2 q3 (ix4 b s 0 d) = q0 (ix3 b s d) ∧ rQ q0 q1 q2 q3 (ix4 b s 1 d) = q1 (ix3 b s d)
    ∧ rQ q0 q1 q2 q3 (ix4 b s 2 d) = q2 (ix3 b s d) ∧ rQ q0 q1 q2 q3 (ix4 b s 3 d) = q3 (ix3 b s d) := by
  refine ⟨?_, ?_, ?_, ?_⟩ <;> pointwise [rQ]

def rB (W : FVec Ideal S4x64x64 .f32) (Q : FVec Ideal S2x8192x4x64 .f32) (g : FVec Ideal S256 .f32) : FVec Ideal S2x8192x256 .f32 :=
  mulf (shapeCast _ (transpose S2x8192x4x64 [2, 3, 0, 1] (Host.dotGeneral dot_S4x64x64_S2x8192x4x64_S4x64x2x8192_1_3_2_01_0_2 none W Q) transposes_S4x64x2x8192_S2x8192x4x64_2_3_0_1) shapeCasts_S2x8192x4x64_S2x8192x256) (broadcastInDim S2x8192x256 ![0, 1, 2] bcast_S1x1x256_S2x8192x256_0_1_2 (broadcastInDim S1x1x256 ![2] bcast_S256_S1x1x256_2 g))

theorem rB_apply (W : FVec Ideal S4x64x64 .f32) (Q : FVec Ideal S2x8192x4x64 .f32) (g : FVec Ideal S256 .f32) (b : Fin 2) (s : Fin 8192) (k : Fin 256) :
    rB W Q g (ix3 b s k) = (∑ e : Fin 64, W (ix3 ⟨k.val / 64, by omega⟩ e ⟨k.val % 64, by omega⟩) * Q (ix4 b s ⟨k.val / 64, by omega⟩ e)) * g (ix1 k) := by
  pointwise [rB]

abbrev Wd : Shape := ⟨3, ![1, 8192, 1]⟩

/-- A window's positions are its middle axis. -/
def midAxis : Fin 8192 ≃ Wd.Idx where
  toFun n := ix3 0 n 0
  invFun j := j 1
  left_inv _ := rfl
  right_inv j := by
    funext a
    fin_cases a
    · exact Subsingleton.elim (α := Fin 1) _ _
    · rfl
    · exact Subsingleton.elim (α := Fin 1) _ _

/-- The running sums. -/
def cum (x : Ch) : Ch :=
  Host.reduceWindowAdd ![1, 8192, 1] ![1, 1, 1] ![0, 8191, 0] ![0, 0, 0] x (broadcastInDim S_ ![] bcast_S_S_ (constant S_ .f32 0x00000000#32)) reduceWindows_S2x8192x64_S2x8192x64_w1s1p0_0_w8192s1p8191_0_w1s1p0_0 h_S_

theorem cum_apply (x : Ch) (b : Fin 2) (s : Fin 8192) (d : Fin 64) (f : ℕ → EReal)
    (hf : ∀ t : Fin 8192, x (ix3 b t d) = f t.val) : cum x (ix3 b s d) = ∑ t ∈ Finset.range (s.val + 1), f t := by
  have hs := s.isLt
  have hb := b.isLt
  have hd := d.isLt
  have key : ∀ n : Fin 8192, (if hin : ∀ a : Fin 3, (![0, 8191, 0] : Fin 3 → ℕ) a ≤ ((ix3 b s d : S2x8192x64.Idx) a).val * (![1, 1, 1] : Fin 3 → ℕ) a + ((midAxis n) a).val
        ∧ ((ix3 b s d : S2x8192x64.Idx) a).val * (![1, 1, 1] : Fin 3 → ℕ) a + ((midAxis n) a).val - (![0, 8191, 0] : Fin 3 → ℕ) a < S2x8192x64.size a
      then x (fun a => ⟨((ix3 b s d : S2x8192x64.Idx) a).val * (![1, 1, 1] : Fin 3 → ℕ) a + ((midAxis n) a).val - (![0, 8191, 0] : Fin 3 → ℕ) a, (hin a).2⟩)
      else (0 : EReal)) = if 8191 ≤ s.val + n.val then f (s.val + n.val - 8191) else 0 := by
    intro n
    have hn := n.isLt
    by_cases hc : 8191 ≤ s.val + n.val
    · rw [if_pos hc, dif_pos]
      · rw [← hf ⟨s.val + n.val - 8191, by omega⟩]
        congr 1
        funext a
        apply Fin.ext
        fin_cases a
        · show b.val * 1 + 0 - 0 = b.val; omega
        · show s.val * 1 + n.val - 8191 = s.val + n.val - 8191; omega
        · show d.val * 1 + 0 - 0 = d.val; omega
      · intro a
        fin_cases a
        · exact (show 0 ≤ b.val * 1 + 0 ∧ b.val * 1 + 0 - 0 < 2 by omega)
        · exact (show 8191 ≤ s.val * 1 + n.val ∧ s.val * 1 + n.val - 8191 < 8192 by omega)
        · exact (show 0 ≤ d.val * 1 + 0 ∧ d.val * 1 + 0 - 0 < 64 by omega)
    · rw [if_neg hc, dif_neg]
      intro hin
      have h1 : 8191 ≤ s.val * 1 + n.val := (hin 1).1
      omega
  have hsum : cum x (ix3 b s d) = ∑ n : Fin 8192, if 8191 ≤ s.val + n.val then f (s.val + n.val - 8191) else 0 := by
    rw [← Finset.sum_congr rfl fun n _ => key n]
    have h0 : (broadcastInDim S_ ![] bcast_S_S_ (constant (F := Ideal) S_ .f32 0x00000000#32) : FVec Ideal S_ .f32) (Shape.Idx.first h_S_) = (0 : EReal) := by
      pointwise
    rw [cum, Host.reduceWindowAdd, h0, Ideal.hostReduceWindowAdd_def, Ideal.hostReduceWindowAdd, Host.reduceWindow]
    rw [← List.foldl_map (f := _) (g := fun (r : EReal) v => r + v), ← List.sum_eq_foldl, ← Fin.sum_univ_def]
    rw [← Equiv.sum_comp Wd.rowMajor, ← Equiv.sum_comp midAxis]
    simp only [Equiv.symm_apply_apply]
    rfl
  rw [hsum, Fin.sum_univ_eq_sum_range (fun n => if 8191 ≤ s.val + n then f (s.val + n - 8191) else 0) 8192, ← Finset.sum_filter]
  refine Finset.sum_nbij' (fun n => s.val + n - 8191) (fun t => t + 8191 - s.val) ?_ ?_ ?_ ?_ ?_
  · intro n hn; simp only [Finset.mem_filter, Finset.mem_range] at hn ⊢; omega
  · intro t ht; simp only [Finset.mem_filter, Finset.mem_range] at ht ⊢; omega
  · intro n hn; simp only [Finset.mem_filter, Finset.mem_range] at hn; omega
  · intro t ht; simp only [Finset.mem_range] at ht; omega
  · intro n _; rfl

/-- A finite sequence's running sum less the one a window before is the window's sum. -/
theorem run_eq (F : ℕ → ℝ) (s n : ℕ) : run (padded fun t => (F t : EReal)) (32 + s) n
    = ((∑ t ∈ Finset.range (s + 1), F t - if n + 1 ≤ s then ∑ t ∈ Finset.range (s - (n + 1) + 1), F t else 0 : ℝ) : EReal) := by
  induction n with
  | zero =>
    show padded _ (32 + s) = _
    unfold padded
    rw [if_pos (by omega), Nat.add_sub_cancel_left, EReal.coe_eq_coe_iff, Finset.sum_range_succ]
    rcases Nat.eq_zero_or_pos s with rfl | hs
    · simp
    · rw [if_pos (by omega), show s - (0 + 1) + 1 = s by omega]
      ring
  | succ n ih =>
    show run _ (32 + s) n + padded _ (32 + s - (n + 1)) = _
    rw [ih]
    unfold padded
    by_cases h : n + 1 ≤ s
    · rw [if_pos h, if_pos (by omega), show 32 + s - (n + 1) - 32 = s - (n + 1) by omega, ← EReal.coe_add, EReal.coe_eq_coe_iff, Finset.sum_range_succ _ (s - (n + 1))]
      by_cases h' : n + 1 + 1 ≤ s
      · rw [if_pos h', show s - (n + 1 + 1) + 1 = s - (n + 1) by omega]
        ring
      · rw [if_neg h', show s - (n + 1) = 0 by omega]
        simp
    · rw [if_neg h, if_neg (by omega), if_neg (by omega), add_zero]

/-- One group's channel at a position. -/
theorem pool_apply (x prev : Ch) (w : ℕ) (hw : 0 < w) (hw' : w < 32) (b : Fin 2) (s : Fin 8192) (d : Fin 64)
    (hp : prev (ix3 b s d) = if h : w ≤ s.val then cum x (ix3 b ⟨s.val - w, by omega⟩ d) else 0)
    (f : ℕ → EReal) (hf : ∀ t : Fin 8192, x (ix3 b t d) = f t.val) (hr : ∀ t, ∃ y : ℝ, f t = (y : EReal)) :
    group (cum x) prev x (BitVec.ofNat 32 w) (ix3 b s d) = pooled (padded f) w s.val := by
  have coe_sum : ∀ (F : ℕ → ℝ) (n : ℕ), ∑ t ∈ Finset.range n, (F t : EReal) = ((∑ t ∈ Finset.range n, F t : ℝ) : EReal) := fun F n => by
    induction n with
    | zero => rfl
    | succ n ih => rw [Finset.sum_range_succ, Finset.sum_range_succ, ih, EReal.coe_add]
  choose F hF using hr
  obtain rfl : f = fun t => (F t : EReal) := funext hF
  rw [group_apply, hp, LocalBody.count_word s.val w s.isLt hw', Ideal.div_coe (ne_of_gt (filled_pos w s.val hw)), hf, cum_apply x b s d (fun t => (F t : EReal)) hf]
  unfold pooled
  rw [run_eq, show w - 1 + 1 = w by omega, coe_sum]
  congr 1
  · congr 1
    by_cases h : w ≤ s.val
    · rw [dif_pos h, if_pos h, cum_apply x b _ d (fun t => (F t : EReal)) hf, coe_sum, EReal.coe_sub]
    · rw [dif_neg h, if_neg h, sub_zero, sub_zero]
  · unfold padded
    rw [if_pos (by omega), Nat.add_sub_cancel_left]

/-! ### The whole result -/

theorem groups_apply (b : Fin 2) (s : Fin 8192) (d : Fin 64) :
    (res_main_v260 V0 (ix3 b s d) = featB (aP V0) b (64 * 0 + d.val) s.val)
    ∧ (res_main_v275 V0 (ix3 b s d) = featB (aP V0) b (64 * 1 + d.val) s.val)
    ∧ (res_main_v290 V0 (ix3 b s d) = featB (aP V0) b (64 * 2 + d.val) s.val)
    ∧ (res_main_v305 V0 (ix3 b s d) = featB (aP V0) b (64 * 3 + d.val) s.val) := by
  refine ⟨?_, ?_, ?_, ?_⟩ <;> pointwise [res_main_v260, res_main_v275, res_main_v290, res_main_v305, res_main_v257] <;>
    simp only [v0_apply] <;> unfold featB <;> congr 1 <;> omega

/-- The groups' means less their entries, side by side. -/
def pools : FVec Ideal S2x8192x4x64 .f32 :=
  rQ (group (cum (res_main_v260 V0)) (prev2 (cum (res_main_v260 V0))) (res_main_v260 V0) 2#32)
    (group (cum (res_main_v275 V0)) (prev4 (cum (res_main_v275 V0))) (res_main_v275 V0) 4#32)
    (group (cum (res_main_v290 V0)) (prev8 (cum (res_main_v290 V0))) (res_main_v290 V0) 8#32)
    (group (cum (res_main_v305 V0)) (prev16 (cum (res_main_v305 V0))) (res_main_v305 V0) 16#32)

theorem pools_apply (hr : ∀ (b : Fin 2) (s : Fin 8192) (k : Fin 256), ∃ y : ℝ, aP V0 (ix3 b s ⟨512 + k.val, by omega⟩) = (y : EReal))
    (b : Fin 2) (s : Fin 8192) (g : Fin 4) (d : Fin 64) :
    pools V0 (ix4 b s g d) = pooled (padded (featB (aP V0) b (64 * g.val + d.val))) (win (64 * g.val + d.val)) s.val := by
  have hd := d.isLt
  have hf : ∀ k, k < 256 → ∀ t, ∃ y : ℝ, featB (aP V0) b k t = (y : EReal) := fun k hk t => by
    unfold featB col
    split
    · next h => exact hr b ⟨t, h.1⟩ ⟨k, hk⟩
    · exact ⟨0, rfl⟩
  have hq := rQ_apply (group (cum (res_main_v260 V0)) (prev2 (cum (res_main_v260 V0))) (res_main_v260 V0) 2#32)
    (group (cum (res_main_v275 V0)) (prev4 (cum (res_main_v275 V0))) (res_main_v275 V0) 4#32)
    (group (cum (res_main_v290 V0)) (prev8 (cum (res_main_v290 V0))) (res_main_v290 V0) 8#32)
    (group (cum (res_main_v305 V0)) (prev16 (cum (res_main_v305 V0))) (res_main_v305 V0) 16#32) b s d
  unfold pools
  match g with
  | ⟨0, _⟩ =>
    refine hq.1.trans ((pool_apply _ _ 2 (by decide) (by decide) b s d (prev_apply _ b s d).1 _ (fun t => (groups_apply V0 b t d).1) (hf _ (by omega))).trans ?_)
    rw [show win (64 * 0 + d.val) = 2 from if_pos (by omega)]
  | ⟨1, _⟩ =>
    refine hq.2.1.trans ((pool_apply _ _ 4 (by decide) (by decide) b s d (prev_apply _ b s d).2.1 _ (fun t => (groups_apply V0 b t d).2.1) (hf _ (by omega))).trans ?_)
    rw [show win (64 * 1 + d.val) = 4 from (if_neg (by omega)).trans (if_pos (by omega))]
  | ⟨2, _⟩ =>
    refine hq.2.2.1.trans ((pool_apply _ _ 8 (by decide) (by decide) b s d (prev_apply _ b s d).2.2.1 _ (fun t => (groups_apply V0 b t d).2.2.1) (hf _ (by omega))).trans ?_)
    rw [show win (64 * 2 + d.val) = 8 from (if_neg (by omega)).trans ((if_neg (by omega)).trans (if_pos (by omega)))]
  | ⟨3, _⟩ =>
    refine hq.2.2.2.trans ((pool_apply _ _ 16 (by decide) (by decide) b s d (prev_apply _ b s d).2.2.2 _ (fun t => (groups_apply V0 b t d).2.2.2) (hf _ (by omega))).trans ?_)
    rw [show win (64 * 3 + d.val) = 16 from (if_neg (by omega)).trans ((if_neg (by omega)).trans (if_neg (by omega)))]

/-- A sum over the channels is one over the groups and the channels of each. -/
theorem sum_groups (f : Fin 256 → EReal) : ∑ e, f e = ∑ g : Fin 4, ∑ d : Fin 64, f ⟨64 * g.val + d.val, by omega⟩ := by
  rw [← Fintype.sum_prod_type' fun (g : Fin 4) (d : Fin 64) => f ⟨64 * g.val + d.val, by omega⟩]
  refine (Fintype.sum_equiv (finProdFinEquiv (m := 4) (n := 64)) _ _ fun x => ?_).symm
  congr 1
  apply Fin.ext
  show 64 * x.1.val + x.2.val = x.2.val + 64 * x.1.val
  omega

theorem mixed_apply (Q : FVec Ideal S2x8192x4x64 .f32) (ps : FVec Ideal S256 .f32) (b : Fin 2) (s : Fin 8192) (k : Fin 256) (p : Fin 256 → EReal)
    (hQ : ∀ (g : Fin 4) (d : Fin 64), Q (ix4 b s g d) = p ⟨64 * g.val + d.val, by omega⟩) :
    rB (aG V0) Q ps (ix3 b s k) = (∑ e : Fin 256, p e * diag (aG V0) e k) * ps (ix1 k) := by
  have hk := k.isLt
  rw [rB_apply, sum_groups, Finset.sum_eq_single (⟨k.val / 64, by omega⟩ : Fin 4)]
  · congr 1
    refine Finset.sum_congr rfl fun d _ => ?_
    have hd := d.isLt
    rw [hQ, mul_comm]
    unfold diag
    rw [if_pos (by show (64 * (k.val / 64) + d.val) / 64 = k.val / 64; omega)]
    congr 2
    have e : (⟨(64 * (k.val / 64) + d.val) % 64, by omega⟩ : Fin 64) = d := Fin.ext (by show (64 * (k.val / 64) + d.val) % 64 = d.val; omega)
    simp only [e]
  · intro g _ hg
    refine Finset.sum_eq_zero fun d _ => ?_
    have hd := d.isLt
    unfold diag
    rw [if_neg (fun h : (64 * g.val + d.val) / 64 = k.val / 64 => hg (Fin.ext (by show g.val = k.val / 64; omega))), mul_zero]
  · exact fun h => absurd (Finset.mem_univ _) h

/-- The three mixers side by side. -/
def joined (A B C : FVec Ideal S2x8192x256 .f32) : FVec Ideal S2x8192x768 .f32 :=
  concatenate S2x8192x768 2 [⟨S2x8192x256, A⟩, ⟨S2x8192x256, B⟩, ⟨S2x8192x256, C⟩] concatenates_S2x8192x256_S2x8192x256_S2x8192x256_S2x8192x768_d2

theorem joined_apply (A B C : FVec Ideal S2x8192x256 .f32) (b : Fin 2) (s : Fin 8192) (j : Fin 768) :
    joined A B C (ix3 b s j) = if j.val < 256 then A (ix3 b s ⟨j.val % 256, by omega⟩)
      else if j.val < 512 then B (ix3 b s ⟨j.val % 256, by omega⟩) else C (ix3 b s ⟨j.val % 256, by omega⟩) := by
  have hj := j.isLt
  pointwise [joined]
  by_cases h : j.val < 256
  · rw [dif_pos h, if_pos h]
    simp only [Nat.mod_eq_of_lt h]
  rw [dif_neg h, if_neg h]
  by_cases h' : j.val < 512
  · rw [dif_pos (by omega), if_pos h']
    simp only [show j.val - 256 = j.val % 256 by omega]
  · rw [dif_neg (by omega), if_neg h']
    simp only [show j.val - 256 - 256 = j.val % 256 by omega]

theorem res_eq : res_main_v353 V0
    = joined (mulf (res_main_v255 V0) (Host.divf (broadcastInDim S2x8192x256 ![] bcast_S_S2x8192x256 (constant S_ .f32 0x3F800000#32)) (addf (broadcastInDim S2x8192x256 ![] bcast_S_S2x8192x256 (constant S_ .f32 0x3F800000#32)) (Host.exp (Host.negf (res_main_v255 V0))))))
        (rB (aG V0) (pools V0) (V0 (Proc.devRef .tc main_arg6))) (rC V0) := rfl

theorem value_eq (hr : ∀ (b : Fin 2) (s : Fin 8192) (k : Fin 256), ∃ y : ℝ, aP V0 (ix3 b s ⟨512 + k.val, by omega⟩) = (y : EReal)) :
    res_main_v353 V0 = Mix.value (V0 (Proc.devRef .tc main_arg0)) (V0 (Proc.devRef .tc main_arg1)) (V0 (Proc.devRef .tc main_arg2)) (V0 (Proc.devRef .tc main_arg3))
      (V0 (Proc.devRef .tc main_arg4)) (V0 (Proc.devRef .tc main_arg5)) (V0 (Proc.devRef .tc main_arg6)) (V0 (Proc.devRef .tc main_arg7)) := by
  rw [res_eq]
  funext (i : S2x8192x768.Idx)
  obtain ⟨b, s, j, rfl⟩ : ∃ (b : Fin 2) (s : Fin 8192) (j : Fin 768), i = ix3 b s j :=
    ⟨i 0, i 1, i 2, by funext d; match d with | ⟨0, _⟩ => rfl | ⟨1, _⟩ => rfl | ⟨2, _⟩ => rfl⟩
  rw [joined_apply]
  unfold value
  show _ = if j.val < 256 then _ else if j.val < 512 then _ else _
  split
  · rw [silu_apply, v255_apply]
    simp only [v233_apply]
    rfl
  split
  · exact mixed_apply V0 _ _ b s _ (fun e => pooled (padded (featB (aP V0) b e.val)) (win e.val) s.val) fun g d => pools_apply V0 hr b s g d
  · exact rC_apply V0 b s _

end Cert.Proof.LocalRef
end
-- ==== Proof.Val.PreP.lean ====
/- What the local mixers' precondition says: every element that the pooled windows sum is a real number. -/
module

public import proofs.«01_k».proof.Pre_finite_p
public import proofs.«01_k».proof.Proof.Val.Pre

@[expose] public section

noncomputable section

namespace Cert.Proof.PreP

open Cert.Pre_finite_p
open Idealize.ShloMosaic Idealize.ShloMosaic.Pointwise

theorem facts : Cert.Pre_finite_p.Facts where
  slices_S2x8192x2304_S2x8192x256_0_0_512 := by decide
  bcast_S_S2x8192x256 := by decide
  reducesTo_S2x8192x256_S_d0_1_2 := by decide
  h_S_ := by decide

theorem real [hf : Cert.Pre_finite_p.Facts] (X : FVec Ideal S2x8192x2304 .f32) (a1 : FVec Ideal S31x256 .f32) (a2 a3 a4 : FVec Ideal S256 .f32)
    (a5 : FVec Ideal S4x64x64 .f32) (a6 : FVec Ideal S256 .f32) (a7 : FVec Ideal S3x256 .f32) (h : fn X a1 a2 a3 a4 a5 a6 a7 = fun _ => 1#1)
    (b : Fin 2) (i : Fin 8192) (k : Fin 256) : ∃ x : ℝ, X (ix3 b i ⟨512 + k.val, by omega⟩) = (x : EReal) := by
  haveI : Subsingleton S_.Idx := ⟨fun a b => funext fun d => d.elim0⟩
  have e := Host.reduce_andi_all _ _ _ _ (fun d => d.elim0) (congrFun h fun d => d.elim0) (ix3 b i k)
  have e' : BitVec.ofBool (decide (max (X (ix3 b i ⟨512 + k.val, by omega⟩)) (-(X (ix3 b i ⟨512 + k.val, by omega⟩))) < Ideal.ofBits .f32 0x7F800000#32)) = 1#1 := by
    rw [← e]
    pointwise []
    rfl
  have ht : Ideal.ofBits .f32 0x7F800000#32 = (⊤ : EReal) := by simp [Ideal.ofBits, Ideal.ieee]
  rw [ht] at e'
  refine Pre.real_of_size ?_
  by_contra hn
  rw [decide_eq_false hn] at e'
  exact absurd e' (by decide)

end Cert.Proof.PreP
end
-- ==== Proof.Val.ResidualRef.lean ====
/- What the reference of the last residual and norm computes, at an element. -/
module

public import proofs.«01_k».proof.Proof.Gen.Reference5Ideal.Run
public import proofs.«01_k».proof.Proof.Val.Norm
public import Idealize.ShloMosaic.Lib.Pointwise

@[expose] public section

set_option maxRecDepth 16384

noncomputable section

namespace Cert.Proof.ResidualRef

open Cert.Reference5Ideal Cert.Reference5Ideal.Gen Cert.Proof.Norm
open Idealize.ShloMosaic Idealize.ShloMosaic.TcCoe Idealize.ShloMosaic.Pointwise
open scoped BigOperators

/-- A row before its norm: the stream's, scaled, and the experts'. -/
def sum (x f : Fin 1024 → EReal) (k : Fin 1024) : EReal := Ideal.ofBits .f32 0x3FB504F3#32 * x k + f k

variable (X : FVec Ideal S16384x1024 .f32) (Y : FVec Ideal S16777216 .f32) (Gm B : FVec Ideal S1024 .f32)

/-- The value of the result, from the arguments. -/
def value : FVec Ideal S16384x1024 .f32 := fun i =>
  normed (sum (fun e => X (ix2 (i 0) e)) fun e => Y (ix1 ⟨(i 0).val * 1024 + e.val, by have : (i 0).val < 16384 := (i 0).isLt; omega⟩))
    (fun e => Gm (ix1 e)) (fun e => B (ix1 e)) (i 1)

/-- The reference's rows before their norm, -/
def rP : FVec Ideal S16384x1024 .f32 :=
  addf (mulf (broadcastInDim S16384x1024 ![] bcast_S_S16384x1024 (constant S_ .f32 0x3FB504F3#32)) X) (shapeCast _ Y shapeCasts_S16777216_S16384x1024)

/-- their means, -/
def rM (P : FVec Ideal S16384x1024 .f32) : FVec Ideal S16384x1 .f32 :=
  Host.divf (broadcastInDim S16384x1 ![0] bcast_S16384_S16384x1_0 (Host.reduceAdd P (constant S_ .f32 0x00000000#32) reducesTo_S16384x1024_S16384_d1 h_S_)) (broadcastInDim S16384x1 ![] bcast_S_S16384x1 (constant S_ .f32 0x44800000#32))

/-- the rows less their means, -/
def rC (P : FVec Ideal S16384x1024 .f32) : FVec Ideal S16384x1024 .f32 :=
  subf P (broadcastInDim S16384x1024 ![0, 1] bcast_S16384x1_S16384x1024_0_1 (rM P))

/-- and its result. -/
def rN (C : FVec Ideal S16384x1024 .f32) : FVec Ideal S16384x1024 .f32 :=
  addf (mulf (mulf C (broadcastInDim S16384x1024 ![0, 1] bcast_S16384x1_S16384x1024_0_1 (Host.rsqrt (addf (rM (mulf C C)) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 Gm))) (broadcastInDim S16384x1024 ![0, 1] bcast_S1x1024_S16384x1024_0_1 (broadcastInDim S1x1024 ![1] bcast_S1024_S1x1024_1 B))

theorem rP_apply (R : Fin 16384) (k : Fin 1024) : rP X Y (ix2 R k)
    = sum (fun e => X (ix2 R e)) (fun e => Y (ix1 ⟨R.val * 1024 + e.val, by omega⟩)) k := by
  unfold sum
  pointwise [rP]

theorem rM_apply (P : FVec Ideal S16384x1024 .f32) (R : Fin 16384) : rM P (ix2 R 0) = mean fun k => P (ix2 R k) := by
  unfold mean
  pointwise [rM]

theorem rC_apply (P : FVec Ideal S16384x1024 .f32) (R : Fin 16384) (k : Fin 1024) : rC P (ix2 R k) = cen (fun k => P (ix2 R k)) k := by
  unfold cen
  rw [← rM_apply]
  pointwise [rC]

theorem rN_apply (C : FVec Ideal S16384x1024 .f32) (R : Fin 16384) (k : Fin 1024) :
    rN Gm B C (ix2 R k) = C (ix2 R k) * Ideal.rsqrt (rM (mulf C C) (ix2 R 0) + Ideal.ofBits .f32 0x3727C5AC#32) * Gm (ix1 k) + B (ix1 k) := by
  pointwise [rN]

/-- The reference's result is that value. -/
theorem value_eq : rN Gm B (rC (rP X Y)) = value X Y Gm B := by
  funext i
  obtain ⟨R, k, rfl⟩ : ∃ (R : Fin 16384) (k : Fin 1024), i = ix2 R k := ⟨i 0, i 1, by
    funext a
    match a with
    | ⟨0, _⟩ => rfl
    | ⟨1, _⟩ => rfl⟩
  rw [rN_apply]
  have hp : (fun k => rP X Y (ix2 R k)) = sum (fun e => X (ix2 R e)) (fun e => Y (ix1 ⟨R.val * 1024 + e.val, by omega⟩)) :=
    funext fun k => rP_apply X Y R k
  have hc : ∀ k : Fin 1024, rC (rP X Y) (ix2 R k)
      = cen (sum (fun e => X (ix2 R e)) (fun e => Y (ix1 ⟨R.val * 1024 + e.val, by omega⟩))) k := fun k => by rw [rC_apply, hp]
  rw [rM_apply, hc]
  have hm : ∀ k : Fin 1024, mulf (rC (rP X Y)) (rC (rP X Y)) (ix2 R k) = rC (rP X Y) (ix2 R k) * rC (rP X Y) (ix2 R k) := fun _ => rfl
  simp only [hm, hc]
  rfl

end Cert.Proof.ResidualRef
end
-- ==== Proof.Val.Residual.lean ====
/- The last residual's and norm's call, over the extended reals. -/
module

public import proofs.«01_k».proof.Proof.Gen.Kernel5Ideal.Value
public import proofs.«01_k».proof.Proof.Val.ResidualRef
public import Idealize.ShloMosaic.Lib.Pointwise
public import Idealize.ShloMosaic.Lib.StableHlo.ReadAt

@[expose] public section

set_option maxRecDepth 16384

noncomputable section

namespace Cert.Proof.Residual

open Cert.Kernel5Ideal Cert.Kernel5Ideal.Gen Cert.Proof.Norm
open Idealize.ShloMosaic Idealize.ShloMosaic.TcCoe Idealize.ShloMosaic.Pointwise Idealize.SL.Sem
open Idealize.ShloMosaic.Pipeline (Dat)
open Cert.Proof.ResidualRef (sum)
open scoped BigOperators

/-! ### What the body leaves of its blocks -/

variable (x f : Vec Ideal S512x1024 .f32) (g b : Vec Ideal S1x1024 .f32)

/-- The rows before their norm, -/
def kP : FVec Ideal S512x1024 .f32 :=
  addf (mulf (broadcast S512x1024 (Scalar.ofBits .f32 0x3FB504F3#32)) x) (shapeCast S512x1024 f shapeCasts_S512x1024_S512x1024)

/-- their means, -/
def kM (P : FVec Ideal S512x1024 .f32) : FVec Ideal S512x1 .f32 :=
  divf (shapeCast S512x1 (multiReduction .add [1] S512 P 0x00000000#32 reduces_S512x1024_S512 (.inl rfl) rfl) shapeCasts_S512_S512x1) (broadcast S512x1 (Scalar.ofBits .f32 0x44800000#32))

/-- the rows less their means, -/
def kC (P : FVec Ideal S512x1024 .f32) : FVec Ideal S512x1024 .f32 :=
  subf P (broadcastTo S512x1024 (kM P) broadcasts_S512x1_S512x1024)

/-- and the block that the body stores. -/
def kN (C : FVec Ideal S512x1024 .f32) : FVec Ideal S512x1024 .f32 :=
  addf (mulf (mulf C (broadcastTo S512x1024 (rsqrt (addf (kM (mulf C C)) (broadcast S512x1 (Scalar.ofBits .f32 0x3727C5AC#32)))) broadcasts_S512x1_S512x1024)) (broadcastTo S512x1024 (shapeCast S1x1024 g shapeCasts_S1x1024_S1x1024) broadcasts_S1x1024_S512x1024)) (broadcastTo S512x1024 (shapeCast S1x1024 b shapeCasts_S1x1024_S1x1024) broadcasts_S1x1024_S512x1024)

theorem pay_eq : k0_pay1 (F := Ideal) x f g b = kN g b (kC (kP x f)) := rfl

theorem kP_apply (r : Fin 512) (k : Fin 1024) : kP x f (ix2 r k) = sum (fun e => x (ix2 r e)) (fun e => f (ix2 r e)) k := by
  unfold sum
  pointwise [kP]

theorem kM_apply (P : FVec Ideal S512x1024 .f32) (r : Fin 512) : kM P (ix2 r 0) = mean fun k => P (ix2 r k) := by
  unfold mean
  pointwise [kM]

theorem kC_apply (P : FVec Ideal S512x1024 .f32) (r : Fin 512) (k : Fin 1024) : kC P (ix2 r k) = cen (fun k => P (ix2 r k)) k := by
  unfold cen
  rw [← kM_apply]
  pointwise [kC]

theorem kN_apply (C : FVec Ideal S512x1024 .f32) (r : Fin 512) (k : Fin 1024) :
    kN g b C (ix2 r k) = C (ix2 r k) * Ideal.rsqrt (kM (mulf C C) (ix2 r 0) + Ideal.ofBits .f32 0x3727C5AC#32) * g (ix2 0 k) + b (ix2 0 k) := by
  pointwise [kN]

theorem out_apply (r : Fin 512) (k : Fin 1024) :
    out0_4 x f g b (ix2 r k)
      = normed (sum (fun e => x (ix2 r e)) (fun e => f (ix2 r e))) (fun e => g (ix2 0 e)) (fun e => b (ix2 0 e)) k := by
  have e : r0_0.emb (ix2 r k) = ix2 r k := by
    funext a
    apply Fin.ext
    match a with
    | ⟨0, _⟩ => show 0 + 1 * r.val = r.val; omega
    | ⟨1, _⟩ => show 0 + 1 * k.val = k.val; omega
  unfold out0_4
  refine (congrArg (View.canon _) e.symm).trans ((View.canon_cons_emb (Val := Elt Ideal) (e := .f32) r0_0 _ [] (ix2 r k)).trans ?_)
  have h0 : (![0, 0] : Fin 2 → ℕ) = fun _ => 0 := by decide
  rw [View.ld_unit_zero (S := S512x1024) h0, View.ld_unit_zero (S := S512x1024) h0,
    View.ld_unit_zero (S := S1x1024) h0, View.ld_unit_zero (S := S1x1024) h0, pay_eq, kN_apply, kM_apply]
  have hp : (fun k => kP x f (ix2 r k)) = sum (fun e => x (ix2 r e)) (fun e => f (ix2 r e)) := funext fun k => kP_apply x f r k
  have hc : ∀ k : Fin 1024, kC (kP x f) (ix2 r k) = cen (sum (fun e => x (ix2 r e)) (fun e => f (ix2 r e))) k := fun k => by
    rw [kC_apply, hp]
  have hm : ∀ k : Fin 1024, mulf (kC (kP x f)) (kC (kP x f)) (ix2 r k) = kC (kP x f) (ix2 r k) * kC (kP x f) (ix2 r k) := fun _ => rfl
  simp only [hm, hc]
  rfl

/-! ### The arrays the call is given -/

variable (m : (ℓ : Loc nD τ sig) → Buf (Elt Ideal) ℓ) (c : Dev nD)

theorem a0_apply (R : Fin 16384) (k : Fin 1024) : V m c main_arg0 (ix2 R k) = m ((c.tc : Thread nD τ).loc main_arg0) (ix2 R k) :=
  congrFun (V_main_arg0 m c) (ix2 R k)

theorem v0_apply (R : Fin 16384) (k : Fin 1024) : V m c main_v0 (ix2 R k)
    = m ((c.tc : Thread nD τ).loc main_arg1) (ix1 ⟨R.val * 1024 + k.val, by omega⟩) := by
  unfold V
  after_reads_at

theorem v1_apply (k : Fin 1024) : V m c main_v1 (ix2 0 k) = m ((c.tc : Thread nD τ).loc main_arg2) (ix1 k) := by
  unfold V
  after_reads_at

theorem v2_apply (k : Fin 1024) : V m c main_v2 (ix2 0 k) = m ((c.tc : Thread nD τ).loc main_arg3) (ix1 k) := by
  unfold V
  after_reads_at

/-! ### The blocks and the whole array -/

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 := by decide +kernel

/-- The row of a point's block. -/
def row (t : Fin cfg0.N) (r : Fin 512) : Fin 16384 := ⟨512 * t.val + r.val, by have : t.val < 32 := t.isLt.trans_eq N_0; omega⟩

/-- An index of an array with two axes is its two coordinates. -/
theorem eq_ix2 {a b : ℕ} (i : (⟨2, ![a, b]⟩ : Shape).Idx) (x : Fin a) (y : Fin b) (h0 : (i 0).val = x.val) (h1 : (i 1).val = y.val) : i = ix2 x y := by
  funext d
  apply Fin.ext
  match d with
  | ⟨0, _⟩ => exact h0
  | ⟨1, _⟩ => exact h1

theorem blk0_apply (t : Fin cfg0.N) (r : Fin 512) (k : Fin 1024) :
    (iblk m c 0 t : Vec Ideal S512x1024 .f32) (ix2 r k) = V m c main_arg0 (ix2 (row t r) k) := by
  have hi := idx0 t
  unfold iblk
  rw [View.read_apply]
  refine congrArg (V m c main_arg0) (eq_ix2 _ _ _ ?_ ?_)
  · show win0_0.index t 0 * 512 + 1 * r.val = 512 * t.val + r.val; rw [hi.1]; omega
  · show win0_0.index t 1 * 1024 + 1 * k.val = k.val; rw [hi.2]; omega

theorem blk1_apply (t : Fin cfg0.N) (r : Fin 512) (k : Fin 1024) :
    (iblk m c 1 t : Vec Ideal S512x1024 .f32) (ix2 r k) = V m c main_v0 (ix2 (row t r) k) := by
  have hi := idx1 t
  unfold iblk
  rw [View.read_apply]
  refine congrArg (V m c main_v0) (eq_ix2 _ _ _ ?_ ?_)
  · show win0_1.index t 0 * 512 + 1 * r.val = 512 * t.val + r.val; rw [hi.1]; omega
  · show win0_1.index t 1 * 1024 + 1 * k.val = k.val; rw [hi.2]; omega

theorem blk2_apply (t : Fin cfg0.N) (k : Fin 1024) :
    (iblk m c 2 t : Vec Ideal S1x1024 .f32) (ix2 0 k) = V m c main_v1 (ix2 0 k) := by
  have hi := idx2 t
  unfold iblk
  rw [View.read_apply]
  refine congrArg (V m c main_v1) (eq_ix2 _ _ _ ?_ ?_)
  · show win0_2.index t 0 * 1 + 1 * 0 = 0; rw [hi.1]
  · show win0_2.index t 1 * 1024 + 1 * k.val = k.val; rw [hi.2]; omega

theorem blk3_apply (t : Fin cfg0.N) (k : Fin 1024) :
    (iblk m c 3 t : Vec Ideal S1x1024 .f32) (ix2 0 k) = V m c main_v2 (ix2 0 k) := by
  have hi := idx3 t
  unfold iblk
  rw [View.read_apply]
  refine congrArg (V m c main_v2) (eq_ix2 _ _ _ ?_ ?_)
  · show win0_3.index t 0 * 1 + 1 * 0 = 0; rw [hi.1]
  · show win0_3.index t 1 * 1024 + 1 * k.val = k.val; rw [hi.2]; omega

/-- The value the result ends at. -/
def G : FVec Ideal S16384x1024 .f32 :=
  ResidualRef.value (m ((c.tc : Thread nD τ).loc main_arg0)) (m ((c.tc : Thread nD τ).loc main_arg1)) (m ((c.tc : Thread nD τ).loc main_arg2))
    (m ((c.tc : Thread nD τ).loc main_arg3))

/-- A normed row depends on its operands alone. -/
theorem row_congr {x x' f f' g g' b b' : Fin 1024 → EReal} (k : Fin 1024) (hx : x = x') (hf : f = f') (hg : g = g') (hb : b = b') :
    normed (sum x f) g b k = normed (sum x' f') g' b' k := by
  subst hx hf hg hb; rfl

theorem flushed_eq (t : Fin cfg0.N) :
    (dats m 0 c).flushed 4 t = ((cfg0.win 4).blk t).view.read (Elt Ideal) (G m c) := by
  have hi := idx4 t
  rw [Cert.Kernel5Ideal.Value.flushed4]
  funext (j : S512x1024.Idx)
  obtain ⟨r, k, rfl⟩ : ∃ (r : Fin 512) (k : Fin 1024), j = ix2 r k := ⟨j 0, j 1, eq_ix2 _ _ _ rfl rfl⟩
  refine Eq.trans (out_apply (iblk m c 0 t) (iblk m c 1 t) (iblk m c 2 t) (iblk m c 3 t) r k) ?_
  rw [View.read_apply]
  refine Eq.trans (b := G m c (ix2 (row t r) k)) ?_ (congrArg (G m c) (eq_ix2 _ _ _ ?_ ?_).symm)
  · refine (row_congr k (funext fun e => (blk0_apply m c t r e).trans (a0_apply m c (row t r) e))
      (funext fun e => (blk1_apply m c t r e).trans (v0_apply m c (row t r) e))
      (funext fun e => (blk2_apply m c t e).trans (v1_apply m c e))
      (funext fun e => (blk3_apply m c t e).trans (v2_apply m c e))).trans ?_
    rfl
  · show win0_4.index t 0 * 512 + 1 * r.val = 512 * t.val + r.val; rw [hi.1]; omega
  · show win0_4.index t 1 * 1024 + 1 * k.val = k.val; rw [hi.2]; omega

theorem final : (dats m 0 c).arrAt 4 cfg0.N = G m c :=
  (dats m 0 c).arrAt_eq_of_cover 4 (G m c) (fun t _ => flushed_eq m c t) fun (i : S16384x1024.Idx) => by
    have hN : cfg0.N = 32 := N_0
    have h0 : (i 0).val < 16384 := (i 0).isLt
    have h1 : (i 1).val < 1024 := (i 1).isLt
    let t : Fin cfg0.N := ⟨(i 0).val / 512, by omega⟩
    have hi := idx4 t
    have ht : t.val = (i 0).val / 512 := rfl
    refine ⟨t, flush0_4 t, ?_⟩
    show i ∈ ((View.whole main_v3).slice (win0_4.rect t)).set
    rw [View.set_slice_whole, Rect.mem_set_unit]
    intro a
    match a with
    | ⟨0, _⟩ =>
      show win0_4.index t 0 * 512 ≤ (i 0).val ∧ (i 0).val < win0_4.index t 0 * 512 + 512
      rw [hi.1]; omega
    | ⟨1, _⟩ =>
      show win0_4.index t 1 * 1024 ≤ (i 1).val ∧ (i 1).val < win0_4.index t 1 * 1024 + 1024
      rw [hi.2]; omega

end Cert.Proof.Residual
end
-- ==== Proof.lean ====
/- The certificate: the frames, the named constant, and the values of the five calls' results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.KI.Frame
public import proofs.«01_k».proof.Proof.KB.Frame
public import proofs.«01_k».proof.Proof.Val.Final
public import proofs.«01_k».proof.Proof.Val.Pre
public import proofs.«01_k».proof.Proof.Val.InProj
public import proofs.«01_k».proof.Proof.Val.OutLn
public import proofs.«01_k».proof.Proof.Val.LocalMix
public import proofs.«01_k».proof.Proof.Val.LocalRef
public import proofs.«01_k».proof.Proof.Val.PreP
public import proofs.«01_k».proof.Proof.Val.Residual
public import Idealize.ShloMosaic.Adequacy
public import Idealize.ShloMosaic.Init

@[expose] public section

noncomputable section

namespace Cert.Proof

open Idealize.ShloMosaic Idealize.SL.Sem

/-- The reference's run leaves its argument as it was, and it has no semaphore. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The loop's threshold, named, is minus infinity. -/
theorem preserves : Cert.preserves_Kernel_KernelIdeal :=
  IdealRules.named_const.statement Cert.KernelIdeal.κ "underflow" .f32 0xC2C80000#32 ⊥ rfl

/-- Both runs end with the result at the reference's value. -/
theorem algebraic : Cert.algebraic_KernelIdeal_ReferenceIdeal_pre_finite_qk (hPre_finite_qk := Pre.facts) := fun m ρ m' ρ' hpre hm =>
  ⟨Final.G m, Final.run m ρ (fun c => Pre.real (hf := Pre.facts) _ (hpre c)),
    (θ_run Cert.ReferenceIdeal.defs _ _).mono
      (fun r h c => ⟨(h c).1.trans ((Ref.res_eq m' c).trans (by unfold Final.G Final.X; rw [hm c])), (h c).2⟩)
      (Cert.ReferenceIdeal.Value.run (F := Ideal) m' ρ')⟩

theorem frame_ri2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The input projection. -/
theorem algebraic2 : Cert.algebraic_Kernel2Ideal_Reference2Ideal := fun m ρ m' ρ' _ hm =>
  ⟨InProj.G m,
    (θ_run Cert.Kernel2Ideal.defs _ _).mono (fun r h c => ⟨(h c).1.trans (InProj.final m c), (h c).2⟩)
      (Cert.Kernel2Ideal.Value.run_blocks (F := Ideal) m ρ),
    (θ_run Cert.Reference2Ideal.defs _ _).mono
      (fun r h c => ⟨(h c).1.trans ((InProj.ref_eq _ _).trans (by unfold InProj.G; rw [(hm c).1, (hm c).2])), (h c).2⟩)
      (Cert.Reference2Ideal.Value.run (F := Ideal) m' ρ')⟩

theorem frame_ri3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The output projection, its residual and its norm. -/
theorem algebraic3 : Cert.algebraic_Kernel3Ideal_Reference3Ideal := fun m ρ m' ρ' _ hm =>
  ⟨OutLn.G m,
    (θ_run Cert.Kernel3Ideal.defs _ _).mono (fun r h c => ⟨(h c).1.trans (OutLn.final m c), (h c).2⟩)
      (Cert.Kernel3Ideal.Value.run_blocks (F := Ideal) m ρ),
    (θ_run Cert.Reference3Ideal.defs _ _).mono
      (fun r h c => ⟨(h c).1.trans ((OutRef.res_eq m' c).trans ((OutRef.value_eq _ _ _ _ _ _).trans (by
        obtain ⟨h0, h1, h2, h3, h4, h5⟩ := hm c
        unfold OutLn.G
        rw [h0, h1, h2, h3, h4, h5]))), (h c).2⟩)
      (Cert.Reference3Ideal.Value.run (F := Ideal) m' ρ')⟩

theorem frame_ri4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The local mixers. -/
theorem algebraic4 : Cert.algebraic_Kernel4Ideal_Reference4Ideal_pre_finite_p (hPre_finite_p := PreP.facts) := fun m ρ m' ρ' hpre hm =>
  ⟨LocalMix.G m,
    (θ_run Cert.Kernel4Ideal.defs _ _).mono (fun r h c => ⟨(h c).1.trans (LocalMix.final m c), (h c).2⟩)
      (Cert.Kernel4Ideal.Value.run_blocks (F := Ideal) m ρ),
    (θ_run Cert.Reference4Ideal.defs _ _).mono
      (fun r h c => by
        obtain ⟨h0, h1, h2, h3, h4, h5, h6, h7⟩ := hm c
        refine ⟨(h c).1.trans ((LocalRef.value_eq _ fun b s k => ?_).trans ?_), (h c).2⟩
        · obtain ⟨x, hx⟩ := PreP.real (hf := PreP.facts) _ _ _ _ _ _ _ _ (hpre c) b s k
          exact ⟨x, (congrFun h0 _).trans hx⟩
        · unfold LocalMix.G
          rw [← h0, ← h1, ← h2, ← h3, ← h4, ← h5, ← h6, ← h7])
      (Cert.Reference4Ideal.Value.run (F := Ideal) m' ρ')⟩

theorem frame_ri5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The residual and the norm after the experts. -/
theorem algebraic5 : Cert.algebraic_Kernel5Ideal_Reference5Ideal := fun m ρ m' ρ' _ hm =>
  ⟨Residual.G m,
    (θ_run Cert.Kernel5Ideal.defs _ _).mono (fun r h c => ⟨(h c).1.trans (Residual.final m c), (h c).2⟩)
      (Cert.Kernel5Ideal.Value.run_blocks (F := Ideal) m ρ),
    (θ_run Cert.Reference5Ideal.defs _ _).mono
      (fun r h c => ⟨(h c).1.trans ((ResidualRef.value_eq (m' (c.tc.loc Cert.Reference5Ideal.main_arg0)) (m' (c.tc.loc Cert.Reference5Ideal.main_arg1))
          (m' (c.tc.loc Cert.Reference5Ideal.main_arg2)) (m' (c.tc.loc Cert.Reference5Ideal.main_arg3))).trans (by
        obtain ⟨h0, h1, h2, h3⟩ := hm c
        unfold Residual.G
        rw [h0, h1, h2, h3])), (h c).2⟩)
      (Cert.Reference5Ideal.Value.run (F := Ideal) m' ρ')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Pre.facts, PreP.facts,
    fun m ρ _ => Cert.Proof.KB.frame m ρ, fun m ρ _ => Cert.Proof.KI.frame m ρ, fun m ρ _ => Cert.Proof.KI.frame m ρ,
    frame_ri, fun m ρ _ => frame_ri m ρ trivial,
    fun m ρ _ => Cert.Kernel2.Gen.frame m ρ, fun m ρ _ => Cert.Kernel2Ideal.Gen.frame m ρ, frame_ri2,
    fun m ρ _ => Cert.Kernel3.Gen.frame m ρ, fun m ρ _ => Cert.Kernel3Ideal.Gen.frame m ρ, frame_ri3,
    fun m ρ _ => Cert.Kernel4.Gen.frame m ρ, fun m ρ _ => Cert.Kernel4Ideal.Gen.frame m ρ, fun m ρ _ => Cert.Kernel4Ideal.Gen.frame m ρ,
    frame_ri4, fun m ρ _ => frame_ri4 m ρ trivial,
    fun m ρ _ => Cert.Kernel5.Gen.frame m ρ, fun m ρ _ => Cert.Kernel5Ideal.Gen.frame m ρ, frame_ri5,
    preserves, algebraic, trivial, algebraic2, trivial, algebraic3, trivial, algebraic4, trivial, algebraic5⟩

end Cert.Proof

end
